-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512x4 : Shape := ⟨3, ![4096, 512, 4]⟩
abbrev S8388608 : Shape := ⟨1, ![8388608]⟩
abbrev S_ : Shape := ⟨0, ![]⟩
abbrev S32768 : Shape := ⟨1, ![32768]⟩
abbrev S33554432 : Shape := ⟨1, ![33554432]⟩
abbrev S8192 : Shape := ⟨1, ![8192]⟩
abbrev S16 : Shape := ⟨1, ![16]⟩
abbrev S4096x512x16 : Shape := ⟨3, ![4096, 512, 16]⟩

abbrev nBuf : Table → Nat
  | .hbm => 6
  | .local .scVector .vmem => 4
  | _ => 0

abbrev bufTy : (tb : Table) → Fin (nBuf tb) → BufTy
  | .hbm, ⟨0, _⟩ => ⟨S4096x512x4, .f32⟩
  | .hbm, ⟨1, _⟩ => ⟨S8388608, .f32⟩
  | .hbm, ⟨2, _⟩ => ⟨S_, .f32⟩
  | .hbm, ⟨3, _⟩ => ⟨S32768, .f32⟩
  | .hbm, ⟨4, _⟩ => ⟨S33554432, .f32⟩
  | .hbm, ⟨5, _⟩ => ⟨S4096x512x16, .f32⟩
  | .local .scVector .vmem, ⟨0, _⟩ => ⟨S8192, .f32⟩
  | .local .scVector .vmem, ⟨1, _⟩ => ⟨S8192, .f32⟩
  | .local .scVector .vmem, ⟨2, _⟩ => ⟨S32768, .f32⟩
  | .local .scVector .vmem, ⟨3, _⟩ => ⟨S32768, .f32⟩
  | _, _ => ⟨S4096x512x4, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 1, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c4_i32_0 : BitVec 32 := 4#32
  let v12 : BitVec 32 := Scalar.muli v2 c4_i32_0
  ![v12.toNat]
def k0_off2 (i : grid0.Coords) (c2048_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let v15 : BitVec 32 := Scalar.addi v2 c2048_i32
  let c4_i32_1 : BitVec 32 := 4#32
  let v16 : BitVec 32 := Scalar.muli v15 c4_i32_1
  ![v16.toNat]
@[reducible] def k0_t1_loop : Scf.Loop 32 :=
  let c0_i32_2 : BitVec 32 := 0#32
  let c64_i32 : BitVec 32 := 64#32
  let v21 : BitVec 32 := Scalar.addi c0_i32_2 c64_i32
  let c1_i32_3 : BitVec 32 := 1#32
  ⟨c0_i32_2, v21, c1_i32_3⟩
def k0_off3 (k0_t1 : Fin k0_t1_loop.trips) : Fin 1 → Nat :=
  let c0_i32_2 : BitVec 32 := 0#32
  let c1_i32_3 : BitVec 32 := 1#32
  let arg15 : BitVec 32 := Scf.iv c0_i32_2 c1_i32_3 k0_t1
  let c128_i32 : BitVec 32 := 128#32
  let v427 : BitVec 32 := Scalar.muli arg15 c128_i32
  let c0_i32_253 : BitVec 32 := 0#32
  let v428 : BitVec 32 := Scalar.addi v427 c0_i32_253
  let v429 : Index := Scalar.indexCast v428
  ![v429.toNat]

def k0_chk1 (v434 : IVec S16 32) : Prop :=
  (∀ a x, ((![v434] : Fin 1 → IVec S16 32) a x).toNat < S32768.size a)
theorem k0_idx1_inb : ∀ (v434 : IVec S16 32) (k0_hw1 : k0_chk1 v434), ∀ a x, ((![v434] : Fin 1 → IVec S16 32) a x).toNat < S32768.size a := fun v434 k0_hw1 => k0_hw1
def k0_off4 (k0_t1 : Fin k0_t1_loop.trips) : Fin 1 → Nat :=
  let c0_i32_2 : BitVec 32 := 0#32
  let c1_i32_3 : BitVec 32 := 1#32
  let arg15 : BitVec 32 := Scf.iv c0_i32_2 c1_i32_3 k0_t1
  let c128_i32 : BitVec 32 := 128#32
  let v427 : BitVec 32 := Scalar.muli arg15 c128_i32
  let c16_i32_256 : BitVec 32 := 16#32
  let v435 : BitVec 32 := Scalar.addi v427 c16_i32_256
  let v436 : Index := Scalar.indexCast v435
  ![v436.toNat]

def k0_chk2 (v441 : IVec S16 32) : Prop :=
  (∀ a x, ((![v441] : Fin 1 → IVec S16 32) a x).toNat < S32768.size a)
theorem k0_idx2_inb : ∀ (v441 : IVec S16 32) (k0_hw2 : k0_chk2 v441), ∀ a x, ((![v441] : Fin 1 → IVec S16 32) a x).toNat < S32768.size a := fun v441 k0_hw2 => k0_hw2
def k0_off5 (k0_t1 : Fin k0_t1_loop.trips) : Fin 1 → Nat :=
  let c0_i32_2 : BitVec 32 := 0#32
  let c1_i32_3 : BitVec 32 := 1#32
  let arg15 : BitVec 32 := Scf.iv c0_i32_2 c1_i32_3 k0_t1
  let c128_i32 : BitVec 32 := 128#32
  let v427 : BitVec 32 := Scalar.muli arg15 c128_i32
  let c32_i32 : BitVec 32 := 32#32
  let v442 : BitVec 32 := Scalar.addi v427 c32_i32
  let v443 : Index := Scalar.indexCast v442
  ![v443.toNat]

def k0_chk3 (v448 : IVec S16 32) : Prop :=
  (∀ a x, ((![v448] : Fin 1 → IVec S16 32) a x).toNat < S32768.size a)
theorem k0_idx3_inb : ∀ (v448 : IVec S16 32) (k0_hw3 : k0_chk3 v448), ∀ a x, ((![v448] : Fin 1 → IVec S16 32) a x).toNat < S32768.size a := fun v448 k0_hw3 => k0_hw3
def k0_off6 (k0_t1 : Fin k0_t1_loop.trips) : Fin 1 → Nat :=
  let c0_i32_2 : BitVec 32 := 0#32
  let c1_i32_3 : BitVec 32 := 1#32
  let arg15 : BitVec 32 := Scf.iv c0_i32_2 c1_i32_3 k0_t1
  let c128_i32 : BitVec 32 := 128#32
  let v427 : BitVec 32 := Scalar.muli arg15 c128_i32
  let c48_i32 : BitVec 32 := 48#32
  let v449 : BitVec 32 := Scalar.addi v427 c48_i32
  let v450 : Index := Scalar.indexCast v449
  ![v450.toNat]

def k0_chk4 (v455 : IVec S16 32) : Prop :=
  (∀ a x, ((![v455] : Fin 1 → IVec S16 32) a x).toNat < S32768.size a)
theorem k0_idx4_inb : ∀ (v455 : IVec S16 32) (k0_hw4 : k0_chk4 v455), ∀ a x, ((![v455] : Fin 1 → IVec S16 32) a x).toNat < S32768.size a := fun v455 k0_hw4 => k0_hw4
def k0_off7 (k0_t1 : Fin k0_t1_loop.trips) : Fin 1 → Nat :=
  let c0_i32_2 : BitVec 32 := 0#32
  let c1_i32_3 : BitVec 32 := 1#32
  let arg15 : BitVec 32 := Scf.iv c0_i32_2 c1_i32_3 k0_t1
  let c128_i32 : BitVec 32 := 128#32
  let v427 : BitVec 32 := Scalar.muli arg15 c128_i32
  let c64_i32_263 : BitVec 32 := 64#32
  let v456 : BitVec 32 := Scalar.addi v427 c64_i32_263
  let v457 : Index := Scalar.indexCast v456
  ![v457.toNat]

def k0_chk5 (v462 : IVec S16 32) : Prop :=
  (∀ a x, ((![v462] : Fin 1 → IVec S16 32) a x).toNat < S32768.size a)
theorem k0_idx5_inb : ∀ (v462 : IVec S16 32) (k0_hw5 : k0_chk5 v462), ∀ a x, ((![v462] : Fin 1 → IVec S16 32) a x).toNat < S32768.size a := fun v462 k0_hw5 => k0_hw5
def k0_off8 (k0_t1 : Fin k0_t1_loop.trips) : Fin 1 → Nat :=
  let c0_i32_2 : BitVec 32 := 0#32
  let c1_i32_3 : BitVec 32 := 1#32
  let arg15 : BitVec 32 := Scf.iv c0_i32_2 c1_i32_3 k0_t1
  let c128_i32 : BitVec 32 := 128#32
  let v427 : BitVec 32 := Scalar.muli arg15 c128_i32
  let c80_i32 : BitVec 32 := 80#32
  let v463 : BitVec 32 := Scalar.addi v427 c80_i32
  let v464 : Index := Scalar.indexCast v463
  ![v464.toNat]

def k0_chk6 (v469 : IVec S16 32) : Prop :=
  (∀ a x, ((![v469] : Fin 1 → IVec S16 32) a x).toNat < S32768.size a)
theorem k0_idx6_inb : ∀ (v469 : IVec S16 32) (k0_hw6 : k0_chk6 v469), ∀ a x, ((![v469] : Fin 1 → IVec S16 32) a x).toNat < S32768.size a := fun v469 k0_hw6 => k0_hw6
def k0_off9 (k0_t1 : Fin k0_t1_loop.trips) : Fin 1 → Nat :=
  let c0_i32_2 : BitVec 32 := 0#32
  let c1_i32_3 : BitVec 32 := 1#32
  let arg15 : BitVec 32 := Scf.iv c0_i32_2 c1_i32_3 k0_t1
  let c128_i32 : BitVec 32 := 128#32
  let v427 : BitVec 32 := Scalar.muli arg15 c128_i32
  let c96_i32 : BitVec 32 := 96#32
  let v470 : BitVec 32 := Scalar.addi v427 c96_i32
  let v471 : Index := Scalar.indexCast v470
  ![v471.toNat]

def k0_chk7 (v476 : IVec S16 32) : Prop :=
  (∀ a x, ((![v476] : Fin 1 → IVec S16 32) a x).toNat < S32768.size a)
theorem k0_idx7_inb : ∀ (v476 : IVec S16 32) (k0_hw7 : k0_chk7 v476), ∀ a x, ((![v476] : Fin 1 → IVec S16 32) a x).toNat < S32768.size a := fun v476 k0_hw7 => k0_hw7
def k0_off10 (k0_t1 : Fin k0_t1_loop.trips) : Fin 1 → Nat :=
  let c0_i32_2 : BitVec 32 := 0#32
  let c1_i32_3 : BitVec 32 := 1#32
  let arg15 : BitVec 32 := Scf.iv c0_i32_2 c1_i32_3 k0_t1
  let c128_i32 : BitVec 32 := 128#32
  let v427 : BitVec 32 := Scalar.muli arg15 c128_i32
  let c112_i32 : BitVec 32 := 112#32
  let v477 : BitVec 32 := Scalar.addi v427 c112_i32
  let v478 : Index := Scalar.indexCast v477
  ![v478.toNat]

def k0_chk8 (v483 : IVec S16 32) : Prop :=
  (∀ a x, ((![v483] : Fin 1 → IVec S16 32) a x).toNat < S32768.size a)
theorem k0_idx8_inb : ∀ (v483 : IVec S16 32) (k0_hw8 : k0_chk8 v483), ∀ a x, ((![v483] : Fin 1 → IVec S16 32) a x).toNat < S32768.size a := fun v483 k0_hw8 => k0_hw8
def k0_off11 (i : grid0.Coords) (c0_i32_5 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let v22 : BitVec 32 := Scalar.addi v2 c0_i32_5
  let c16_i32 : BitVec 32 := 16#32
  let v23 : BitVec 32 := Scalar.muli v22 c16_i32
  ![v23.toNat]
@[reducible] def k0_t2_loop : Scf.Loop 32 :=
  let c0_i32_8 : BitVec 32 := 0#32
  let c64_i32_9 : BitVec 32 := 64#32
  let v32 : BitVec 32 := Scalar.addi c0_i32_8 c64_i32_9
  let c1_i32_10 : BitVec 32 := 1#32
  ⟨c0_i32_8, v32, c1_i32_10⟩
def k0_off12 (k0_t2 : Fin k0_t2_loop.trips) : Fin 1 → Nat :=
  let c0_i32_8 : BitVec 32 := 0#32
  let c1_i32_10 : BitVec 32 := 1#32
  let arg15 : BitVec 32 := Scf.iv c0_i32_8 c1_i32_10 k0_t2
  let c128_i32 : BitVec 32 := 128#32
  let v427 : BitVec 32 := Scalar.muli arg15 c128_i32
  let c0_i32_253 : BitVec 32 := 0#32
  let v428 : BitVec 32 := Scalar.addi v427 c0_i32_253
  let v429 : Index := Scalar.indexCast v428
  ![v429.toNat]

def k0_chk9 (v434 : IVec S16 32) : Prop :=
  (∀ a x, ((![v434] : Fin 1 → IVec S16 32) a x).toNat < S32768.size a)
theorem k0_idx9_inb : ∀ (v434 : IVec S16 32) (k0_hw9 : k0_chk9 v434), ∀ a x, ((![v434] : Fin 1 → IVec S16 32) a x).toNat < S32768.size a := fun v434 k0_hw9 => k0_hw9
def k0_off13 (k0_t2 : Fin k0_t2_loop.trips) : Fin 1 → Nat :=
  let c0_i32_8 : BitVec 32 := 0#32
  let c1_i32_10 : BitVec 32 := 1#32
  let arg15 : BitVec 32 := Scf.iv c0_i32_8 c1_i32_10 k0_t2
  let c128_i32 : BitVec 32 := 128#32
  let v427 : BitVec 32 := Scalar.muli arg15 c128_i32
  let c16_i32_256 : BitVec 32 := 16#32
  let v435 : BitVec 32 := Scalar.addi v427 c16_i32_256
  let v436 : Index := Scalar.indexCast v435
  ![v436.toNat]

def k0_chk10 (v441 : IVec S16 32) : Prop :=
  (∀ a x, ((![v441] : Fin 1 → IVec S16 32) a x).toNat < S32768.size a)
theorem k0_idx10_inb : ∀ (v441 : IVec S16 32) (k0_hw10 : k0_chk10 v441), ∀ a x, ((![v441] : Fin 1 → IVec S16 32) a x).toNat < S32768.size a := fun v441 k0_hw10 => k0_hw10
def k0_off14 (k0_t2 : Fin k0_t2_loop.trips) : Fin 1 → Nat :=
  let c0_i32_8 : BitVec 32 := 0#32
  let c1_i32_10 : BitVec 32 := 1#32
  let arg15 : BitVec 32 := Scf.iv c0_i32_8 c1_i32_10 k0_t2
  let c128_i32 : BitVec 32 := 128#32
  let v427 : BitVec 32 := Scalar.muli arg15 c128_i32
  let c32_i32 : BitVec 32 := 32#32
  let v442 : BitVec 32 := Scalar.addi v427 c32_i32
  let v443 : Index := Scalar.indexCast v442
  ![v443.toNat]

def k0_chk11 (v448 : IVec S16 32) : Prop :=
  (∀ a x, ((![v448] : Fin 1 → IVec S16 32) a x).toNat < S32768.size a)
theorem k0_idx11_inb : ∀ (v448 : IVec S16 32) (k0_hw11 : k0_chk11 v448), ∀ a x, ((![v448] : Fin 1 → IVec S16 32) a x).toNat < S32768.size a := fun v448 k0_hw11 => k0_hw11
def k0_off15 (k0_t2 : Fin k0_t2_loop.trips) : Fin 1 → Nat :=
  let c0_i32_8 : BitVec 32 := 0#32
  let c1_i32_10 : BitVec 32 := 1#32
  let arg15 : BitVec 32 := Scf.iv c0_i32_8 c1_i32_10 k0_t2
  let c128_i32 : BitVec 32 := 128#32
  let v427 : BitVec 32 := Scalar.muli arg15 c128_i32
  let c48_i32 : BitVec 32 := 48#32
  let v449 : BitVec 32 := Scalar.addi v427 c48_i32
  let v450 : Index := Scalar.indexCast v449
  ![v450.toNat]

def k0_chk12 (v455 : IVec S16 32) : Prop :=
  (∀ a x, ((![v455] : Fin 1 → IVec S16 32) a x).toNat < S32768.size a)
theorem k0_idx12_inb : ∀ (v455 : IVec S16 32) (k0_hw12 : k0_chk12 v455), ∀ a x, ((![v455] : Fin 1 → IVec S16 32) a x).toNat < S32768.size a := fun v455 k0_hw12 => k0_hw12
def k0_off16 (k0_t2 : Fin k0_t2_loop.trips) : Fin 1 → Nat :=
  let c0_i32_8 : BitVec 32 := 0#32
  let c1_i32_10 : BitVec 32 := 1#32
  let arg15 : BitVec 32 := Scf.iv c0_i32_8 c1_i32_10 k0_t2
  let c128_i32 : BitVec 32 := 128#32
  let v427 : BitVec 32 := Scalar.muli arg15 c128_i32
  let c64_i32_263 : BitVec 32 := 64#32
  let v456 : BitVec 32 := Scalar.addi v427 c64_i32_263
  let v457 : Index := Scalar.indexCast v456
  ![v457.toNat]

def k0_chk13 (v462 : IVec S16 32) : Prop :=
  (∀ a x, ((![v462] : Fin 1 → IVec S16 32) a x).toNat < S32768.size a)
theorem k0_idx13_inb : ∀ (v462 : IVec S16 32) (k0_hw13 : k0_chk13 v462), ∀ a x, ((![v462] : Fin 1 → IVec S16 32) a x).toNat < S32768.size a := fun v462 k0_hw13 => k0_hw13
def k0_off17 (k0_t2 : Fin k0_t2_loop.trips) : Fin 1 → Nat :=
  let c0_i32_8 : BitVec 32 := 0#32
  let c1_i32_10 : BitVec 32 := 1#32
  let arg15 : BitVec 32 := Scf.iv c0_i32_8 c1_i32_10 k0_t2
  let c128_i32 : BitVec 32 := 128#32
  let v427 : BitVec 32 := Scalar.muli arg15 c128_i32
  let c80_i32 : BitVec 32 := 80#32
  let v463 : BitVec 32 := Scalar.addi v427 c80_i32
  let v464 : Index := Scalar.indexCast v463
  ![v464.toNat]

def k0_chk14 (v469 : IVec S16 32) : Prop :=
  (∀ a x, ((![v469] : Fin 1 → IVec S16 32) a x).toNat < S32768.size a)
theorem k0_idx14_inb : ∀ (v469 : IVec S16 32) (k0_hw14 : k0_chk14 v469), ∀ a x, ((![v469] : Fin 1 → IVec S16 32) a x).toNat < S32768.size a := fun v469 k0_hw14 => k0_hw14
def k0_off18 (k0_t2 : Fin k0_t2_loop.trips) : Fin 1 → Nat :=
  let c0_i32_8 : BitVec 32 := 0#32
  let c1_i32_10 : BitVec 32 := 1#32
  let arg15 : BitVec 32 := Scf.iv c0_i32_8 c1_i32_10 k0_t2
  let c128_i32 : BitVec 32 := 128#32
  let v427 : BitVec 32 := Scalar.muli arg15 c128_i32
  let c96_i32 : BitVec 32 := 96#32
  let v470 : BitVec 32 := Scalar.addi v427 c96_i32
  let v471 : Index := Scalar.indexCast v470
  ![v471.toNat]

def k0_chk15 (v476 : IVec S16 32) : Prop :=
  (∀ a x, ((![v476] : Fin 1 → IVec S16 32) a x).toNat < S32768.size a)
theorem k0_idx15_inb : ∀ (v476 : IVec S16 32) (k0_hw15 : k0_chk15 v476), ∀ a x, ((![v476] : Fin 1 → IVec S16 32) a x).toNat < S32768.size a := fun v476 k0_hw15 => k0_hw15
def k0_off19 (k0_t2 : Fin k0_t2_loop.trips) : Fin 1 → Nat :=
  let c0_i32_8 : BitVec 32 := 0#32
  let c1_i32_10 : BitVec 32 := 1#32
  let arg15 : BitVec 32 := Scf.iv c0_i32_8 c1_i32_10 k0_t2
  let c128_i32 : BitVec 32 := 128#32
  let v427 : BitVec 32 := Scalar.muli arg15 c128_i32
  let c112_i32 : BitVec 32 := 112#32
  let v477 : BitVec 32 := Scalar.addi v427 c112_i32
  let v478 : Index := Scalar.indexCast v477
  ![v478.toNat]

def k0_chk16 (v483 : IVec S16 32) : Prop :=
  (∀ a x, ((![v483] : Fin 1 → IVec S16 32) a x).toNat < S32768.size a)
theorem k0_idx16_inb : ∀ (v483 : IVec S16 32) (k0_hw16 : k0_chk16 v483), ∀ a x, ((![v483] : Fin 1 → IVec S16 32) a x).toNat < S32768.size a := fun v483 k0_hw16 => k0_hw16
@[reducible] def k0_t3_loop : Scf.Loop 32 :=
  let c0_i32_16 : BitVec 32 := 0#32
  let c64_i32_17 : BitVec 32 := 64#32
  let v45 : BitVec 32 := Scalar.addi c0_i32_16 c64_i32_17
  let c1_i32_18 : BitVec 32 := 1#32
  ⟨c0_i32_16, v45, c1_i32_18⟩
def k0_off20 (k0_t3 : Fin k0_t3_loop.trips) : Fin 1 → Nat :=
  let c0_i32_16 : BitVec 32 := 0#32
  let c1_i32_18 : BitVec 32 := 1#32
  let arg15 : BitVec 32 := Scf.iv c0_i32_16 c1_i32_18 k0_t3
  let c128_i32 : BitVec 32 := 128#32
  let v427 : BitVec 32 := Scalar.muli arg15 c128_i32
  let c0_i32_253 : BitVec 32 := 0#32
  let v428 : BitVec 32 := Scalar.addi v427 c0_i32_253
  let v429 : Index := Scalar.indexCast v428
  ![v429.toNat]

def k0_chk17 (v434 : IVec S16 32) : Prop :=
  (∀ a x, ((![v434] : Fin 1 → IVec S16 32) a x).toNat < S32768.size a)
theorem k0_idx17_inb : ∀ (v434 : IVec S16 32) (k0_hw17 : k0_chk17 v434), ∀ a x, ((![v434] : Fin 1 → IVec S16 32) a x).toNat < S32768.size a := fun v434 k0_hw17 => k0_hw17
def k0_off21 (k0_t3 : Fin k0_t3_loop.trips) : Fin 1 → Nat :=
  let c0_i32_16 : BitVec 32 := 0#32
  let c1_i32_18 : BitVec 32 := 1#32
  let arg15 : BitVec 32 := Scf.iv c0_i32_16 c1_i32_18 k0_t3
  let c128_i32 : BitVec 32 := 128#32
  let v427 : BitVec 32 := Scalar.muli arg15 c128_i32
  let c16_i32_256 : BitVec 32 := 16#32
  let v435 : BitVec 32 := Scalar.addi v427 c16_i32_256
  let v436 : Index := Scalar.indexCast v435
  ![v436.toNat]

def k0_chk18 (v441 : IVec S16 32) : Prop :=
  (∀ a x, ((![v441] : Fin 1 → IVec S16 32) a x).toNat < S32768.size a)
theorem k0_idx18_inb : ∀ (v441 : IVec S16 32) (k0_hw18 : k0_chk18 v441), ∀ a x, ((![v441] : Fin 1 → IVec S16 32) a x).toNat < S32768.size a := fun v441 k0_hw18 => k0_hw18
def k0_off22 (k0_t3 : Fin k0_t3_loop.trips) : Fin 1 → Nat :=
  let c0_i32_16 : BitVec 32 := 0#32
  let c1_i32_18 : BitVec 32 := 1#32
  let arg15 : BitVec 32 := Scf.iv c0_i32_16 c1_i32_18 k0_t3
  let c128_i32 : BitVec 32 := 128#32
  let v427 : BitVec 32 := Scalar.muli arg15 c128_i32
  let c32_i32 : BitVec 32 := 32#32
  let v442 : BitVec 32 := Scalar.addi v427 c32_i32
  let v443 : Index := Scalar.indexCast v442
  ![v443.toNat]

def k0_chk19 (v448 : IVec S16 32) : Prop :=
  (∀ a x, ((![v448] : Fin 1 → IVec S16 32) a x).toNat < S32768.size a)
theorem k0_idx19_inb : ∀ (v448 : IVec S16 32) (k0_hw19 : k0_chk19 v448), ∀ a x, ((![v448] : Fin 1 → IVec S16 32) a x).toNat < S32768.size a := fun v448 k0_hw19 => k0_hw19
def k0_off23 (k0_t3 : Fin k0_t3_loop.trips) : Fin 1 → Nat :=
  let c0_i32_16 : BitVec 32 := 0#32
  let c1_i32_18 : BitVec 32 := 1#32
  let arg15 : BitVec 32 := Scf.iv c0_i32_16 c1_i32_18 k0_t3
  let c128_i32 : BitVec 32 := 128#32
  let v427 : BitVec 32 := Scalar.muli arg15 c128_i32
  let c48_i32 : BitVec 32 := 48#32
  let v449 : BitVec 32 := Scalar.addi v427 c48_i32
  let v450 : Index := Scalar.indexCast v449
  ![v450.toNat]

def k0_chk20 (v455 : IVec S16 32) : Prop :=
  (∀ a x, ((![v455] : Fin 1 → IVec S16 32) a x).toNat < S32768.size a)
theorem k0_idx20_inb : ∀ (v455 : IVec S16 32) (k0_hw20 : k0_chk20 v455), ∀ a x, ((![v455] : Fin 1 → IVec S16 32) a x).toNat < S32768.size a := fun v455 k0_hw20 => k0_hw20
def k0_off24 (k0_t3 : Fin k0_t3_loop.trips) : Fin 1 → Nat :=
  let c0_i32_16 : BitVec 32 := 0#32
  let c1_i32_18 : BitVec 32 := 1#32
  let arg15 : BitVec 32 := Scf.iv c0_i32_16 c1_i32_18 k0_t3
  let c128_i32 : BitVec 32 := 128#32
  let v427 : BitVec 32 := Scalar.muli arg15 c128_i32
  let c64_i32_263 : BitVec 32 := 64#32
  let v456 : BitVec 32 := Scalar.addi v427 c64_i32_263
  let v457 : Index := Scalar.indexCast v456
  ![v457.toNat]

def k0_chk21 (v462 : IVec S16 32) : Prop :=
  (∀ a x, ((![v462] : Fin 1 → IVec S16 32) a x).toNat < S32768.size a)
theorem k0_idx21_inb : ∀ (v462 : IVec S16 32) (k0_hw21 : k0_chk21 v462), ∀ a x, ((![v462] : Fin 1 → IVec S16 32) a x).toNat < S32768.size a := fun v462 k0_hw21 => k0_hw21
def k0_off25 (k0_t3 : Fin k0_t3_loop.trips) : Fin 1 → Nat :=
  let c0_i32_16 : BitVec 32 := 0#32
  let c1_i32_18 : BitVec 32 := 1#32
  let arg15 : BitVec 32 := Scf.iv c0_i32_16 c1_i32_18 k0_t3
  let c128_i32 : BitVec 32 := 128#32
  let v427 : BitVec 32 := Scalar.muli arg15 c128_i32
  let c80_i32 : BitVec 32 := 80#32
  let v463 : BitVec 32 := Scalar.addi v427 c80_i32
  let v464 : Index := Scalar.indexCast v463
  ![v464.toNat]

def k0_chk22 (v469 : IVec S16 32) : Prop :=
  (∀ a x, ((![v469] : Fin 1 → IVec S16 32) a x).toNat < S32768.size a)
theorem k0_idx22_inb : ∀ (v469 : IVec S16 32) (k0_hw22 : k0_chk22 v469), ∀ a x, ((![v469] : Fin 1 → IVec S16 32) a x).toNat < S32768.size a := fun v469 k0_hw22 => k0_hw22
def k0_off26 (k0_t3 : Fin k0_t3_loop.trips) : Fin 1 → Nat :=
  let c0_i32_16 : BitVec 32 := 0#32
  let c1_i32_18 : BitVec 32 := 1#32
  let arg15 : BitVec 32 := Scf.iv c0_i32_16 c1_i32_18 k0_t3
  let c128_i32 : BitVec 32 := 128#32
  let v427 : BitVec 32 := Scalar.muli arg15 c128_i32
  let c96_i32 : BitVec 32 := 96#32
  let v470 : BitVec 32 := Scalar.addi v427 c96_i32
  let v471 : Index := Scalar.indexCast v470
  ![v471.toNat]

def k0_chk23 (v476 : IVec S16 32) : Prop :=
  (∀ a x, ((![v476] : Fin 1 → IVec S16 32) a x).toNat < S32768.size a)
theorem k0_idx23_inb : ∀ (v476 : IVec S16 32) (k0_hw23 : k0_chk23 v476), ∀ a x, ((![v476] : Fin 1 → IVec S16 32) a x).toNat < S32768.size a := fun v476 k0_hw23 => k0_hw23
def k0_off27 (k0_t3 : Fin k0_t3_loop.trips) : Fin 1 → Nat :=
  let c0_i32_16 : BitVec 32 := 0#32
  let c1_i32_18 : BitVec 32 := 1#32
  let arg15 : BitVec 32 := Scf.iv c0_i32_16 c1_i32_18 k0_t3
  let c128_i32 : BitVec 32 := 128#32
  let v427 : BitVec 32 := Scalar.muli arg15 c128_i32
  let c112_i32 : BitVec 32 := 112#32
  let v477 : BitVec 32 := Scalar.addi v427 c112_i32
  let v478 : Index := Scalar.indexCast v477
  ![v478.toNat]

def k0_chk24 (v483 : IVec S16 32) : Prop :=
  (∀ a x, ((![v483] : Fin 1 → IVec S16 32) a x).toNat < S32768.size a)
theorem k0_idx24_inb : ∀ (v483 : IVec S16 32) (k0_hw24 : k0_chk24 v483), ∀ a x, ((![v483] : Fin 1 → IVec S16 32) a x).toNat < S32768.size a := fun v483 k0_hw24 => k0_hw24
@[reducible] def k0_t4_loop : Scf.Loop 32 :=
  let c0_i32_24 : BitVec 32 := 0#32
  let c64_i32_25 : BitVec 32 := 64#32
  let v58 : BitVec 32 := Scalar.addi c0_i32_24 c64_i32_25
  let c1_i32_26 : BitVec 32 := 1#32
  ⟨c0_i32_24, v58, c1_i32_26⟩
def k0_off28 (k0_t4 : Fin k0_t4_loop.trips) : Fin 1 → Nat :=
  let c0_i32_24 : BitVec 32 := 0#32
  let c1_i32_26 : BitVec 32 := 1#32
  let arg15 : BitVec 32 := Scf.iv c0_i32_24 c1_i32_26 k0_t4
  let c128_i32 : BitVec 32 := 128#32
  let v427 : BitVec 32 := Scalar.muli arg15 c128_i32
  let c0_i32_253 : BitVec 32 := 0#32
  let v428 : BitVec 32 := Scalar.addi v427 c0_i32_253
  let v429 : Index := Scalar.indexCast v428
  ![v429.toNat]

def k0_chk25 (v434 : IVec S16 32) : Prop :=
  (∀ a x, ((![v434] : Fin 1 → IVec S16 32) a x).toNat < S32768.size a)
theorem k0_idx25_inb : ∀ (v434 : IVec S16 32) (k0_hw25 : k0_chk25 v434), ∀ a x, ((![v434] : Fin 1 → IVec S16 32) a x).toNat < S32768.size a := fun v434 k0_hw25 => k0_hw25
def k0_off29 (k0_t4 : Fin k0_t4_loop.trips) : Fin 1 → Nat :=
  let c0_i32_24 : BitVec 32 := 0#32
  let c1_i32_26 : BitVec 32 := 1#32
  let arg15 : BitVec 32 := Scf.iv c0_i32_24 c1_i32_26 k0_t4
  let c128_i32 : BitVec 32 := 128#32
  let v427 : BitVec 32 := Scalar.muli arg15 c128_i32
  let c16_i32_256 : BitVec 32 := 16#32
  let v435 : BitVec 32 := Scalar.addi v427 c16_i32_256
  let v436 : Index := Scalar.indexCast v435
  ![v436.toNat]

def k0_chk26 (v441 : IVec S16 32) : Prop :=
  (∀ a x, ((![v441] : Fin 1 → IVec S16 32) a x).toNat < S32768.size a)
theorem k0_idx26_inb : ∀ (v441 : IVec S16 32) (k0_hw26 : k0_chk26 v441), ∀ a x, ((![v441] : Fin 1 → IVec S16 32) a x).toNat < S32768.size a := fun v441 k0_hw26 => k0_hw26
def k0_off30 (k0_t4 : Fin k0_t4_loop.trips) : Fin 1 → Nat :=
  let c0_i32_24 : BitVec 32 := 0#32
  let c1_i32_26 : BitVec 32 := 1#32
  let arg15 : BitVec 32 := Scf.iv c0_i32_24 c1_i32_26 k0_t4
  let c128_i32 : BitVec 32 := 128#32
  let v427 : BitVec 32 := Scalar.muli arg15 c128_i32
  let c32_i32 : BitVec 32 := 32#32
  let v442 : BitVec 32 := Scalar.addi v427 c32_i32
  let v443 : Index := Scalar.indexCast v442
  ![v443.toNat]

def k0_chk27 (v448 : IVec S16 32) : Prop :=
  (∀ a x, ((![v448] : Fin 1 → IVec S16 32) a x).toNat < S32768.size a)
theorem k0_idx27_inb : ∀ (v448 : IVec S16 32) (k0_hw27 : k0_chk27 v448), ∀ a x, ((![v448] : Fin 1 → IVec S16 32) a x).toNat < S32768.size a := fun v448 k0_hw27 => k0_hw27
def k0_off31 (k0_t4 : Fin k0_t4_loop.trips) : Fin 1 → Nat :=
  let c0_i32_24 : BitVec 32 := 0#32
  let c1_i32_26 : BitVec 32 := 1#32
  let arg15 : BitVec 32 := Scf.iv c0_i32_24 c1_i32_26 k0_t4
  let c128_i32 : BitVec 32 := 128#32
  let v427 : BitVec 32 := Scalar.muli arg15 c128_i32
  let c48_i32 : BitVec 32 := 48#32
  let v449 : BitVec 32 := Scalar.addi v427 c48_i32
  let v450 : Index := Scalar.indexCast v449
  ![v450.toNat]

def k0_chk28 (v455 : IVec S16 32) : Prop :=
  (∀ a x, ((![v455] : Fin 1 → IVec S16 32) a x).toNat < S32768.size a)
theorem k0_idx28_inb : ∀ (v455 : IVec S16 32) (k0_hw28 : k0_chk28 v455), ∀ a x, ((![v455] : Fin 1 → IVec S16 32) a x).toNat < S32768.size a := fun v455 k0_hw28 => k0_hw28
def k0_off32 (k0_t4 : Fin k0_t4_loop.trips) : Fin 1 → Nat :=
  let c0_i32_24 : BitVec 32 := 0#32
  let c1_i32_26 : BitVec 32 := 1#32
  let arg15 : BitVec 32 := Scf.iv c0_i32_24 c1_i32_26 k0_t4
  let c128_i32 : BitVec 32 := 128#32
  let v427 : BitVec 32 := Scalar.muli arg15 c128_i32
  let c64_i32_263 : BitVec 32 := 64#32
  let v456 : BitVec 32 := Scalar.addi v427 c64_i32_263
  let v457 : Index := Scalar.indexCast v456
  ![v457.toNat]

def k0_chk29 (v462 : IVec S16 32) : Prop :=
  (∀ a x, ((![v462] : Fin 1 → IVec S16 32) a x).toNat < S32768.size a)
theorem k0_idx29_inb : ∀ (v462 : IVec S16 32) (k0_hw29 : k0_chk29 v462), ∀ a x, ((![v462] : Fin 1 → IVec S16 32) a x).toNat < S32768.size a := fun v462 k0_hw29 => k0_hw29
def k0_off33 (k0_t4 : Fin k0_t4_loop.trips) : Fin 1 → Nat :=
  let c0_i32_24 : BitVec 32 := 0#32
  let c1_i32_26 : BitVec 32 := 1#32
  let arg15 : BitVec 32 := Scf.iv c0_i32_24 c1_i32_26 k0_t4
  let c128_i32 : BitVec 32 := 128#32
  let v427 : BitVec 32 := Scalar.muli arg15 c128_i32
  let c80_i32 : BitVec 32 := 80#32
  let v463 : BitVec 32 := Scalar.addi v427 c80_i32
  let v464 : Index := Scalar.indexCast v463
  ![v464.toNat]

def k0_chk30 (v469 : IVec S16 32) : Prop :=
  (∀ a x, ((![v469] : Fin 1 → IVec S16 32) a x).toNat < S32768.size a)
theorem k0_idx30_inb : ∀ (v469 : IVec S16 32) (k0_hw30 : k0_chk30 v469), ∀ a x, ((![v469] : Fin 1 → IVec S16 32) a x).toNat < S32768.size a := fun v469 k0_hw30 => k0_hw30
def k0_off34 (k0_t4 : Fin k0_t4_loop.trips) : Fin 1 → Nat :=
  let c0_i32_24 : BitVec 32 := 0#32
  let c1_i32_26 : BitVec 32 := 1#32
  let arg15 : BitVec 32 := Scf.iv c0_i32_24 c1_i32_26 k0_t4
  let c128_i32 : BitVec 32 := 128#32
  let v427 : BitVec 32 := Scalar.muli arg15 c128_i32
  let c96_i32 : BitVec 32 := 96#32
  let v470 : BitVec 32 := Scalar.addi v427 c96_i32
  let v471 : Index := Scalar.indexCast v470
  ![v471.toNat]

def k0_chk31 (v476 : IVec S16 32) : Prop :=
  (∀ a x, ((![v476] : Fin 1 → IVec S16 32) a x).toNat < S32768.size a)
theorem k0_idx31_inb : ∀ (v476 : IVec S16 32) (k0_hw31 : k0_chk31 v476), ∀ a x, ((![v476] : Fin 1 → IVec S16 32) a x).toNat < S32768.size a := fun v476 k0_hw31 => k0_hw31
def k0_off35 (k0_t4 : Fin k0_t4_loop.trips) : Fin 1 → Nat :=
  let c0_i32_24 : BitVec 32 := 0#32
  let c1_i32_26 : BitVec 32 := 1#32
  let arg15 : BitVec 32 := Scf.iv c0_i32_24 c1_i32_26 k0_t4
  let c128_i32 : BitVec 32 := 128#32
  let v427 : BitVec 32 := Scalar.muli arg15 c128_i32
  let c112_i32 : BitVec 32 := 112#32
  let v477 : BitVec 32 := Scalar.addi v427 c112_i32
  let v478 : Index := Scalar.indexCast v477
  ![v478.toNat]

def k0_chk32 (v483 : IVec S16 32) : Prop :=
  (∀ a x, ((![v483] : Fin 1 → IVec S16 32) a x).toNat < S32768.size a)
theorem k0_idx32_inb : ∀ (v483 : IVec S16 32) (k0_hw32 : k0_chk32 v483), ∀ a x, ((![v483] : Fin 1 → IVec S16 32) a x).toNat < S32768.size a := fun v483 k0_hw32 => k0_hw32
@[reducible] def k0_t5_loop : Scf.Loop 32 :=
  let c0_i32_32 : BitVec 32 := 0#32
  let c64_i32_33 : BitVec 32 := 64#32
  let v71 : BitVec 32 := Scalar.addi c0_i32_32 c64_i32_33
  let c1_i32_34 : BitVec 32 := 1#32
  ⟨c0_i32_32, v71, c1_i32_34⟩
def k0_off36 (k0_t5 : Fin k0_t5_loop.trips) : Fin 1 → Nat :=
  let c0_i32_32 : BitVec 32 := 0#32
  let c1_i32_34 : BitVec 32 := 1#32
  let arg15 : BitVec 32 := Scf.iv c0_i32_32 c1_i32_34 k0_t5
  let c128_i32 : BitVec 32 := 128#32
  let v427 : BitVec 32 := Scalar.muli arg15 c128_i32
  let c0_i32_253 : BitVec 32 := 0#32
  let v428 : BitVec 32 := Scalar.addi v427 c0_i32_253
  let v429 : Index := Scalar.indexCast v428
  ![v429.toNat]

def k0_chk33 (v434 : IVec S16 32) : Prop :=
  (∀ a x, ((![v434] : Fin 1 → IVec S16 32) a x).toNat < S32768.size a)
theorem k0_idx33_inb : ∀ (v434 : IVec S16 32) (k0_hw33 : k0_chk33 v434), ∀ a x, ((![v434] : Fin 1 → IVec S16 32) a x).toNat < S32768.size a := fun v434 k0_hw33 => k0_hw33
def k0_off37 (k0_t5 : Fin k0_t5_loop.trips) : Fin 1 → Nat :=
  let c0_i32_32 : BitVec 32 := 0#32
  let c1_i32_34 : BitVec 32 := 1#32
  let arg15 : BitVec 32 := Scf.iv c0_i32_32 c1_i32_34 k0_t5
  let c128_i32 : BitVec 32 := 128#32
  let v427 : BitVec 32 := Scalar.muli arg15 c128_i32
  let c16_i32_256 : BitVec 32 := 16#32
  let v435 : BitVec 32 := Scalar.addi v427 c16_i32_256
  let v436 : Index := Scalar.indexCast v435
  ![v436.toNat]

def k0_chk34 (v441 : IVec S16 32) : Prop :=
  (∀ a x, ((![v441] : Fin 1 → IVec S16 32) a x).toNat < S32768.size a)
theorem k0_idx34_inb : ∀ (v441 : IVec S16 32) (k0_hw34 : k0_chk34 v441), ∀ a x, ((![v441] : Fin 1 → IVec S16 32) a x).toNat < S32768.size a := fun v441 k0_hw34 => k0_hw34
def k0_off38 (k0_t5 : Fin k0_t5_loop.trips) : Fin 1 → Nat :=
  let c0_i32_32 : BitVec 32 := 0#32
  let c1_i32_34 : BitVec 32 := 1#32
  let arg15 : BitVec 32 := Scf.iv c0_i32_32 c1_i32_34 k0_t5
  let c128_i32 : BitVec 32 := 128#32
  let v427 : BitVec 32 := Scalar.muli arg15 c128_i32
  let c32_i32 : BitVec 32 := 32#32
  let v442 : BitVec 32 := Scalar.addi v427 c32_i32
  let v443 : Index := Scalar.indexCast v442
  ![v443.toNat]

def k0_chk35 (v448 : IVec S16 32) : Prop :=
  (∀ a x, ((![v448] : Fin 1 → IVec S16 32) a x).toNat < S32768.size a)
theorem k0_idx35_inb : ∀ (v448 : IVec S16 32) (k0_hw35 : k0_chk35 v448), ∀ a x, ((![v448] : Fin 1 → IVec S16 32) a x).toNat < S32768.size a := fun v448 k0_hw35 => k0_hw35
def k0_off39 (k0_t5 : Fin k0_t5_loop.trips) : Fin 1 → Nat :=
  let c0_i32_32 : BitVec 32 := 0#32
  let c1_i32_34 : BitVec 32 := 1#32
  let arg15 : BitVec 32 := Scf.iv c0_i32_32 c1_i32_34 k0_t5
  let c128_i32 : BitVec 32 := 128#32
  let v427 : BitVec 32 := Scalar.muli arg15 c128_i32
  let c48_i32 : BitVec 32 := 48#32
  let v449 : BitVec 32 := Scalar.addi v427 c48_i32
  let v450 : Index := Scalar.indexCast v449
  ![v450.toNat]

def k0_chk36 (v455 : IVec S16 32) : Prop :=
  (∀ a x, ((![v455] : Fin 1 → IVec S16 32) a x).toNat < S32768.size a)
theorem k0_idx36_inb : ∀ (v455 : IVec S16 32) (k0_hw36 : k0_chk36 v455), ∀ a x, ((![v455] : Fin 1 → IVec S16 32) a x).toNat < S32768.size a := fun v455 k0_hw36 => k0_hw36
def k0_off40 (k0_t5 : Fin k0_t5_loop.trips) : Fin 1 → Nat :=
  let c0_i32_32 : BitVec 32 := 0#32
  let c1_i32_34 : BitVec 32 := 1#32
  let arg15 : BitVec 32 := Scf.iv c0_i32_32 c1_i32_34 k0_t5
  let c128_i32 : BitVec 32 := 128#32
  let v427 : BitVec 32 := Scalar.muli arg15 c128_i32
  let c64_i32_263 : BitVec 32 := 64#32
  let v456 : BitVec 32 := Scalar.addi v427 c64_i32_263
  let v457 : Index := Scalar.indexCast v456
  ![v457.toNat]

def k0_chk37 (v462 : IVec S16 32) : Prop :=
  (∀ a x, ((![v462] : Fin 1 → IVec S16 32) a x).toNat < S32768.size a)
theorem k0_idx37_inb : ∀ (v462 : IVec S16 32) (k0_hw37 : k0_chk37 v462), ∀ a x, ((![v462] : Fin 1 → IVec S16 32) a x).toNat < S32768.size a := fun v462 k0_hw37 => k0_hw37
def k0_off41 (k0_t5 : Fin k0_t5_loop.trips) : Fin 1 → Nat :=
  let c0_i32_32 : BitVec 32 := 0#32
  let c1_i32_34 : BitVec 32 := 1#32
  let arg15 : BitVec 32 := Scf.iv c0_i32_32 c1_i32_34 k0_t5
  let c128_i32 : BitVec 32 := 128#32
  let v427 : BitVec 32 := Scalar.muli arg15 c128_i32
  let c80_i32 : BitVec 32 := 80#32
  let v463 : BitVec 32 := Scalar.addi v427 c80_i32
  let v464 : Index := Scalar.indexCast v463
  ![v464.toNat]

def k0_chk38 (v469 : IVec S16 32) : Prop :=
  (∀ a x, ((![v469] : Fin 1 → IVec S16 32) a x).toNat < S32768.size a)
theorem k0_idx38_inb : ∀ (v469 : IVec S16 32) (k0_hw38 : k0_chk38 v469), ∀ a x, ((![v469] : Fin 1 → IVec S16 32) a x).toNat < S32768.size a := fun v469 k0_hw38 => k0_hw38
def k0_off42 (k0_t5 : Fin k0_t5_loop.trips) : Fin 1 → Nat :=
  let c0_i32_32 : BitVec 32 := 0#32
  let c1_i32_34 : BitVec 32 := 1#32
  let arg15 : BitVec 32 := Scf.iv c0_i32_32 c1_i32_34 k0_t5
  let c128_i32 : BitVec 32 := 128#32
  let v427 : BitVec 32 := Scalar.muli arg15 c128_i32
  let c96_i32 : BitVec 32 := 96#32
  let v470 : BitVec 32 := Scalar.addi v427 c96_i32
  let v471 : Index := Scalar.indexCast v470
  ![v471.toNat]

def k0_chk39 (v476 : IVec S16 32) : Prop :=
  (∀ a x, ((![v476] : Fin 1 → IVec S16 32) a x).toNat < S32768.size a)
theorem k0_idx39_inb : ∀ (v476 : IVec S16 32) (k0_hw39 : k0_chk39 v476), ∀ a x, ((![v476] : Fin 1 → IVec S16 32) a x).toNat < S32768.size a := fun v476 k0_hw39 => k0_hw39
def k0_off43 (k0_t5 : Fin k0_t5_loop.trips) : Fin 1 → Nat :=
  let c0_i32_32 : BitVec 32 := 0#32
  let c1_i32_34 : BitVec 32 := 1#32
  let arg15 : BitVec 32 := Scf.iv c0_i32_32 c1_i32_34 k0_t5
  let c128_i32 : BitVec 32 := 128#32
  let v427 : BitVec 32 := Scalar.muli arg15 c128_i32
  let c112_i32 : BitVec 32 := 112#32
  let v477 : BitVec 32 := Scalar.addi v427 c112_i32
  let v478 : Index := Scalar.indexCast v477
  ![v478.toNat]

def k0_chk40 (v483 : IVec S16 32) : Prop :=
  (∀ a x, ((![v483] : Fin 1 → IVec S16 32) a x).toNat < S32768.size a)
theorem k0_idx40_inb : ∀ (v483 : IVec S16 32) (k0_hw40 : k0_chk40 v483), ∀ a x, ((![v483] : Fin 1 → IVec S16 32) a x).toNat < S32768.size a := fun v483 k0_hw40 => k0_hw40
@[reducible] def k0_t6_loop : Scf.Loop 32 :=
  let c0_i32_40 : BitVec 32 := 0#32
  let c64_i32_41 : BitVec 32 := 64#32
  let v84 : BitVec 32 := Scalar.addi c0_i32_40 c64_i32_41
  let c1_i32_42 : BitVec 32 := 1#32
  ⟨c0_i32_40, v84, c1_i32_42⟩
def k0_off44 (k0_t6 : Fin k0_t6_loop.trips) : Fin 1 → Nat :=
  let c0_i32_40 : BitVec 32 := 0#32
  let c1_i32_42 : BitVec 32 := 1#32
  let arg15 : BitVec 32 := Scf.iv c0_i32_40 c1_i32_42 k0_t6
  let c128_i32 : BitVec 32 := 128#32
  let v427 : BitVec 32 := Scalar.muli arg15 c128_i32
  let c0_i32_253 : BitVec 32 := 0#32
  let v428 : BitVec 32 := Scalar.addi v427 c0_i32_253
  let v429 : Index := Scalar.indexCast v428
  ![v429.toNat]

def k0_chk41 (v434 : IVec S16 32) : Prop :=
  (∀ a x, ((![v434] : Fin 1 → IVec S16 32) a x).toNat < S32768.size a)
theorem k0_idx41_inb : ∀ (v434 : IVec S16 32) (k0_hw41 : k0_chk41 v434), ∀ a x, ((![v434] : Fin 1 → IVec S16 32) a x).toNat < S32768.size a := fun v434 k0_hw41 => k0_hw41
def k0_off45 (k0_t6 : Fin k0_t6_loop.trips) : Fin 1 → Nat :=
  let c0_i32_40 : BitVec 32 := 0#32
  let c1_i32_42 : BitVec 32 := 1#32
  let arg15 : BitVec 32 := Scf.iv c0_i32_40 c1_i32_42 k0_t6
  let c128_i32 : BitVec 32 := 128#32
  let v427 : BitVec 32 := Scalar.muli arg15 c128_i32
  let c16_i32_256 : BitVec 32 := 16#32
  let v435 : BitVec 32 := Scalar.addi v427 c16_i32_256
  let v436 : Index := Scalar.indexCast v435
  ![v436.toNat]

def k0_chk42 (v441 : IVec S16 32) : Prop :=
  (∀ a x, ((![v441] : Fin 1 → IVec S16 32) a x).toNat < S32768.size a)
theorem k0_idx42_inb : ∀ (v441 : IVec S16 32) (k0_hw42 : k0_chk42 v441), ∀ a x, ((![v441] : Fin 1 → IVec S16 32) a x).toNat < S32768.size a := fun v441 k0_hw42 => k0_hw42
def k0_off46 (k0_t6 : Fin k0_t6_loop.trips) : Fin 1 → Nat :=
  let c0_i32_40 : BitVec 32 := 0#32
  let c1_i32_42 : BitVec 32 := 1#32
  let arg15 : BitVec 32 := Scf.iv c0_i32_40 c1_i32_42 k0_t6
  let c128_i32 : BitVec 32 := 128#32
  let v427 : BitVec 32 := Scalar.muli arg15 c128_i32
  let c32_i32 : BitVec 32 := 32#32
  let v442 : BitVec 32 := Scalar.addi v427 c32_i32
  let v443 : Index := Scalar.indexCast v442
  ![v443.toNat]

def k0_chk43 (v448 : IVec S16 32) : Prop :=
  (∀ a x, ((![v448] : Fin 1 → IVec S16 32) a x).toNat < S32768.size a)
theorem k0_idx43_inb : ∀ (v448 : IVec S16 32) (k0_hw43 : k0_chk43 v448), ∀ a x, ((![v448] : Fin 1 → IVec S16 32) a x).toNat < S32768.size a := fun v448 k0_hw43 => k0_hw43
def k0_off47 (k0_t6 : Fin k0_t6_loop.trips) : Fin 1 → Nat :=
  let c0_i32_40 : BitVec 32 := 0#32
  let c1_i32_42 : BitVec 32 := 1#32
  let arg15 : BitVec 32 := Scf.iv c0_i32_40 c1_i32_42 k0_t6
  let c128_i32 : BitVec 32 := 128#32
  let v427 : BitVec 32 := Scalar.muli arg15 c128_i32
  let c48_i32 : BitVec 32 := 48#32
  let v449 : BitVec 32 := Scalar.addi v427 c48_i32
  let v450 : Index := Scalar.indexCast v449
  ![v450.toNat]

def k0_chk44 (v455 : IVec S16 32) : Prop :=
  (∀ a x, ((![v455] : Fin 1 → IVec S16 32) a x).toNat < S32768.size a)
theorem k0_idx44_inb : ∀ (v455 : IVec S16 32) (k0_hw44 : k0_chk44 v455), ∀ a x, ((![v455] : Fin 1 → IVec S16 32) a x).toNat < S32768.size a := fun v455 k0_hw44 => k0_hw44
def k0_off48 (k0_t6 : Fin k0_t6_loop.trips) : Fin 1 → Nat :=
  let c0_i32_40 : BitVec 32 := 0#32
  let c1_i32_42 : BitVec 32 := 1#32
  let arg15 : BitVec 32 := Scf.iv c0_i32_40 c1_i32_42 k0_t6
  let c128_i32 : BitVec 32 := 128#32
  let v427 : BitVec 32 := Scalar.muli arg15 c128_i32
  let c64_i32_263 : BitVec 32 := 64#32
  let v456 : BitVec 32 := Scalar.addi v427 c64_i32_263
  let v457 : Index := Scalar.indexCast v456
  ![v457.toNat]

def k0_chk45 (v462 : IVec S16 32) : Prop :=
  (∀ a x, ((![v462] : Fin 1 → IVec S16 32) a x).toNat < S32768.size a)
theorem k0_idx45_inb : ∀ (v462 : IVec S16 32) (k0_hw45 : k0_chk45 v462), ∀ a x, ((![v462] : Fin 1 → IVec S16 32) a x).toNat < S32768.size a := fun v462 k0_hw45 => k0_hw45
def k0_off49 (k0_t6 : Fin k0_t6_loop.trips) : Fin 1 → Nat :=
  let c0_i32_40 : BitVec 32 := 0#32
  let c1_i32_42 : BitVec 32 := 1#32
  let arg15 : BitVec 32 := Scf.iv c0_i32_40 c1_i32_42 k0_t6
  let c128_i32 : BitVec 32 := 128#32
  let v427 : BitVec 32 := Scalar.muli arg15 c128_i32
  let c80_i32 : BitVec 32 := 80#32
  let v463 : BitVec 32 := Scalar.addi v427 c80_i32
  let v464 : Index := Scalar.indexCast v463
  ![v464.toNat]

def k0_chk46 (v469 : IVec S16 32) : Prop :=
  (∀ a x, ((![v469] : Fin 1 → IVec S16 32) a x).toNat < S32768.size a)
theorem k0_idx46_inb : ∀ (v469 : IVec S16 32) (k0_hw46 : k0_chk46 v469), ∀ a x, ((![v469] : Fin 1 → IVec S16 32) a x).toNat < S32768.size a := fun v469 k0_hw46 => k0_hw46
def k0_off50 (k0_t6 : Fin k0_t6_loop.trips) : Fin 1 → Nat :=
  let c0_i32_40 : BitVec 32 := 0#32
  let c1_i32_42 : BitVec 32 := 1#32
  let arg15 : BitVec 32 := Scf.iv c0_i32_40 c1_i32_42 k0_t6
  let c128_i32 : BitVec 32 := 128#32
  let v427 : BitVec 32 := Scalar.muli arg15 c128_i32
  let c96_i32 : BitVec 32 := 96#32
  let v470 : BitVec 32 := Scalar.addi v427 c96_i32
  let v471 : Index := Scalar.indexCast v470
  ![v471.toNat]

def k0_chk47 (v476 : IVec S16 32) : Prop :=
  (∀ a x, ((![v476] : Fin 1 → IVec S16 32) a x).toNat < S32768.size a)
theorem k0_idx47_inb : ∀ (v476 : IVec S16 32) (k0_hw47 : k0_chk47 v476), ∀ a x, ((![v476] : Fin 1 → IVec S16 32) a x).toNat < S32768.size a := fun v476 k0_hw47 => k0_hw47
def k0_off51 (k0_t6 : Fin k0_t6_loop.trips) : Fin 1 → Nat :=
  let c0_i32_40 : BitVec 32 := 0#32
  let c1_i32_42 : BitVec 32 := 1#32
  let arg15 : BitVec 32 := Scf.iv c0_i32_40 c1_i32_42 k0_t6
  let c128_i32 : BitVec 32 := 128#32
  let v427 : BitVec 32 := Scalar.muli arg15 c128_i32
  let c112_i32 : BitVec 32 := 112#32
  let v477 : BitVec 32 := Scalar.addi v427 c112_i32
  let v478 : Index := Scalar.indexCast v477
  ![v478.toNat]

def k0_chk48 (v483 : IVec S16 32) : Prop :=
  (∀ a x, ((![v483] : Fin 1 → IVec S16 32) a x).toNat < S32768.size a)
theorem k0_idx48_inb : ∀ (v483 : IVec S16 32) (k0_hw48 : k0_chk48 v483), ∀ a x, ((![v483] : Fin 1 → IVec S16 32) a x).toNat < S32768.size a := fun v483 k0_hw48 => k0_hw48
@[reducible] def k0_t7_loop : Scf.Loop 32 :=
  let c0_i32_48 : BitVec 32 := 0#32
  let c64_i32_49 : BitVec 32 := 64#32
  let v97 : BitVec 32 := Scalar.addi c0_i32_48 c64_i32_49
  let c1_i32_50 : BitVec 32 := 1#32
  ⟨c0_i32_48, v97, c1_i32_50⟩
def k0_off52 (k0_t7 : Fin k0_t7_loop.trips) : Fin 1 → Nat :=
  let c0_i32_48 : BitVec 32 := 0#32
  let c1_i32_50 : BitVec 32 := 1#32
  let arg15 : BitVec 32 := Scf.iv c0_i32_48 c1_i32_50 k0_t7
  let c128_i32 : BitVec 32 := 128#32
  let v427 : BitVec 32 := Scalar.muli arg15 c128_i32
  let c0_i32_253 : BitVec 32 := 0#32
  let v428 : BitVec 32 := Scalar.addi v427 c0_i32_253
  let v429 : Index := Scalar.indexCast v428
  ![v429.toNat]

def k0_chk49 (v434 : IVec S16 32) : Prop :=
  (∀ a x, ((![v434] : Fin 1 → IVec S16 32) a x).toNat < S32768.size a)
theorem k0_idx49_inb : ∀ (v434 : IVec S16 32) (k0_hw49 : k0_chk49 v434), ∀ a x, ((![v434] : Fin 1 → IVec S16 32) a x).toNat < S32768.size a := fun v434 k0_hw49 => k0_hw49
def k0_off53 (k0_t7 : Fin k0_t7_loop.trips) : Fin 1 → Nat :=
  let c0_i32_48 : BitVec 32 := 0#32
  let c1_i32_50 : BitVec 32 := 1#32
  let arg15 : BitVec 32 := Scf.iv c0_i32_48 c1_i32_50 k0_t7
  let c128_i32 : BitVec 32 := 128#32
  let v427 : BitVec 32 := Scalar.muli arg15 c128_i32
  let c16_i32_256 : BitVec 32 := 16#32
  let v435 : BitVec 32 := Scalar.addi v427 c16_i32_256
  let v436 : Index := Scalar.indexCast v435
  ![v436.toNat]

def k0_chk50 (v441 : IVec S16 32) : Prop :=
  (∀ a x, ((![v441] : Fin 1 → IVec S16 32) a x).toNat < S32768.size a)
theorem k0_idx50_inb : ∀ (v441 : IVec S16 32) (k0_hw50 : k0_chk50 v441), ∀ a x, ((![v441] : Fin 1 → IVec S16 32) a x).toNat < S32768.size a := fun v441 k0_hw50 => k0_hw50
def k0_off54 (k0_t7 : Fin k0_t7_loop.trips) : Fin 1 → Nat :=
  let c0_i32_48 : BitVec 32 := 0#32
  let c1_i32_50 : BitVec 32 := 1#32
  let arg15 : BitVec 32 := Scf.iv c0_i32_48 c1_i32_50 k0_t7
  let c128_i32 : BitVec 32 := 128#32
  let v427 : BitVec 32 := Scalar.muli arg15 c128_i32
  let c32_i32 : BitVec 32 := 32#32
  let v442 : BitVec 32 := Scalar.addi v427 c32_i32
  let v443 : Index := Scalar.indexCast v442
  ![v443.toNat]

def k0_chk51 (v448 : IVec S16 32) : Prop :=
  (∀ a x, ((![v448] : Fin 1 → IVec S16 32) a x).toNat < S32768.size a)
theorem k0_idx51_inb : ∀ (v448 : IVec S16 32) (k0_hw51 : k0_chk51 v448), ∀ a x, ((![v448] : Fin 1 → IVec S16 32) a x).toNat < S32768.size a := fun v448 k0_hw51 => k0_hw51
def k0_off55 (k0_t7 : Fin k0_t7_loop.trips) : Fin 1 → Nat :=
  let c0_i32_48 : BitVec 32 := 0#32
  let c1_i32_50 : BitVec 32 := 1#32
  let arg15 : BitVec 32 := Scf.iv c0_i32_48 c1_i32_50 k0_t7
  let c128_i32 : BitVec 32 := 128#32
  let v427 : BitVec 32 := Scalar.muli arg15 c128_i32
  let c48_i32 : BitVec 32 := 48#32
  let v449 : BitVec 32 := Scalar.addi v427 c48_i32
  let v450 : Index := Scalar.indexCast v449
  ![v450.toNat]

def k0_chk52 (v455 : IVec S16 32) : Prop :=
  (∀ a x, ((![v455] : Fin 1 → IVec S16 32) a x).toNat < S32768.size a)
theorem k0_idx52_inb : ∀ (v455 : IVec S16 32) (k0_hw52 : k0_chk52 v455), ∀ a x, ((![v455] : Fin 1 → IVec S16 32) a x).toNat < S32768.size a := fun v455 k0_hw52 => k0_hw52
def k0_off56 (k0_t7 : Fin k0_t7_loop.trips) : Fin 1 → Nat :=
  let c0_i32_48 : BitVec 32 := 0#32
  let c1_i32_50 : BitVec 32 := 1#32
  let arg15 : BitVec 32 := Scf.iv c0_i32_48 c1_i32_50 k0_t7
  let c128_i32 : BitVec 32 := 128#32
  let v427 : BitVec 32 := Scalar.muli arg15 c128_i32
  let c64_i32_263 : BitVec 32 := 64#32
  let v456 : BitVec 32 := Scalar.addi v427 c64_i32_263
  let v457 : Index := Scalar.indexCast v456
  ![v457.toNat]

def k0_chk53 (v462 : IVec S16 32) : Prop :=
  (∀ a x, ((![v462] : Fin 1 → IVec S16 32) a x).toNat < S32768.size a)
theorem k0_idx53_inb : ∀ (v462 : IVec S16 32) (k0_hw53 : k0_chk53 v462), ∀ a x, ((![v462] : Fin 1 → IVec S16 32) a x).toNat < S32768.size a := fun v462 k0_hw53 => k0_hw53
def k0_off57 (k0_t7 : Fin k0_t7_loop.trips) : Fin 1 → Nat :=
  let c0_i32_48 : BitVec 32 := 0#32
  let c1_i32_50 : BitVec 32 := 1#32
  let arg15 : BitVec 32 := Scf.iv c0_i32_48 c1_i32_50 k0_t7
  let c128_i32 : BitVec 32 := 128#32
  let v427 : BitVec 32 := Scalar.muli arg15 c128_i32
  let c80_i32 : BitVec 32 := 80#32
  let v463 : BitVec 32 := Scalar.addi v427 c80_i32
  let v464 : Index := Scalar.indexCast v463
  ![v464.toNat]

def k0_chk54 (v469 : IVec S16 32) : Prop :=
  (∀ a x, ((![v469] : Fin 1 → IVec S16 32) a x).toNat < S32768.size a)
theorem k0_idx54_inb : ∀ (v469 : IVec S16 32) (k0_hw54 : k0_chk54 v469), ∀ a x, ((![v469] : Fin 1 → IVec S16 32) a x).toNat < S32768.size a := fun v469 k0_hw54 => k0_hw54
def k0_off58 (k0_t7 : Fin k0_t7_loop.trips) : Fin 1 → Nat :=
  let c0_i32_48 : BitVec 32 := 0#32
  let c1_i32_50 : BitVec 32 := 1#32
  let arg15 : BitVec 32 := Scf.iv c0_i32_48 c1_i32_50 k0_t7
  let c128_i32 : BitVec 32 := 128#32
  let v427 : BitVec 32 := Scalar.muli arg15 c128_i32
  let c96_i32 : BitVec 32 := 96#32
  let v470 : BitVec 32 := Scalar.addi v427 c96_i32
  let v471 : Index := Scalar.indexCast v470
  ![v471.toNat]

def k0_chk55 (v476 : IVec S16 32) : Prop :=
  (∀ a x, ((![v476] : Fin 1 → IVec S16 32) a x).toNat < S32768.size a)
theorem k0_idx55_inb : ∀ (v476 : IVec S16 32) (k0_hw55 : k0_chk55 v476), ∀ a x, ((![v476] : Fin 1 → IVec S16 32) a x).toNat < S32768.size a := fun v476 k0_hw55 => k0_hw55
def k0_off59 (k0_t7 : Fin k0_t7_loop.trips) : Fin 1 → Nat :=
  let c0_i32_48 : BitVec 32 := 0#32
  let c1_i32_50 : BitVec 32 := 1#32
  let arg15 : BitVec 32 := Scf.iv c0_i32_48 c1_i32_50 k0_t7
  let c128_i32 : BitVec 32 := 128#32
  let v427 : BitVec 32 := Scalar.muli arg15 c128_i32
  let c112_i32 : BitVec 32 := 112#32
  let v477 : BitVec 32 := Scalar.addi v427 c112_i32
  let v478 : Index := Scalar.indexCast v477
  ![v478.toNat]

def k0_chk56 (v483 : IVec S16 32) : Prop :=
  (∀ a x, ((![v483] : Fin 1 → IVec S16 32) a x).toNat < S32768.size a)
theorem k0_idx56_inb : ∀ (v483 : IVec S16 32) (k0_hw56 : k0_chk56 v483), ∀ a x, ((![v483] : Fin 1 → IVec S16 32) a x).toNat < S32768.size a := fun v483 k0_hw56 => k0_hw56
@[reducible] def k0_t8_loop : Scf.Loop 32 :=
  let c0_i32_56 : BitVec 32 := 0#32
  let c64_i32_57 : BitVec 32 := 64#32
  let v110 : BitVec 32 := Scalar.addi c0_i32_56 c64_i32_57
  let c1_i32_58 : BitVec 32 := 1#32
  ⟨c0_i32_56, v110, c1_i32_58⟩
def k0_off60 (k0_t8 : Fin k0_t8_loop.trips) : Fin 1 → Nat :=
  let c0_i32_56 : BitVec 32 := 0#32
  let c1_i32_58 : BitVec 32 := 1#32
  let arg15 : BitVec 32 := Scf.iv c0_i32_56 c1_i32_58 k0_t8
  let c128_i32 : BitVec 32 := 128#32
  let v427 : BitVec 32 := Scalar.muli arg15 c128_i32
  let c0_i32_253 : BitVec 32 := 0#32
  let v428 : BitVec 32 := Scalar.addi v427 c0_i32_253
  let v429 : Index := Scalar.indexCast v428
  ![v429.toNat]

def k0_chk57 (v434 : IVec S16 32) : Prop :=
  (∀ a x, ((![v434] : Fin 1 → IVec S16 32) a x).toNat < S32768.size a)
theorem k0_idx57_inb : ∀ (v434 : IVec S16 32) (k0_hw57 : k0_chk57 v434), ∀ a x, ((![v434] : Fin 1 → IVec S16 32) a x).toNat < S32768.size a := fun v434 k0_hw57 => k0_hw57
def k0_off61 (k0_t8 : Fin k0_t8_loop.trips) : Fin 1 → Nat :=
  let c0_i32_56 : BitVec 32 := 0#32
  let c1_i32_58 : BitVec 32 := 1#32
  let arg15 : BitVec 32 := Scf.iv c0_i32_56 c1_i32_58 k0_t8
  let c128_i32 : BitVec 32 := 128#32
  let v427 : BitVec 32 := Scalar.muli arg15 c128_i32
  let c16_i32_256 : BitVec 32 := 16#32
  let v435 : BitVec 32 := Scalar.addi v427 c16_i32_256
  let v436 : Index := Scalar.indexCast v435
  ![v436.toNat]

def k0_chk58 (v441 : IVec S16 32) : Prop :=
  (∀ a x, ((![v441] : Fin 1 → IVec S16 32) a x).toNat < S32768.size a)
theorem k0_idx58_inb : ∀ (v441 : IVec S16 32) (k0_hw58 : k0_chk58 v441), ∀ a x, ((![v441] : Fin 1 → IVec S16 32) a x).toNat < S32768.size a := fun v441 k0_hw58 => k0_hw58
def k0_off62 (k0_t8 : Fin k0_t8_loop.trips) : Fin 1 → Nat :=
  let c0_i32_56 : BitVec 32 := 0#32
  let c1_i32_58 : BitVec 32 := 1#32
  let arg15 : BitVec 32 := Scf.iv c0_i32_56 c1_i32_58 k0_t8
  let c128_i32 : BitVec 32 := 128#32
  let v427 : BitVec 32 := Scalar.muli arg15 c128_i32
  let c32_i32 : BitVec 32 := 32#32
  let v442 : BitVec 32 := Scalar.addi v427 c32_i32
  let v443 : Index := Scalar.indexCast v442
  ![v443.toNat]

def k0_chk59 (v448 : IVec S16 32) : Prop :=
  (∀ a x, ((![v448] : Fin 1 → IVec S16 32) a x).toNat < S32768.size a)
theorem k0_idx59_inb : ∀ (v448 : IVec S16 32) (k0_hw59 : k0_chk59 v448), ∀ a x, ((![v448] : Fin 1 → IVec S16 32) a x).toNat < S32768.size a := fun v448 k0_hw59 => k0_hw59
def k0_off63 (k0_t8 : Fin k0_t8_loop.trips) : Fin 1 → Nat :=
  let c0_i32_56 : BitVec 32 := 0#32
  let c1_i32_58 : BitVec 32 := 1#32
  let arg15 : BitVec 32 := Scf.iv c0_i32_56 c1_i32_58 k0_t8
  let c128_i32 : BitVec 32 := 128#32
  let v427 : BitVec 32 := Scalar.muli arg15 c128_i32
  let c48_i32 : BitVec 32 := 48#32
  let v449 : BitVec 32 := Scalar.addi v427 c48_i32
  let v450 : Index := Scalar.indexCast v449
  ![v450.toNat]

def k0_chk60 (v455 : IVec S16 32) : Prop :=
  (∀ a x, ((![v455] : Fin 1 → IVec S16 32) a x).toNat < S32768.size a)
theorem k0_idx60_inb : ∀ (v455 : IVec S16 32) (k0_hw60 : k0_chk60 v455), ∀ a x, ((![v455] : Fin 1 → IVec S16 32) a x).toNat < S32768.size a := fun v455 k0_hw60 => k0_hw60
def k0_off64 (k0_t8 : Fin k0_t8_loop.trips) : Fin 1 → Nat :=
  let c0_i32_56 : BitVec 32 := 0#32
  let c1_i32_58 : BitVec 32 := 1#32
  let arg15 : BitVec 32 := Scf.iv c0_i32_56 c1_i32_58 k0_t8
  let c128_i32 : BitVec 32 := 128#32
  let v427 : BitVec 32 := Scalar.muli arg15 c128_i32
  let c64_i32_263 : BitVec 32 := 64#32
  let v456 : BitVec 32 := Scalar.addi v427 c64_i32_263
  let v457 : Index := Scalar.indexCast v456
  ![v457.toNat]

def k0_chk61 (v462 : IVec S16 32) : Prop :=
  (∀ a x, ((![v462] : Fin 1 → IVec S16 32) a x).toNat < S32768.size a)
theorem k0_idx61_inb : ∀ (v462 : IVec S16 32) (k0_hw61 : k0_chk61 v462), ∀ a x, ((![v462] : Fin 1 → IVec S16 32) a x).toNat < S32768.size a := fun v462 k0_hw61 => k0_hw61
def k0_off65 (k0_t8 : Fin k0_t8_loop.trips) : Fin 1 → Nat :=
  let c0_i32_56 : BitVec 32 := 0#32
  let c1_i32_58 : BitVec 32 := 1#32
  let arg15 : BitVec 32 := Scf.iv c0_i32_56 c1_i32_58 k0_t8
  let c128_i32 : BitVec 32 := 128#32
  let v427 : BitVec 32 := Scalar.muli arg15 c128_i32
  let c80_i32 : BitVec 32 := 80#32
  let v463 : BitVec 32 := Scalar.addi v427 c80_i32
  let v464 : Index := Scalar.indexCast v463
  ![v464.toNat]

def k0_chk62 (v469 : IVec S16 32) : Prop :=
  (∀ a x, ((![v469] : Fin 1 → IVec S16 32) a x).toNat < S32768.size a)
theorem k0_idx62_inb : ∀ (v469 : IVec S16 32) (k0_hw62 : k0_chk62 v469), ∀ a x, ((![v469] : Fin 1 → IVec S16 32) a x).toNat < S32768.size a := fun v469 k0_hw62 => k0_hw62
def k0_off66 (k0_t8 : Fin k0_t8_loop.trips) : Fin 1 → Nat :=
  let c0_i32_56 : BitVec 32 := 0#32
  let c1_i32_58 : BitVec 32 := 1#32
  let arg15 : BitVec 32 := Scf.iv c0_i32_56 c1_i32_58 k0_t8
  let c128_i32 : BitVec 32 := 128#32
  let v427 : BitVec 32 := Scalar.muli arg15 c128_i32
  let c96_i32 : BitVec 32 := 96#32
  let v470 : BitVec 32 := Scalar.addi v427 c96_i32
  let v471 : Index := Scalar.indexCast v470
  ![v471.toNat]

def k0_chk63 (v476 : IVec S16 32) : Prop :=
  (∀ a x, ((![v476] : Fin 1 → IVec S16 32) a x).toNat < S32768.size a)
theorem k0_idx63_inb : ∀ (v476 : IVec S16 32) (k0_hw63 : k0_chk63 v476), ∀ a x, ((![v476] : Fin 1 → IVec S16 32) a x).toNat < S32768.size a := fun v476 k0_hw63 => k0_hw63
def k0_off67 (k0_t8 : Fin k0_t8_loop.trips) : Fin 1 → Nat :=
  let c0_i32_56 : BitVec 32 := 0#32
  let c1_i32_58 : BitVec 32 := 1#32
  let arg15 : BitVec 32 := Scf.iv c0_i32_56 c1_i32_58 k0_t8
  let c128_i32 : BitVec 32 := 128#32
  let v427 : BitVec 32 := Scalar.muli arg15 c128_i32
  let c112_i32 : BitVec 32 := 112#32
  let v477 : BitVec 32 := Scalar.addi v427 c112_i32
  let v478 : Index := Scalar.indexCast v477
  ![v478.toNat]

def k0_chk64 (v483 : IVec S16 32) : Prop :=
  (∀ a x, ((![v483] : Fin 1 → IVec S16 32) a x).toNat < S32768.size a)
theorem k0_idx64_inb : ∀ (v483 : IVec S16 32) (k0_hw64 : k0_chk64 v483), ∀ a x, ((![v483] : Fin 1 → IVec S16 32) a x).toNat < S32768.size a := fun v483 k0_hw64 => k0_hw64
@[reducible] def k0_t9_loop : Scf.Loop 32 :=
  let c0_i32_64 : BitVec 32 := 0#32
  let c64_i32_65 : BitVec 32 := 64#32
  let v123 : BitVec 32 := Scalar.addi c0_i32_64 c64_i32_65
  let c1_i32_66 : BitVec 32 := 1#32
  ⟨c0_i32_64, v123, c1_i32_66⟩
def k0_off68 (k0_t9 : Fin k0_t9_loop.trips) : Fin 1 → Nat :=
  let c0_i32_64 : BitVec 32 := 0#32
  let c1_i32_66 : BitVec 32 := 1#32
  let arg15 : BitVec 32 := Scf.iv c0_i32_64 c1_i32_66 k0_t9
  let c128_i32 : BitVec 32 := 128#32
  let v427 : BitVec 32 := Scalar.muli arg15 c128_i32
  let c0_i32_253 : BitVec 32 := 0#32
  let v428 : BitVec 32 := Scalar.addi v427 c0_i32_253
  let v429 : Index := Scalar.indexCast v428
  ![v429.toNat]

def k0_chk65 (v434 : IVec S16 32) : Prop :=
  (∀ a x, ((![v434] : Fin 1 → IVec S16 32) a x).toNat < S32768.size a)
theorem k0_idx65_inb : ∀ (v434 : IVec S16 32) (k0_hw65 : k0_chk65 v434), ∀ a x, ((![v434] : Fin 1 → IVec S16 32) a x).toNat < S32768.size a := fun v434 k0_hw65 => k0_hw65
def k0_off69 (k0_t9 : Fin k0_t9_loop.trips) : Fin 1 → Nat :=
  let c0_i32_64 : BitVec 32 := 0#32
  let c1_i32_66 : BitVec 32 := 1#32
  let arg15 : BitVec 32 := Scf.iv c0_i32_64 c1_i32_66 k0_t9
  let c128_i32 : BitVec 32 := 128#32
  let v427 : BitVec 32 := Scalar.muli arg15 c128_i32
  let c16_i32_256 : BitVec 32 := 16#32
  let v435 : BitVec 32 := Scalar.addi v427 c16_i32_256
  let v436 : Index := Scalar.indexCast v435
  ![v436.toNat]

def k0_chk66 (v441 : IVec S16 32) : Prop :=
  (∀ a x, ((![v441] : Fin 1 → IVec S16 32) a x).toNat < S32768.size a)
theorem k0_idx66_inb : ∀ (v441 : IVec S16 32) (k0_hw66 : k0_chk66 v441), ∀ a x, ((![v441] : Fin 1 → IVec S16 32) a x).toNat < S32768.size a := fun v441 k0_hw66 => k0_hw66
def k0_off70 (k0_t9 : Fin k0_t9_loop.trips) : Fin 1 → Nat :=
  let c0_i32_64 : BitVec 32 := 0#32
  let c1_i32_66 : BitVec 32 := 1#32
  let arg15 : BitVec 32 := Scf.iv c0_i32_64 c1_i32_66 k0_t9
  let c128_i32 : BitVec 32 := 128#32
  let v427 : BitVec 32 := Scalar.muli arg15 c128_i32
  let c32_i32 : BitVec 32 := 32#32
  let v442 : BitVec 32 := Scalar.addi v427 c32_i32
  let v443 : Index := Scalar.indexCast v442
  ![v443.toNat]

def k0_chk67 (v448 : IVec S16 32) : Prop :=
  (∀ a x, ((![v448] : Fin 1 → IVec S16 32) a x).toNat < S32768.size a)
theorem k0_idx67_inb : ∀ (v448 : IVec S16 32) (k0_hw67 : k0_chk67 v448), ∀ a x, ((![v448] : Fin 1 → IVec S16 32) a x).toNat < S32768.size a := fun v448 k0_hw67 => k0_hw67
def k0_off71 (k0_t9 : Fin k0_t9_loop.trips) : Fin 1 → Nat :=
  let c0_i32_64 : BitVec 32 := 0#32
  let c1_i32_66 : BitVec 32 := 1#32
  let arg15 : BitVec 32 := Scf.iv c0_i32_64 c1_i32_66 k0_t9
  let c128_i32 : BitVec 32 := 128#32
  let v427 : BitVec 32 := Scalar.muli arg15 c128_i32
  let c48_i32 : BitVec 32 := 48#32
  let v449 : BitVec 32 := Scalar.addi v427 c48_i32
  let v450 : Index := Scalar.indexCast v449
  ![v450.toNat]

def k0_chk68 (v455 : IVec S16 32) : Prop :=
  (∀ a x, ((![v455] : Fin 1 → IVec S16 32) a x).toNat < S32768.size a)
theorem k0_idx68_inb : ∀ (v455 : IVec S16 32) (k0_hw68 : k0_chk68 v455), ∀ a x, ((![v455] : Fin 1 → IVec S16 32) a x).toNat < S32768.size a := fun v455 k0_hw68 => k0_hw68
def k0_off72 (k0_t9 : Fin k0_t9_loop.trips) : Fin 1 → Nat :=
  let c0_i32_64 : BitVec 32 := 0#32
  let c1_i32_66 : BitVec 32 := 1#32
  let arg15 : BitVec 32 := Scf.iv c0_i32_64 c1_i32_66 k0_t9
  let c128_i32 : BitVec 32 := 128#32
  let v427 : BitVec 32 := Scalar.muli arg15 c128_i32
  let c64_i32_263 : BitVec 32 := 64#32
  let v456 : BitVec 32 := Scalar.addi v427 c64_i32_263
  let v457 : Index := Scalar.indexCast v456
  ![v457.toNat]

def k0_chk69 (v462 : IVec S16 32) : Prop :=
  (∀ a x, ((![v462] : Fin 1 → IVec S16 32) a x).toNat < S32768.size a)
theorem k0_idx69_inb : ∀ (v462 : IVec S16 32) (k0_hw69 : k0_chk69 v462), ∀ a x, ((![v462] : Fin 1 → IVec S16 32) a x).toNat < S32768.size a := fun v462 k0_hw69 => k0_hw69
def k0_off73 (k0_t9 : Fin k0_t9_loop.trips) : Fin 1 → Nat :=
  let c0_i32_64 : BitVec 32 := 0#32
  let c1_i32_66 : BitVec 32 := 1#32
  let arg15 : BitVec 32 := Scf.iv c0_i32_64 c1_i32_66 k0_t9
  let c128_i32 : BitVec 32 := 128#32
  let v427 : BitVec 32 := Scalar.muli arg15 c128_i32
  let c80_i32 : BitVec 32 := 80#32
  let v463 : BitVec 32 := Scalar.addi v427 c80_i32
  let v464 : Index := Scalar.indexCast v463
  ![v464.toNat]

def k0_chk70 (v469 : IVec S16 32) : Prop :=
  (∀ a x, ((![v469] : Fin 1 → IVec S16 32) a x).toNat < S32768.size a)
theorem k0_idx70_inb : ∀ (v469 : IVec S16 32) (k0_hw70 : k0_chk70 v469), ∀ a x, ((![v469] : Fin 1 → IVec S16 32) a x).toNat < S32768.size a := fun v469 k0_hw70 => k0_hw70
def k0_off74 (k0_t9 : Fin k0_t9_loop.trips) : Fin 1 → Nat :=
  let c0_i32_64 : BitVec 32 := 0#32
  let c1_i32_66 : BitVec 32 := 1#32
  let arg15 : BitVec 32 := Scf.iv c0_i32_64 c1_i32_66 k0_t9
  let c128_i32 : BitVec 32 := 128#32
  let v427 : BitVec 32 := Scalar.muli arg15 c128_i32
  let c96_i32 : BitVec 32 := 96#32
  let v470 : BitVec 32 := Scalar.addi v427 c96_i32
  let v471 : Index := Scalar.indexCast v470
  ![v471.toNat]

def k0_chk71 (v476 : IVec S16 32) : Prop :=
  (∀ a x, ((![v476] : Fin 1 → IVec S16 32) a x).toNat < S32768.size a)
theorem k0_idx71_inb : ∀ (v476 : IVec S16 32) (k0_hw71 : k0_chk71 v476), ∀ a x, ((![v476] : Fin 1 → IVec S16 32) a x).toNat < S32768.size a := fun v476 k0_hw71 => k0_hw71
def k0_off75 (k0_t9 : Fin k0_t9_loop.trips) : Fin 1 → Nat :=
  let c0_i32_64 : BitVec 32 := 0#32
  let c1_i32_66 : BitVec 32 := 1#32
  let arg15 : BitVec 32 := Scf.iv c0_i32_64 c1_i32_66 k0_t9
  let c128_i32 : BitVec 32 := 128#32
  let v427 : BitVec 32 := Scalar.muli arg15 c128_i32
  let c112_i32 : BitVec 32 := 112#32
  let v477 : BitVec 32 := Scalar.addi v427 c112_i32
  let v478 : Index := Scalar.indexCast v477
  ![v478.toNat]

def k0_chk72 (v483 : IVec S16 32) : Prop :=
  (∀ a x, ((![v483] : Fin 1 → IVec S16 32) a x).toNat < S32768.size a)
theorem k0_idx72_inb : ∀ (v483 : IVec S16 32) (k0_hw72 : k0_chk72 v483), ∀ a x, ((![v483] : Fin 1 → IVec S16 32) a x).toNat < S32768.size a := fun v483 k0_hw72 => k0_hw72
@[reducible] def k0_t10_loop : Scf.Loop 32 :=
  let c0_i32_72 : BitVec 32 := 0#32
  let c64_i32_73 : BitVec 32 := 64#32
  let v136 : BitVec 32 := Scalar.addi c0_i32_72 c64_i32_73
  let c1_i32_74 : BitVec 32 := 1#32
  ⟨c0_i32_72, v136, c1_i32_74⟩
def k0_off76 (k0_t10 : Fin k0_t10_loop.trips) : Fin 1 → Nat :=
  let c0_i32_72 : BitVec 32 := 0#32
  let c1_i32_74 : BitVec 32 := 1#32
  let arg15 : BitVec 32 := Scf.iv c0_i32_72 c1_i32_74 k0_t10
  let c128_i32 : BitVec 32 := 128#32
  let v427 : BitVec 32 := Scalar.muli arg15 c128_i32
  let c0_i32_253 : BitVec 32 := 0#32
  let v428 : BitVec 32 := Scalar.addi v427 c0_i32_253
  let v429 : Index := Scalar.indexCast v428
  ![v429.toNat]

def k0_chk73 (v434 : IVec S16 32) : Prop :=
  (∀ a x, ((![v434] : Fin 1 → IVec S16 32) a x).toNat < S32768.size a)
theorem k0_idx73_inb : ∀ (v434 : IVec S16 32) (k0_hw73 : k0_chk73 v434), ∀ a x, ((![v434] : Fin 1 → IVec S16 32) a x).toNat < S32768.size a := fun v434 k0_hw73 => k0_hw73
def k0_off77 (k0_t10 : Fin k0_t10_loop.trips) : Fin 1 → Nat :=
  let c0_i32_72 : BitVec 32 := 0#32
  let c1_i32_74 : BitVec 32 := 1#32
  let arg15 : BitVec 32 := Scf.iv c0_i32_72 c1_i32_74 k0_t10
  let c128_i32 : BitVec 32 := 128#32
  let v427 : BitVec 32 := Scalar.muli arg15 c128_i32
  let c16_i32_256 : BitVec 32 := 16#32
  let v435 : BitVec 32 := Scalar.addi v427 c16_i32_256
  let v436 : Index := Scalar.indexCast v435
  ![v436.toNat]

def k0_chk74 (v441 : IVec S16 32) : Prop :=
  (∀ a x, ((![v441] : Fin 1 → IVec S16 32) a x).toNat < S32768.size a)
theorem k0_idx74_inb : ∀ (v441 : IVec S16 32) (k0_hw74 : k0_chk74 v441), ∀ a x, ((![v441] : Fin 1 → IVec S16 32) a x).toNat < S32768.size a := fun v441 k0_hw74 => k0_hw74
def k0_off78 (k0_t10 : Fin k0_t10_loop.trips) : Fin 1 → Nat :=
  let c0_i32_72 : BitVec 32 := 0#32
  let c1_i32_74 : BitVec 32 := 1#32
  let arg15 : BitVec 32 := Scf.iv c0_i32_72 c1_i32_74 k0_t10
  let c128_i32 : BitVec 32 := 128#32
  let v427 : BitVec 32 := Scalar.muli arg15 c128_i32
  let c32_i32 : BitVec 32 := 32#32
  let v442 : BitVec 32 := Scalar.addi v427 c32_i32
  let v443 : Index := Scalar.indexCast v442
  ![v443.toNat]

def k0_chk75 (v448 : IVec S16 32) : Prop :=
  (∀ a x, ((![v448] : Fin 1 → IVec S16 32) a x).toNat < S32768.size a)
theorem k0_idx75_inb : ∀ (v448 : IVec S16 32) (k0_hw75 : k0_chk75 v448), ∀ a x, ((![v448] : Fin 1 → IVec S16 32) a x).toNat < S32768.size a := fun v448 k0_hw75 => k0_hw75
def k0_off79 (k0_t10 : Fin k0_t10_loop.trips) : Fin 1 → Nat :=
  let c0_i32_72 : BitVec 32 := 0#32
  let c1_i32_74 : BitVec 32 := 1#32
  let arg15 : BitVec 32 := Scf.iv c0_i32_72 c1_i32_74 k0_t10
  let c128_i32 : BitVec 32 := 128#32
  let v427 : BitVec 32 := Scalar.muli arg15 c128_i32
  let c48_i32 : BitVec 32 := 48#32
  let v449 : BitVec 32 := Scalar.addi v427 c48_i32
  let v450 : Index := Scalar.indexCast v449
  ![v450.toNat]

def k0_chk76 (v455 : IVec S16 32) : Prop :=
  (∀ a x, ((![v455] : Fin 1 → IVec S16 32) a x).toNat < S32768.size a)
theorem k0_idx76_inb : ∀ (v455 : IVec S16 32) (k0_hw76 : k0_chk76 v455), ∀ a x, ((![v455] : Fin 1 → IVec S16 32) a x).toNat < S32768.size a := fun v455 k0_hw76 => k0_hw76
def k0_off80 (k0_t10 : Fin k0_t10_loop.trips) : Fin 1 → Nat :=
  let c0_i32_72 : BitVec 32 := 0#32
  let c1_i32_74 : BitVec 32 := 1#32
  let arg15 : BitVec 32 := Scf.iv c0_i32_72 c1_i32_74 k0_t10
  let c128_i32 : BitVec 32 := 128#32
  let v427 : BitVec 32 := Scalar.muli arg15 c128_i32
  let c64_i32_263 : BitVec 32 := 64#32
  let v456 : BitVec 32 := Scalar.addi v427 c64_i32_263
  let v457 : Index := Scalar.indexCast v456
  ![v457.toNat]

def k0_chk77 (v462 : IVec S16 32) : Prop :=
  (∀ a x, ((![v462] : Fin 1 → IVec S16 32) a x).toNat < S32768.size a)
theorem k0_idx77_inb : ∀ (v462 : IVec S16 32) (k0_hw77 : k0_chk77 v462), ∀ a x, ((![v462] : Fin 1 → IVec S16 32) a x).toNat < S32768.size a := fun v462 k0_hw77 => k0_hw77
def k0_off81 (k0_t10 : Fin k0_t10_loop.trips) : Fin 1 → Nat :=
  let c0_i32_72 : BitVec 32 := 0#32
  let c1_i32_74 : BitVec 32 := 1#32
  let arg15 : BitVec 32 := Scf.iv c0_i32_72 c1_i32_74 k0_t10
  let c128_i32 : BitVec 32 := 128#32
  let v427 : BitVec 32 := Scalar.muli arg15 c128_i32
  let c80_i32 : BitVec 32 := 80#32
  let v463 : BitVec 32 := Scalar.addi v427 c80_i32
  let v464 : Index := Scalar.indexCast v463
  ![v464.toNat]

def k0_chk78 (v469 : IVec S16 32) : Prop :=
  (∀ a x, ((![v469] : Fin 1 → IVec S16 32) a x).toNat < S32768.size a)
theorem k0_idx78_inb : ∀ (v469 : IVec S16 32) (k0_hw78 : k0_chk78 v469), ∀ a x, ((![v469] : Fin 1 → IVec S16 32) a x).toNat < S32768.size a := fun v469 k0_hw78 => k0_hw78
def k0_off82 (k0_t10 : Fin k0_t10_loop.trips) : Fin 1 → Nat :=
  let c0_i32_72 : BitVec 32 := 0#32
  let c1_i32_74 : BitVec 32 := 1#32
  let arg15 : BitVec 32 := Scf.iv c0_i32_72 c1_i32_74 k0_t10
  let c128_i32 : BitVec 32 := 128#32
  let v427 : BitVec 32 := Scalar.muli arg15 c128_i32
  let c96_i32 : BitVec 32 := 96#32
  let v470 : BitVec 32 := Scalar.addi v427 c96_i32
  let v471 : Index := Scalar.indexCast v470
  ![v471.toNat]

def k0_chk79 (v476 : IVec S16 32) : Prop :=
  (∀ a x, ((![v476] : Fin 1 → IVec S16 32) a x).toNat < S32768.size a)
theorem k0_idx79_inb : ∀ (v476 : IVec S16 32) (k0_hw79 : k0_chk79 v476), ∀ a x, ((![v476] : Fin 1 → IVec S16 32) a x).toNat < S32768.size a := fun v476 k0_hw79 => k0_hw79
def k0_off83 (k0_t10 : Fin k0_t10_loop.trips) : Fin 1 → Nat :=
  let c0_i32_72 : BitVec 32 := 0#32
  let c1_i32_74 : BitVec 32 := 1#32
  let arg15 : BitVec 32 := Scf.iv c0_i32_72 c1_i32_74 k0_t10
  let c128_i32 : BitVec 32 := 128#32
  let v427 : BitVec 32 := Scalar.muli arg15 c128_i32
  let c112_i32 : BitVec 32 := 112#32
  let v477 : BitVec 32 := Scalar.addi v427 c112_i32
  let v478 : Index := Scalar.indexCast v477
  ![v478.toNat]

def k0_chk80 (v483 : IVec S16 32) : Prop :=
  (∀ a x, ((![v483] : Fin 1 → IVec S16 32) a x).toNat < S32768.size a)
theorem k0_idx80_inb : ∀ (v483 : IVec S16 32) (k0_hw80 : k0_chk80 v483), ∀ a x, ((![v483] : Fin 1 → IVec S16 32) a x).toNat < S32768.size a := fun v483 k0_hw80 => k0_hw80
@[reducible] def k0_t11_loop : Scf.Loop 32 :=
  let c0_i32_80 : BitVec 32 := 0#32
  let c64_i32_81 : BitVec 32 := 64#32
  let v149 : BitVec 32 := Scalar.addi c0_i32_80 c64_i32_81
  let c1_i32_82 : BitVec 32 := 1#32
  ⟨c0_i32_80, v149, c1_i32_82⟩
def k0_off84 (k0_t11 : Fin k0_t11_loop.trips) : Fin 1 → Nat :=
  let c0_i32_80 : BitVec 32 := 0#32
  let c1_i32_82 : BitVec 32 := 1#32
  let arg15 : BitVec 32 := Scf.iv c0_i32_80 c1_i32_82 k0_t11
  let c128_i32 : BitVec 32 := 128#32
  let v427 : BitVec 32 := Scalar.muli arg15 c128_i32
  let c0_i32_253 : BitVec 32 := 0#32
  let v428 : BitVec 32 := Scalar.addi v427 c0_i32_253
  let v429 : Index := Scalar.indexCast v428
  ![v429.toNat]

def k0_chk81 (v434 : IVec S16 32) : Prop :=
  (∀ a x, ((![v434] : Fin 1 → IVec S16 32) a x).toNat < S32768.size a)
theorem k0_idx81_inb : ∀ (v434 : IVec S16 32) (k0_hw81 : k0_chk81 v434), ∀ a x, ((![v434] : Fin 1 → IVec S16 32) a x).toNat < S32768.size a := fun v434 k0_hw81 => k0_hw81
def k0_off85 (k0_t11 : Fin k0_t11_loop.trips) : Fin 1 → Nat :=
  let c0_i32_80 : BitVec 32 := 0#32
  let c1_i32_82 : BitVec 32 := 1#32
  let arg15 : BitVec 32 := Scf.iv c0_i32_80 c1_i32_82 k0_t11
  let c128_i32 : BitVec 32 := 128#32
  let v427 : BitVec 32 := Scalar.muli arg15 c128_i32
  let c16_i32_256 : BitVec 32 := 16#32
  let v435 : BitVec 32 := Scalar.addi v427 c16_i32_256
  let v436 : Index := Scalar.indexCast v435
  ![v436.toNat]

def k0_chk82 (v441 : IVec S16 32) : Prop :=
  (∀ a x, ((![v441] : Fin 1 → IVec S16 32) a x).toNat < S32768.size a)
theorem k0_idx82_inb : ∀ (v441 : IVec S16 32) (k0_hw82 : k0_chk82 v441), ∀ a x, ((![v441] : Fin 1 → IVec S16 32) a x).toNat < S32768.size a := fun v441 k0_hw82 => k0_hw82
def k0_off86 (k0_t11 : Fin k0_t11_loop.trips) : Fin 1 → Nat :=
  let c0_i32_80 : BitVec 32 := 0#32
  let c1_i32_82 : BitVec 32 := 1#32
  let arg15 : BitVec 32 := Scf.iv c0_i32_80 c1_i32_82 k0_t11
  let c128_i32 : BitVec 32 := 128#32
  let v427 : BitVec 32 := Scalar.muli arg15 c128_i32
  let c32_i32 : BitVec 32 := 32#32
  let v442 : BitVec 32 := Scalar.addi v427 c32_i32
  let v443 : Index := Scalar.indexCast v442
  ![v443.toNat]

def k0_chk83 (v448 : IVec S16 32) : Prop :=
  (∀ a x, ((![v448] : Fin 1 → IVec S16 32) a x).toNat < S32768.size a)
theorem k0_idx83_inb : ∀ (v448 : IVec S16 32) (k0_hw83 : k0_chk83 v448), ∀ a x, ((![v448] : Fin 1 → IVec S16 32) a x).toNat < S32768.size a := fun v448 k0_hw83 => k0_hw83
def k0_off87 (k0_t11 : Fin k0_t11_loop.trips) : Fin 1 → Nat :=
  let c0_i32_80 : BitVec 32 := 0#32
  let c1_i32_82 : BitVec 32 := 1#32
  let arg15 : BitVec 32 := Scf.iv c0_i32_80 c1_i32_82 k0_t11
  let c128_i32 : BitVec 32 := 128#32
  let v427 : BitVec 32 := Scalar.muli arg15 c128_i32
  let c48_i32 : BitVec 32 := 48#32
  let v449 : BitVec 32 := Scalar.addi v427 c48_i32
  let v450 : Index := Scalar.indexCast v449
  ![v450.toNat]

def k0_chk84 (v455 : IVec S16 32) : Prop :=
  (∀ a x, ((![v455] : Fin 1 → IVec S16 32) a x).toNat < S32768.size a)
theorem k0_idx84_inb : ∀ (v455 : IVec S16 32) (k0_hw84 : k0_chk84 v455), ∀ a x, ((![v455] : Fin 1 → IVec S16 32) a x).toNat < S32768.size a := fun v455 k0_hw84 => k0_hw84
def k0_off88 (k0_t11 : Fin k0_t11_loop.trips) : Fin 1 → Nat :=
  let c0_i32_80 : BitVec 32 := 0#32
  let c1_i32_82 : BitVec 32 := 1#32
  let arg15 : BitVec 32 := Scf.iv c0_i32_80 c1_i32_82 k0_t11
  let c128_i32 : BitVec 32 := 128#32
  let v427 : BitVec 32 := Scalar.muli arg15 c128_i32
  let c64_i32_263 : BitVec 32 := 64#32
  let v456 : BitVec 32 := Scalar.addi v427 c64_i32_263
  let v457 : Index := Scalar.indexCast v456
  ![v457.toNat]

def k0_chk85 (v462 : IVec S16 32) : Prop :=
  (∀ a x, ((![v462] : Fin 1 → IVec S16 32) a x).toNat < S32768.size a)
theorem k0_idx85_inb : ∀ (v462 : IVec S16 32) (k0_hw85 : k0_chk85 v462), ∀ a x, ((![v462] : Fin 1 → IVec S16 32) a x).toNat < S32768.size a := fun v462 k0_hw85 => k0_hw85
def k0_off89 (k0_t11 : Fin k0_t11_loop.trips) : Fin 1 → Nat :=
  let c0_i32_80 : BitVec 32 := 0#32
  let c1_i32_82 : BitVec 32 := 1#32
  let arg15 : BitVec 32 := Scf.iv c0_i32_80 c1_i32_82 k0_t11
  let c128_i32 : BitVec 32 := 128#32
  let v427 : BitVec 32 := Scalar.muli arg15 c128_i32
  let c80_i32 : BitVec 32 := 80#32
  let v463 : BitVec 32 := Scalar.addi v427 c80_i32
  let v464 : Index := Scalar.indexCast v463
  ![v464.toNat]

def k0_chk86 (v469 : IVec S16 32) : Prop :=
  (∀ a x, ((![v469] : Fin 1 → IVec S16 32) a x).toNat < S32768.size a)
theorem k0_idx86_inb : ∀ (v469 : IVec S16 32) (k0_hw86 : k0_chk86 v469), ∀ a x, ((![v469] : Fin 1 → IVec S16 32) a x).toNat < S32768.size a := fun v469 k0_hw86 => k0_hw86
def k0_off90 (k0_t11 : Fin k0_t11_loop.trips) : Fin 1 → Nat :=
  let c0_i32_80 : BitVec 32 := 0#32
  let c1_i32_82 : BitVec 32 := 1#32
  let arg15 : BitVec 32 := Scf.iv c0_i32_80 c1_i32_82 k0_t11
  let c128_i32 : BitVec 32 := 128#32
  let v427 : BitVec 32 := Scalar.muli arg15 c128_i32
  let c96_i32 : BitVec 32 := 96#32
  let v470 : BitVec 32 := Scalar.addi v427 c96_i32
  let v471 : Index := Scalar.indexCast v470
  ![v471.toNat]

def k0_chk87 (v476 : IVec S16 32) : Prop :=
  (∀ a x, ((![v476] : Fin 1 → IVec S16 32) a x).toNat < S32768.size a)
theorem k0_idx87_inb : ∀ (v476 : IVec S16 32) (k0_hw87 : k0_chk87 v476), ∀ a x, ((![v476] : Fin 1 → IVec S16 32) a x).toNat < S32768.size a := fun v476 k0_hw87 => k0_hw87
def k0_off91 (k0_t11 : Fin k0_t11_loop.trips) : Fin 1 → Nat :=
  let c0_i32_80 : BitVec 32 := 0#32
  let c1_i32_82 : BitVec 32 := 1#32
  let arg15 : BitVec 32 := Scf.iv c0_i32_80 c1_i32_82 k0_t11
  let c128_i32 : BitVec 32 := 128#32
  let v427 : BitVec 32 := Scalar.muli arg15 c128_i32
  let c112_i32 : BitVec 32 := 112#32
  let v477 : BitVec 32 := Scalar.addi v427 c112_i32
  let v478 : Index := Scalar.indexCast v477
  ![v478.toNat]

def k0_chk88 (v483 : IVec S16 32) : Prop :=
  (∀ a x, ((![v483] : Fin 1 → IVec S16 32) a x).toNat < S32768.size a)
theorem k0_idx88_inb : ∀ (v483 : IVec S16 32) (k0_hw88 : k0_chk88 v483), ∀ a x, ((![v483] : Fin 1 → IVec S16 32) a x).toNat < S32768.size a := fun v483 k0_hw88 => k0_hw88
@[reducible] def k0_t12_loop : Scf.Loop 32 :=
  let c0_i32_88 : BitVec 32 := 0#32
  let c64_i32_89 : BitVec 32 := 64#32
  let v162 : BitVec 32 := Scalar.addi c0_i32_88 c64_i32_89
  let c1_i32_90 : BitVec 32 := 1#32
  ⟨c0_i32_88, v162, c1_i32_90⟩
def k0_off92 (k0_t12 : Fin k0_t12_loop.trips) : Fin 1 → Nat :=
  let c0_i32_88 : BitVec 32 := 0#32
  let c1_i32_90 : BitVec 32 := 1#32
  let arg15 : BitVec 32 := Scf.iv c0_i32_88 c1_i32_90 k0_t12
  let c128_i32 : BitVec 32 := 128#32
  let v427 : BitVec 32 := Scalar.muli arg15 c128_i32
  let c0_i32_253 : BitVec 32 := 0#32
  let v428 : BitVec 32 := Scalar.addi v427 c0_i32_253
  let v429 : Index := Scalar.indexCast v428
  ![v429.toNat]

def k0_chk89 (v434 : IVec S16 32) : Prop :=
  (∀ a x, ((![v434] : Fin 1 → IVec S16 32) a x).toNat < S32768.size a)
theorem k0_idx89_inb : ∀ (v434 : IVec S16 32) (k0_hw89 : k0_chk89 v434), ∀ a x, ((![v434] : Fin 1 → IVec S16 32) a x).toNat < S32768.size a := fun v434 k0_hw89 => k0_hw89
def k0_off93 (k0_t12 : Fin k0_t12_loop.trips) : Fin 1 → Nat :=
  let c0_i32_88 : BitVec 32 := 0#32
  let c1_i32_90 : BitVec 32 := 1#32
  let arg15 : BitVec 32 := Scf.iv c0_i32_88 c1_i32_90 k0_t12
  let c128_i32 : BitVec 32 := 128#32
  let v427 : BitVec 32 := Scalar.muli arg15 c128_i32
  let c16_i32_256 : BitVec 32 := 16#32
  let v435 : BitVec 32 := Scalar.addi v427 c16_i32_256
  let v436 : Index := Scalar.indexCast v435
  ![v436.toNat]

def k0_chk90 (v441 : IVec S16 32) : Prop :=
  (∀ a x, ((![v441] : Fin 1 → IVec S16 32) a x).toNat < S32768.size a)
theorem k0_idx90_inb : ∀ (v441 : IVec S16 32) (k0_hw90 : k0_chk90 v441), ∀ a x, ((![v441] : Fin 1 → IVec S16 32) a x).toNat < S32768.size a := fun v441 k0_hw90 => k0_hw90
def k0_off94 (k0_t12 : Fin k0_t12_loop.trips) : Fin 1 → Nat :=
  let c0_i32_88 : BitVec 32 := 0#32
  let c1_i32_90 : BitVec 32 := 1#32
  let arg15 : BitVec 32 := Scf.iv c0_i32_88 c1_i32_90 k0_t12
  let c128_i32 : BitVec 32 := 128#32
  let v427 : BitVec 32 := Scalar.muli arg15 c128_i32
  let c32_i32 : BitVec 32 := 32#32
  let v442 : BitVec 32 := Scalar.addi v427 c32_i32
  let v443 : Index := Scalar.indexCast v442
  ![v443.toNat]

def k0_chk91 (v448 : IVec S16 32) : Prop :=
  (∀ a x, ((![v448] : Fin 1 → IVec S16 32) a x).toNat < S32768.size a)
theorem k0_idx91_inb : ∀ (v448 : IVec S16 32) (k0_hw91 : k0_chk91 v448), ∀ a x, ((![v448] : Fin 1 → IVec S16 32) a x).toNat < S32768.size a := fun v448 k0_hw91 => k0_hw91
def k0_off95 (k0_t12 : Fin k0_t12_loop.trips) : Fin 1 → Nat :=
  let c0_i32_88 : BitVec 32 := 0#32
  let c1_i32_90 : BitVec 32 := 1#32
  let arg15 : BitVec 32 := Scf.iv c0_i32_88 c1_i32_90 k0_t12
  let c128_i32 : BitVec 32 := 128#32
  let v427 : BitVec 32 := Scalar.muli arg15 c128_i32
  let c48_i32 : BitVec 32 := 48#32
  let v449 : BitVec 32 := Scalar.addi v427 c48_i32
  let v450 : Index := Scalar.indexCast v449
  ![v450.toNat]

def k0_chk92 (v455 : IVec S16 32) : Prop :=
  (∀ a x, ((![v455] : Fin 1 → IVec S16 32) a x).toNat < S32768.size a)
theorem k0_idx92_inb : ∀ (v455 : IVec S16 32) (k0_hw92 : k0_chk92 v455), ∀ a x, ((![v455] : Fin 1 → IVec S16 32) a x).toNat < S32768.size a := fun v455 k0_hw92 => k0_hw92
def k0_off96 (k0_t12 : Fin k0_t12_loop.trips) : Fin 1 → Nat :=
  let c0_i32_88 : BitVec 32 := 0#32
  let c1_i32_90 : BitVec 32 := 1#32
  let arg15 : BitVec 32 := Scf.iv c0_i32_88 c1_i32_90 k0_t12
  let c128_i32 : BitVec 32 := 128#32
  let v427 : BitVec 32 := Scalar.muli arg15 c128_i32
  let c64_i32_263 : BitVec 32 := 64#32
  let v456 : BitVec 32 := Scalar.addi v427 c64_i32_263
  let v457 : Index := Scalar.indexCast v456
  ![v457.toNat]

def k0_chk93 (v462 : IVec S16 32) : Prop :=
  (∀ a x, ((![v462] : Fin 1 → IVec S16 32) a x).toNat < S32768.size a)
theorem k0_idx93_inb : ∀ (v462 : IVec S16 32) (k0_hw93 : k0_chk93 v462), ∀ a x, ((![v462] : Fin 1 → IVec S16 32) a x).toNat < S32768.size a := fun v462 k0_hw93 => k0_hw93
def k0_off97 (k0_t12 : Fin k0_t12_loop.trips) : Fin 1 → Nat :=
  let c0_i32_88 : BitVec 32 := 0#32
  let c1_i32_90 : BitVec 32 := 1#32
  let arg15 : BitVec 32 := Scf.iv c0_i32_88 c1_i32_90 k0_t12
  let c128_i32 : BitVec 32 := 128#32
  let v427 : BitVec 32 := Scalar.muli arg15 c128_i32
  let c80_i32 : BitVec 32 := 80#32
  let v463 : BitVec 32 := Scalar.addi v427 c80_i32
  let v464 : Index := Scalar.indexCast v463
  ![v464.toNat]

def k0_chk94 (v469 : IVec S16 32) : Prop :=
  (∀ a x, ((![v469] : Fin 1 → IVec S16 32) a x).toNat < S32768.size a)
theorem k0_idx94_inb : ∀ (v469 : IVec S16 32) (k0_hw94 : k0_chk94 v469), ∀ a x, ((![v469] : Fin 1 → IVec S16 32) a x).toNat < S32768.size a := fun v469 k0_hw94 => k0_hw94
def k0_off98 (k0_t12 : Fin k0_t12_loop.trips) : Fin 1 → Nat :=
  let c0_i32_88 : BitVec 32 := 0#32
  let c1_i32_90 : BitVec 32 := 1#32
  let arg15 : BitVec 32 := Scf.iv c0_i32_88 c1_i32_90 k0_t12
  let c128_i32 : BitVec 32 := 128#32
  let v427 : BitVec 32 := Scalar.muli arg15 c128_i32
  let c96_i32 : BitVec 32 := 96#32
  let v470 : BitVec 32 := Scalar.addi v427 c96_i32
  let v471 : Index := Scalar.indexCast v470
  ![v471.toNat]

def k0_chk95 (v476 : IVec S16 32) : Prop :=
  (∀ a x, ((![v476] : Fin 1 → IVec S16 32) a x).toNat < S32768.size a)
theorem k0_idx95_inb : ∀ (v476 : IVec S16 32) (k0_hw95 : k0_chk95 v476), ∀ a x, ((![v476] : Fin 1 → IVec S16 32) a x).toNat < S32768.size a := fun v476 k0_hw95 => k0_hw95
def k0_off99 (k0_t12 : Fin k0_t12_loop.trips) : Fin 1 → Nat :=
  let c0_i32_88 : BitVec 32 := 0#32
  let c1_i32_90 : BitVec 32 := 1#32
  let arg15 : BitVec 32 := Scf.iv c0_i32_88 c1_i32_90 k0_t12
  let c128_i32 : BitVec 32 := 128#32
  let v427 : BitVec 32 := Scalar.muli arg15 c128_i32
  let c112_i32 : BitVec 32 := 112#32
  let v477 : BitVec 32 := Scalar.addi v427 c112_i32
  let v478 : Index := Scalar.indexCast v477
  ![v478.toNat]

def k0_chk96 (v483 : IVec S16 32) : Prop :=
  (∀ a x, ((![v483] : Fin 1 → IVec S16 32) a x).toNat < S32768.size a)
theorem k0_idx96_inb : ∀ (v483 : IVec S16 32) (k0_hw96 : k0_chk96 v483), ∀ a x, ((![v483] : Fin 1 → IVec S16 32) a x).toNat < S32768.size a := fun v483 k0_hw96 => k0_hw96
@[reducible] def k0_t13_loop : Scf.Loop 32 :=
  let c0_i32_96 : BitVec 32 := 0#32
  let c64_i32_97 : BitVec 32 := 64#32
  let v175 : BitVec 32 := Scalar.addi c0_i32_96 c64_i32_97
  let c1_i32_98 : BitVec 32 := 1#32
  ⟨c0_i32_96, v175, c1_i32_98⟩
def k0_off100 (k0_t13 : Fin k0_t13_loop.trips) : Fin 1 → Nat :=
  let c0_i32_96 : BitVec 32 := 0#32
  let c1_i32_98 : BitVec 32 := 1#32
  let arg15 : BitVec 32 := Scf.iv c0_i32_96 c1_i32_98 k0_t13
  let c128_i32 : BitVec 32 := 128#32
  let v427 : BitVec 32 := Scalar.muli arg15 c128_i32
  let c0_i32_253 : BitVec 32 := 0#32
  let v428 : BitVec 32 := Scalar.addi v427 c0_i32_253
  let v429 : Index := Scalar.indexCast v428
  ![v429.toNat]

def k0_chk97 (v434 : IVec S16 32) : Prop :=
  (∀ a x, ((![v434] : Fin 1 → IVec S16 32) a x).toNat < S32768.size a)
theorem k0_idx97_inb : ∀ (v434 : IVec S16 32) (k0_hw97 : k0_chk97 v434), ∀ a x, ((![v434] : Fin 1 → IVec S16 32) a x).toNat < S32768.size a := fun v434 k0_hw97 => k0_hw97
def k0_off101 (k0_t13 : Fin k0_t13_loop.trips) : Fin 1 → Nat :=
  let c0_i32_96 : BitVec 32 := 0#32
  let c1_i32_98 : BitVec 32 := 1#32
  let arg15 : BitVec 32 := Scf.iv c0_i32_96 c1_i32_98 k0_t13
  let c128_i32 : BitVec 32 := 128#32
  let v427 : BitVec 32 := Scalar.muli arg15 c128_i32
  let c16_i32_256 : BitVec 32 := 16#32
  let v435 : BitVec 32 := Scalar.addi v427 c16_i32_256
  let v436 : Index := Scalar.indexCast v435
  ![v436.toNat]

def k0_chk98 (v441 : IVec S16 32) : Prop :=
  (∀ a x, ((![v441] : Fin 1 → IVec S16 32) a x).toNat < S32768.size a)
theorem k0_idx98_inb : ∀ (v441 : IVec S16 32) (k0_hw98 : k0_chk98 v441), ∀ a x, ((![v441] : Fin 1 → IVec S16 32) a x).toNat < S32768.size a := fun v441 k0_hw98 => k0_hw98
def k0_off102 (k0_t13 : Fin k0_t13_loop.trips) : Fin 1 → Nat :=
  let c0_i32_96 : BitVec 32 := 0#32
  let c1_i32_98 : BitVec 32 := 1#32
  let arg15 : BitVec 32 := Scf.iv c0_i32_96 c1_i32_98 k0_t13
  let c128_i32 : BitVec 32 := 128#32
  let v427 : BitVec 32 := Scalar.muli arg15 c128_i32
  let c32_i32 : BitVec 32 := 32#32
  let v442 : BitVec 32 := Scalar.addi v427 c32_i32
  let v443 : Index := Scalar.indexCast v442
  ![v443.toNat]

def k0_chk99 (v448 : IVec S16 32) : Prop :=
  (∀ a x, ((![v448] : Fin 1 → IVec S16 32) a x).toNat < S32768.size a)
theorem k0_idx99_inb : ∀ (v448 : IVec S16 32) (k0_hw99 : k0_chk99 v448), ∀ a x, ((![v448] : Fin 1 → IVec S16 32) a x).toNat < S32768.size a := fun v448 k0_hw99 => k0_hw99
def k0_off103 (k0_t13 : Fin k0_t13_loop.trips) : Fin 1 → Nat :=
  let c0_i32_96 : BitVec 32 := 0#32
  let c1_i32_98 : BitVec 32 := 1#32
  let arg15 : BitVec 32 := Scf.iv c0_i32_96 c1_i32_98 k0_t13
  let c128_i32 : BitVec 32 := 128#32
  let v427 : BitVec 32 := Scalar.muli arg15 c128_i32
  let c48_i32 : BitVec 32 := 48#32
  let v449 : BitVec 32 := Scalar.addi v427 c48_i32
  let v450 : Index := Scalar.indexCast v449
  ![v450.toNat]

def k0_chk100 (v455 : IVec S16 32) : Prop :=
  (∀ a x, ((![v455] : Fin 1 → IVec S16 32) a x).toNat < S32768.size a)
theorem k0_idx100_inb : ∀ (v455 : IVec S16 32) (k0_hw100 : k0_chk100 v455), ∀ a x, ((![v455] : Fin 1 → IVec S16 32) a x).toNat < S32768.size a := fun v455 k0_hw100 => k0_hw100
def k0_off104 (k0_t13 : Fin k0_t13_loop.trips) : Fin 1 → Nat :=
  let c0_i32_96 : BitVec 32 := 0#32
  let c1_i32_98 : BitVec 32 := 1#32
  let arg15 : BitVec 32 := Scf.iv c0_i32_96 c1_i32_98 k0_t13
  let c128_i32 : BitVec 32 := 128#32
  let v427 : BitVec 32 := Scalar.muli arg15 c128_i32
  let c64_i32_263 : BitVec 32 := 64#32
  let v456 : BitVec 32 := Scalar.addi v427 c64_i32_263
  let v457 : Index := Scalar.indexCast v456
  ![v457.toNat]

def k0_chk101 (v462 : IVec S16 32) : Prop :=
  (∀ a x, ((![v462] : Fin 1 → IVec S16 32) a x).toNat < S32768.size a)
theorem k0_idx101_inb : ∀ (v462 : IVec S16 32) (k0_hw101 : k0_chk101 v462), ∀ a x, ((![v462] : Fin 1 → IVec S16 32) a x).toNat < S32768.size a := fun v462 k0_hw101 => k0_hw101
def k0_off105 (k0_t13 : Fin k0_t13_loop.trips) : Fin 1 → Nat :=
  let c0_i32_96 : BitVec 32 := 0#32
  let c1_i32_98 : BitVec 32 := 1#32
  let arg15 : BitVec 32 := Scf.iv c0_i32_96 c1_i32_98 k0_t13
  let c128_i32 : BitVec 32 := 128#32
  let v427 : BitVec 32 := Scalar.muli arg15 c128_i32
  let c80_i32 : BitVec 32 := 80#32
  let v463 : BitVec 32 := Scalar.addi v427 c80_i32
  let v464 : Index := Scalar.indexCast v463
  ![v464.toNat]

def k0_chk102 (v469 : IVec S16 32) : Prop :=
  (∀ a x, ((![v469] : Fin 1 → IVec S16 32) a x).toNat < S32768.size a)
theorem k0_idx102_inb : ∀ (v469 : IVec S16 32) (k0_hw102 : k0_chk102 v469), ∀ a x, ((![v469] : Fin 1 → IVec S16 32) a x).toNat < S32768.size a := fun v469 k0_hw102 => k0_hw102
def k0_off106 (k0_t13 : Fin k0_t13_loop.trips) : Fin 1 → Nat :=
  let c0_i32_96 : BitVec 32 := 0#32
  let c1_i32_98 : BitVec 32 := 1#32
  let arg15 : BitVec 32 := Scf.iv c0_i32_96 c1_i32_98 k0_t13
  let c128_i32 : BitVec 32 := 128#32
  let v427 : BitVec 32 := Scalar.muli arg15 c128_i32
  let c96_i32 : BitVec 32 := 96#32
  let v470 : BitVec 32 := Scalar.addi v427 c96_i32
  let v471 : Index := Scalar.indexCast v470
  ![v471.toNat]

def k0_chk103 (v476 : IVec S16 32) : Prop :=
  (∀ a x, ((![v476] : Fin 1 → IVec S16 32) a x).toNat < S32768.size a)
theorem k0_idx103_inb : ∀ (v476 : IVec S16 32) (k0_hw103 : k0_chk103 v476), ∀ a x, ((![v476] : Fin 1 → IVec S16 32) a x).toNat < S32768.size a := fun v476 k0_hw103 => k0_hw103
def k0_off107 (k0_t13 : Fin k0_t13_loop.trips) : Fin 1 → Nat :=
  let c0_i32_96 : BitVec 32 := 0#32
  let c1_i32_98 : BitVec 32 := 1#32
  let arg15 : BitVec 32 := Scf.iv c0_i32_96 c1_i32_98 k0_t13
  let c128_i32 : BitVec 32 := 128#32
  let v427 : BitVec 32 := Scalar.muli arg15 c128_i32
  let c112_i32 : BitVec 32 := 112#32
  let v477 : BitVec 32 := Scalar.addi v427 c112_i32
  let v478 : Index := Scalar.indexCast v477
  ![v478.toNat]

def k0_chk104 (v483 : IVec S16 32) : Prop :=
  (∀ a x, ((![v483] : Fin 1 → IVec S16 32) a x).toNat < S32768.size a)
theorem k0_idx104_inb : ∀ (v483 : IVec S16 32) (k0_hw104 : k0_chk104 v483), ∀ a x, ((![v483] : Fin 1 → IVec S16 32) a x).toNat < S32768.size a := fun v483 k0_hw104 => k0_hw104
@[reducible] def k0_t14_loop : Scf.Loop 32 :=
  let c0_i32_104 : BitVec 32 := 0#32
  let c64_i32_105 : BitVec 32 := 64#32
  let v188 : BitVec 32 := Scalar.addi c0_i32_104 c64_i32_105
  let c1_i32_106 : BitVec 32 := 1#32
  ⟨c0_i32_104, v188, c1_i32_106⟩
def k0_off108 (k0_t14 : Fin k0_t14_loop.trips) : Fin 1 → Nat :=
  let c0_i32_104 : BitVec 32 := 0#32
  let c1_i32_106 : BitVec 32 := 1#32
  let arg15 : BitVec 32 := Scf.iv c0_i32_104 c1_i32_106 k0_t14
  let c128_i32 : BitVec 32 := 128#32
  let v427 : BitVec 32 := Scalar.muli arg15 c128_i32
  let c0_i32_253 : BitVec 32 := 0#32
  let v428 : BitVec 32 := Scalar.addi v427 c0_i32_253
  let v429 : Index := Scalar.indexCast v428
  ![v429.toNat]

def k0_chk105 (v434 : IVec S16 32) : Prop :=
  (∀ a x, ((![v434] : Fin 1 → IVec S16 32) a x).toNat < S32768.size a)
theorem k0_idx105_inb : ∀ (v434 : IVec S16 32) (k0_hw105 : k0_chk105 v434), ∀ a x, ((![v434] : Fin 1 → IVec S16 32) a x).toNat < S32768.size a := fun v434 k0_hw105 => k0_hw105
def k0_off109 (k0_t14 : Fin k0_t14_loop.trips) : Fin 1 → Nat :=
  let c0_i32_104 : BitVec 32 := 0#32
  let c1_i32_106 : BitVec 32 := 1#32
  let arg15 : BitVec 32 := Scf.iv c0_i32_104 c1_i32_106 k0_t14
  let c128_i32 : BitVec 32 := 128#32
  let v427 : BitVec 32 := Scalar.muli arg15 c128_i32
  let c16_i32_256 : BitVec 32 := 16#32
  let v435 : BitVec 32 := Scalar.addi v427 c16_i32_256
  let v436 : Index := Scalar.indexCast v435
  ![v436.toNat]

def k0_chk106 (v441 : IVec S16 32) : Prop :=
  (∀ a x, ((![v441] : Fin 1 → IVec S16 32) a x).toNat < S32768.size a)
theorem k0_idx106_inb : ∀ (v441 : IVec S16 32) (k0_hw106 : k0_chk106 v441), ∀ a x, ((![v441] : Fin 1 → IVec S16 32) a x).toNat < S32768.size a := fun v441 k0_hw106 => k0_hw106
def k0_off110 (k0_t14 : Fin k0_t14_loop.trips) : Fin 1 → Nat :=
  let c0_i32_104 : BitVec 32 := 0#32
  let c1_i32_106 : BitVec 32 := 1#32
  let arg15 : BitVec 32 := Scf.iv c0_i32_104 c1_i32_106 k0_t14
  let c128_i32 : BitVec 32 := 128#32
  let v427 : BitVec 32 := Scalar.muli arg15 c128_i32
  let c32_i32 : BitVec 32 := 32#32
  let v442 : BitVec 32 := Scalar.addi v427 c32_i32
  let v443 : Index := Scalar.indexCast v442
  ![v443.toNat]

def k0_chk107 (v448 : IVec S16 32) : Prop :=
  (∀ a x, ((![v448] : Fin 1 → IVec S16 32) a x).toNat < S32768.size a)
theorem k0_idx107_inb : ∀ (v448 : IVec S16 32) (k0_hw107 : k0_chk107 v448), ∀ a x, ((![v448] : Fin 1 → IVec S16 32) a x).toNat < S32768.size a := fun v448 k0_hw107 => k0_hw107
def k0_off111 (k0_t14 : Fin k0_t14_loop.trips) : Fin 1 → Nat :=
  let c0_i32_104 : BitVec 32 := 0#32
  let c1_i32_106 : BitVec 32 := 1#32
  let arg15 : BitVec 32 := Scf.iv c0_i32_104 c1_i32_106 k0_t14
  let c128_i32 : BitVec 32 := 128#32
  let v427 : BitVec 32 := Scalar.muli arg15 c128_i32
  let c48_i32 : BitVec 32 := 48#32
  let v449 : BitVec 32 := Scalar.addi v427 c48_i32
  let v450 : Index := Scalar.indexCast v449
  ![v450.toNat]

def k0_chk108 (v455 : IVec S16 32) : Prop :=
  (∀ a x, ((![v455] : Fin 1 → IVec S16 32) a x).toNat < S32768.size a)
theorem k0_idx108_inb : ∀ (v455 : IVec S16 32) (k0_hw108 : k0_chk108 v455), ∀ a x, ((![v455] : Fin 1 → IVec S16 32) a x).toNat < S32768.size a := fun v455 k0_hw108 => k0_hw108
def k0_off112 (k0_t14 : Fin k0_t14_loop.trips) : Fin 1 → Nat :=
  let c0_i32_104 : BitVec 32 := 0#32
  let c1_i32_106 : BitVec 32 := 1#32
  let arg15 : BitVec 32 := Scf.iv c0_i32_104 c1_i32_106 k0_t14
  let c128_i32 : BitVec 32 := 128#32
  let v427 : BitVec 32 := Scalar.muli arg15 c128_i32
  let c64_i32_263 : BitVec 32 := 64#32
  let v456 : BitVec 32 := Scalar.addi v427 c64_i32_263
  let v457 : Index := Scalar.indexCast v456
  ![v457.toNat]

def k0_chk109 (v462 : IVec S16 32) : Prop :=
  (∀ a x, ((![v462] : Fin 1 → IVec S16 32) a x).toNat < S32768.size a)
theorem k0_idx109_inb : ∀ (v462 : IVec S16 32) (k0_hw109 : k0_chk109 v462), ∀ a x, ((![v462] : Fin 1 → IVec S16 32) a x).toNat < S32768.size a := fun v462 k0_hw109 => k0_hw109
def k0_off113 (k0_t14 : Fin k0_t14_loop.trips) : Fin 1 → Nat :=
  let c0_i32_104 : BitVec 32 := 0#32
  let c1_i32_106 : BitVec 32 := 1#32
  let arg15 : BitVec 32 := Scf.iv c0_i32_104 c1_i32_106 k0_t14
  let c128_i32 : BitVec 32 := 128#32
  let v427 : BitVec 32 := Scalar.muli arg15 c128_i32
  let c80_i32 : BitVec 32 := 80#32
  let v463 : BitVec 32 := Scalar.addi v427 c80_i32
  let v464 : Index := Scalar.indexCast v463
  ![v464.toNat]

def k0_chk110 (v469 : IVec S16 32) : Prop :=
  (∀ a x, ((![v469] : Fin 1 → IVec S16 32) a x).toNat < S32768.size a)
theorem k0_idx110_inb : ∀ (v469 : IVec S16 32) (k0_hw110 : k0_chk110 v469), ∀ a x, ((![v469] : Fin 1 → IVec S16 32) a x).toNat < S32768.size a := fun v469 k0_hw110 => k0_hw110
def k0_off114 (k0_t14 : Fin k0_t14_loop.trips) : Fin 1 → Nat :=
  let c0_i32_104 : BitVec 32 := 0#32
  let c1_i32_106 : BitVec 32 := 1#32
  let arg15 : BitVec 32 := Scf.iv c0_i32_104 c1_i32_106 k0_t14
  let c128_i32 : BitVec 32 := 128#32
  let v427 : BitVec 32 := Scalar.muli arg15 c128_i32
  let c96_i32 : BitVec 32 := 96#32
  let v470 : BitVec 32 := Scalar.addi v427 c96_i32
  let v471 : Index := Scalar.indexCast v470
  ![v471.toNat]

def k0_chk111 (v476 : IVec S16 32) : Prop :=
  (∀ a x, ((![v476] : Fin 1 → IVec S16 32) a x).toNat < S32768.size a)
theorem k0_idx111_inb : ∀ (v476 : IVec S16 32) (k0_hw111 : k0_chk111 v476), ∀ a x, ((![v476] : Fin 1 → IVec S16 32) a x).toNat < S32768.size a := fun v476 k0_hw111 => k0_hw111
def k0_off115 (k0_t14 : Fin k0_t14_loop.trips) : Fin 1 → Nat :=
  let c0_i32_104 : BitVec 32 := 0#32
  let c1_i32_106 : BitVec 32 := 1#32
  let arg15 : BitVec 32 := Scf.iv c0_i32_104 c1_i32_106 k0_t14
  let c128_i32 : BitVec 32 := 128#32
  let v427 : BitVec 32 := Scalar.muli arg15 c128_i32
  let c112_i32 : BitVec 32 := 112#32
  let v477 : BitVec 32 := Scalar.addi v427 c112_i32
  let v478 : Index := Scalar.indexCast v477
  ![v478.toNat]

def k0_chk112 (v483 : IVec S16 32) : Prop :=
  (∀ a x, ((![v483] : Fin 1 → IVec S16 32) a x).toNat < S32768.size a)
theorem k0_idx112_inb : ∀ (v483 : IVec S16 32) (k0_hw112 : k0_chk112 v483), ∀ a x, ((![v483] : Fin 1 → IVec S16 32) a x).toNat < S32768.size a := fun v483 k0_hw112 => k0_hw112
@[reducible] def k0_t15_loop : Scf.Loop 32 :=
  let c0_i32_112 : BitVec 32 := 0#32
  let c64_i32_113 : BitVec 32 := 64#32
  let v201 : BitVec 32 := Scalar.addi c0_i32_112 c64_i32_113
  let c1_i32_114 : BitVec 32 := 1#32
  ⟨c0_i32_112, v201, c1_i32_114⟩
def k0_off116 (k0_t15 : Fin k0_t15_loop.trips) : Fin 1 → Nat :=
  let c0_i32_112 : BitVec 32 := 0#32
  let c1_i32_114 : BitVec 32 := 1#32
  let arg15 : BitVec 32 := Scf.iv c0_i32_112 c1_i32_114 k0_t15
  let c128_i32 : BitVec 32 := 128#32
  let v427 : BitVec 32 := Scalar.muli arg15 c128_i32
  let c0_i32_253 : BitVec 32 := 0#32
  let v428 : BitVec 32 := Scalar.addi v427 c0_i32_253
  let v429 : Index := Scalar.indexCast v428
  ![v429.toNat]

def k0_chk113 (v434 : IVec S16 32) : Prop :=
  (∀ a x, ((![v434] : Fin 1 → IVec S16 32) a x).toNat < S32768.size a)
theorem k0_idx113_inb : ∀ (v434 : IVec S16 32) (k0_hw113 : k0_chk113 v434), ∀ a x, ((![v434] : Fin 1 → IVec S16 32) a x).toNat < S32768.size a := fun v434 k0_hw113 => k0_hw113
def k0_off117 (k0_t15 : Fin k0_t15_loop.trips) : Fin 1 → Nat :=
  let c0_i32_112 : BitVec 32 := 0#32
  let c1_i32_114 : BitVec 32 := 1#32
  let arg15 : BitVec 32 := Scf.iv c0_i32_112 c1_i32_114 k0_t15
  let c128_i32 : BitVec 32 := 128#32
  let v427 : BitVec 32 := Scalar.muli arg15 c128_i32
  let c16_i32_256 : BitVec 32 := 16#32
  let v435 : BitVec 32 := Scalar.addi v427 c16_i32_256
  let v436 : Index := Scalar.indexCast v435
  ![v436.toNat]

def k0_chk114 (v441 : IVec S16 32) : Prop :=
  (∀ a x, ((![v441] : Fin 1 → IVec S16 32) a x).toNat < S32768.size a)
theorem k0_idx114_inb : ∀ (v441 : IVec S16 32) (k0_hw114 : k0_chk114 v441), ∀ a x, ((![v441] : Fin 1 → IVec S16 32) a x).toNat < S32768.size a := fun v441 k0_hw114 => k0_hw114
def k0_off118 (k0_t15 : Fin k0_t15_loop.trips) : Fin 1 → Nat :=
  let c0_i32_112 : BitVec 32 := 0#32
  let c1_i32_114 : BitVec 32 := 1#32
  let arg15 : BitVec 32 := Scf.iv c0_i32_112 c1_i32_114 k0_t15
  let c128_i32 : BitVec 32 := 128#32
  let v427 : BitVec 32 := Scalar.muli arg15 c128_i32
  let c32_i32 : BitVec 32 := 32#32
  let v442 : BitVec 32 := Scalar.addi v427 c32_i32
  let v443 : Index := Scalar.indexCast v442
  ![v443.toNat]

def k0_chk115 (v448 : IVec S16 32) : Prop :=
  (∀ a x, ((![v448] : Fin 1 → IVec S16 32) a x).toNat < S32768.size a)
theorem k0_idx115_inb : ∀ (v448 : IVec S16 32) (k0_hw115 : k0_chk115 v448), ∀ a x, ((![v448] : Fin 1 → IVec S16 32) a x).toNat < S32768.size a := fun v448 k0_hw115 => k0_hw115
def k0_off119 (k0_t15 : Fin k0_t15_loop.trips) : Fin 1 → Nat :=
  let c0_i32_112 : BitVec 32 := 0#32
  let c1_i32_114 : BitVec 32 := 1#32
  let arg15 : BitVec 32 := Scf.iv c0_i32_112 c1_i32_114 k0_t15
  let c128_i32 : BitVec 32 := 128#32
  let v427 : BitVec 32 := Scalar.muli arg15 c128_i32
  let c48_i32 : BitVec 32 := 48#32
  let v449 : BitVec 32 := Scalar.addi v427 c48_i32
  let v450 : Index := Scalar.indexCast v449
  ![v450.toNat]

def k0_chk116 (v455 : IVec S16 32) : Prop :=
  (∀ a x, ((![v455] : Fin 1 → IVec S16 32) a x).toNat < S32768.size a)
theorem k0_idx116_inb : ∀ (v455 : IVec S16 32) (k0_hw116 : k0_chk116 v455), ∀ a x, ((![v455] : Fin 1 → IVec S16 32) a x).toNat < S32768.size a := fun v455 k0_hw116 => k0_hw116
def k0_off120 (k0_t15 : Fin k0_t15_loop.trips) : Fin 1 → Nat :=
  let c0_i32_112 : BitVec 32 := 0#32
  let c1_i32_114 : BitVec 32 := 1#32
  let arg15 : BitVec 32 := Scf.iv c0_i32_112 c1_i32_114 k0_t15
  let c128_i32 : BitVec 32 := 128#32
  let v427 : BitVec 32 := Scalar.muli arg15 c128_i32
  let c64_i32_263 : BitVec 32 := 64#32
  let v456 : BitVec 32 := Scalar.addi v427 c64_i32_263
  let v457 : Index := Scalar.indexCast v456
  ![v457.toNat]

def k0_chk117 (v462 : IVec S16 32) : Prop :=
  (∀ a x, ((![v462] : Fin 1 → IVec S16 32) a x).toNat < S32768.size a)
theorem k0_idx117_inb : ∀ (v462 : IVec S16 32) (k0_hw117 : k0_chk117 v462), ∀ a x, ((![v462] : Fin 1 → IVec S16 32) a x).toNat < S32768.size a := fun v462 k0_hw117 => k0_hw117
def k0_off121 (k0_t15 : Fin k0_t15_loop.trips) : Fin 1 → Nat :=
  let c0_i32_112 : BitVec 32 := 0#32
  let c1_i32_114 : BitVec 32 := 1#32
  let arg15 : BitVec 32 := Scf.iv c0_i32_112 c1_i32_114 k0_t15
  let c128_i32 : BitVec 32 := 128#32
  let v427 : BitVec 32 := Scalar.muli arg15 c128_i32
  let c80_i32 : BitVec 32 := 80#32
  let v463 : BitVec 32 := Scalar.addi v427 c80_i32
  let v464 : Index := Scalar.indexCast v463
  ![v464.toNat]

def k0_chk118 (v469 : IVec S16 32) : Prop :=
  (∀ a x, ((![v469] : Fin 1 → IVec S16 32) a x).toNat < S32768.size a)
theorem k0_idx118_inb : ∀ (v469 : IVec S16 32) (k0_hw118 : k0_chk118 v469), ∀ a x, ((![v469] : Fin 1 → IVec S16 32) a x).toNat < S32768.size a := fun v469 k0_hw118 => k0_hw118
def k0_off122 (k0_t15 : Fin k0_t15_loop.trips) : Fin 1 → Nat :=
  let c0_i32_112 : BitVec 32 := 0#32
  let c1_i32_114 : BitVec 32 := 1#32
  let arg15 : BitVec 32 := Scf.iv c0_i32_112 c1_i32_114 k0_t15
  let c128_i32 : BitVec 32 := 128#32
  let v427 : BitVec 32 := Scalar.muli arg15 c128_i32
  let c96_i32 : BitVec 32 := 96#32
  let v470 : BitVec 32 := Scalar.addi v427 c96_i32
  let v471 : Index := Scalar.indexCast v470
  ![v471.toNat]

def k0_chk119 (v476 : IVec S16 32) : Prop :=
  (∀ a x, ((![v476] : Fin 1 → IVec S16 32) a x).toNat < S32768.size a)
theorem k0_idx119_inb : ∀ (v476 : IVec S16 32) (k0_hw119 : k0_chk119 v476), ∀ a x, ((![v476] : Fin 1 → IVec S16 32) a x).toNat < S32768.size a := fun v476 k0_hw119 => k0_hw119
def k0_off123 (k0_t15 : Fin k0_t15_loop.trips) : Fin 1 → Nat :=
  let c0_i32_112 : BitVec 32 := 0#32
  let c1_i32_114 : BitVec 32 := 1#32
  let arg15 : BitVec 32 := Scf.iv c0_i32_112 c1_i32_114 k0_t15
  let c128_i32 : BitVec 32 := 128#32
  let v427 : BitVec 32 := Scalar.muli arg15 c128_i32
  let c112_i32 : BitVec 32 := 112#32
  let v477 : BitVec 32 := Scalar.addi v427 c112_i32
  let v478 : Index := Scalar.indexCast v477
  ![v478.toNat]

def k0_chk120 (v483 : IVec S16 32) : Prop :=
  (∀ a x, ((![v483] : Fin 1 → IVec S16 32) a x).toNat < S32768.size a)
theorem k0_idx120_inb : ∀ (v483 : IVec S16 32) (k0_hw120 : k0_chk120 v483), ∀ a x, ((![v483] : Fin 1 → IVec S16 32) a x).toNat < S32768.size a := fun v483 k0_hw120 => k0_hw120
@[reducible] def k0_t16_loop : Scf.Loop 32 :=
  let c0_i32_120 : BitVec 32 := 0#32
  let c64_i32_121 : BitVec 32 := 64#32
  let v214 : BitVec 32 := Scalar.addi c0_i32_120 c64_i32_121
  let c1_i32_122 : BitVec 32 := 1#32
  ⟨c0_i32_120, v214, c1_i32_122⟩
def k0_off124 (k0_t16 : Fin k0_t16_loop.trips) : Fin 1 → Nat :=
  let c0_i32_120 : BitVec 32 := 0#32
  let c1_i32_122 : BitVec 32 := 1#32
  let arg15 : BitVec 32 := Scf.iv c0_i32_120 c1_i32_122 k0_t16
  let c128_i32 : BitVec 32 := 128#32
  let v427 : BitVec 32 := Scalar.muli arg15 c128_i32
  let c0_i32_253 : BitVec 32 := 0#32
  let v428 : BitVec 32 := Scalar.addi v427 c0_i32_253
  let v429 : Index := Scalar.indexCast v428
  ![v429.toNat]

def k0_chk121 (v434 : IVec S16 32) : Prop :=
  (∀ a x, ((![v434] : Fin 1 → IVec S16 32) a x).toNat < S32768.size a)
theorem k0_idx121_inb : ∀ (v434 : IVec S16 32) (k0_hw121 : k0_chk121 v434), ∀ a x, ((![v434] : Fin 1 → IVec S16 32) a x).toNat < S32768.size a := fun v434 k0_hw121 => k0_hw121
def k0_off125 (k0_t16 : Fin k0_t16_loop.trips) : Fin 1 → Nat :=
  let c0_i32_120 : BitVec 32 := 0#32
  let c1_i32_122 : BitVec 32 := 1#32
  let arg15 : BitVec 32 := Scf.iv c0_i32_120 c1_i32_122 k0_t16
  let c128_i32 : BitVec 32 := 128#32
  let v427 : BitVec 32 := Scalar.muli arg15 c128_i32
  let c16_i32_256 : BitVec 32 := 16#32
  let v435 : BitVec 32 := Scalar.addi v427 c16_i32_256
  let v436 : Index := Scalar.indexCast v435
  ![v436.toNat]

def k0_chk122 (v441 : IVec S16 32) : Prop :=
  (∀ a x, ((![v441] : Fin 1 → IVec S16 32) a x).toNat < S32768.size a)
theorem k0_idx122_inb : ∀ (v441 : IVec S16 32) (k0_hw122 : k0_chk122 v441), ∀ a x, ((![v441] : Fin 1 → IVec S16 32) a x).toNat < S32768.size a := fun v441 k0_hw122 => k0_hw122
def k0_off126 (k0_t16 : Fin k0_t16_loop.trips) : Fin 1 → Nat :=
  let c0_i32_120 : BitVec 32 := 0#32
  let c1_i32_122 : BitVec 32 := 1#32
  let arg15 : BitVec 32 := Scf.iv c0_i32_120 c1_i32_122 k0_t16
  let c128_i32 : BitVec 32 := 128#32
  let v427 : BitVec 32 := Scalar.muli arg15 c128_i32
  let c32_i32 : BitVec 32 := 32#32
  let v442 : BitVec 32 := Scalar.addi v427 c32_i32
  let v443 : Index := Scalar.indexCast v442
  ![v443.toNat]

def k0_chk123 (v448 : IVec S16 32) : Prop :=
  (∀ a x, ((![v448] : Fin 1 → IVec S16 32) a x).toNat < S32768.size a)
theorem k0_idx123_inb : ∀ (v448 : IVec S16 32) (k0_hw123 : k0_chk123 v448), ∀ a x, ((![v448] : Fin 1 → IVec S16 32) a x).toNat < S32768.size a := fun v448 k0_hw123 => k0_hw123
def k0_off127 (k0_t16 : Fin k0_t16_loop.trips) : Fin 1 → Nat :=
  let c0_i32_120 : BitVec 32 := 0#32
  let c1_i32_122 : BitVec 32 := 1#32
  let arg15 : BitVec 32 := Scf.iv c0_i32_120 c1_i32_122 k0_t16
  let c128_i32 : BitVec 32 := 128#32
  let v427 : BitVec 32 := Scalar.muli arg15 c128_i32
  let c48_i32 : BitVec 32 := 48#32
  let v449 : BitVec 32 := Scalar.addi v427 c48_i32
  let v450 : Index := Scalar.indexCast v449
  ![v450.toNat]

def k0_chk124 (v455 : IVec S16 32) : Prop :=
  (∀ a x, ((![v455] : Fin 1 → IVec S16 32) a x).toNat < S32768.size a)
theorem k0_idx124_inb : ∀ (v455 : IVec S16 32) (k0_hw124 : k0_chk124 v455), ∀ a x, ((![v455] : Fin 1 → IVec S16 32) a x).toNat < S32768.size a := fun v455 k0_hw124 => k0_hw124
def k0_off128 (k0_t16 : Fin k0_t16_loop.trips) : Fin 1 → Nat :=
  let c0_i32_120 : BitVec 32 := 0#32
  let c1_i32_122 : BitVec 32 := 1#32
  let arg15 : BitVec 32 := Scf.iv c0_i32_120 c1_i32_122 k0_t16
  let c128_i32 : BitVec 32 := 128#32
  let v427 : BitVec 32 := Scalar.muli arg15 c128_i32
  let c64_i32_263 : BitVec 32 := 64#32
  let v456 : BitVec 32 := Scalar.addi v427 c64_i32_263
  let v457 : Index := Scalar.indexCast v456
  ![v457.toNat]

def k0_chk125 (v462 : IVec S16 32) : Prop :=
  (∀ a x, ((![v462] : Fin 1 → IVec S16 32) a x).toNat < S32768.size a)
theorem k0_idx125_inb : ∀ (v462 : IVec S16 32) (k0_hw125 : k0_chk125 v462), ∀ a x, ((![v462] : Fin 1 → IVec S16 32) a x).toNat < S32768.size a := fun v462 k0_hw125 => k0_hw125
def k0_off129 (k0_t16 : Fin k0_t16_loop.trips) : Fin 1 → Nat :=
  let c0_i32_120 : BitVec 32 := 0#32
  let c1_i32_122 : BitVec 32 := 1#32
  let arg15 : BitVec 32 := Scf.iv c0_i32_120 c1_i32_122 k0_t16
  let c128_i32 : BitVec 32 := 128#32
  let v427 : BitVec 32 := Scalar.muli arg15 c128_i32
  let c80_i32 : BitVec 32 := 80#32
  let v463 : BitVec 32 := Scalar.addi v427 c80_i32
  let v464 : Index := Scalar.indexCast v463
  ![v464.toNat]

def k0_chk126 (v469 : IVec S16 32) : Prop :=
  (∀ a x, ((![v469] : Fin 1 → IVec S16 32) a x).toNat < S32768.size a)
theorem k0_idx126_inb : ∀ (v469 : IVec S16 32) (k0_hw126 : k0_chk126 v469), ∀ a x, ((![v469] : Fin 1 → IVec S16 32) a x).toNat < S32768.size a := fun v469 k0_hw126 => k0_hw126
def k0_off130 (k0_t16 : Fin k0_t16_loop.trips) : Fin 1 → Nat :=
  let c0_i32_120 : BitVec 32 := 0#32
  let c1_i32_122 : BitVec 32 := 1#32
  let arg15 : BitVec 32 := Scf.iv c0_i32_120 c1_i32_122 k0_t16
  let c128_i32 : BitVec 32 := 128#32
  let v427 : BitVec 32 := Scalar.muli arg15 c128_i32
  let c96_i32 : BitVec 32 := 96#32
  let v470 : BitVec 32 := Scalar.addi v427 c96_i32
  let v471 : Index := Scalar.indexCast v470
  ![v471.toNat]

def k0_chk127 (v476 : IVec S16 32) : Prop :=
  (∀ a x, ((![v476] : Fin 1 → IVec S16 32) a x).toNat < S32768.size a)
theorem k0_idx127_inb : ∀ (v476 : IVec S16 32) (k0_hw127 : k0_chk127 v476), ∀ a x, ((![v476] : Fin 1 → IVec S16 32) a x).toNat < S32768.size a := fun v476 k0_hw127 => k0_hw127
def k0_off131 (k0_t16 : Fin k0_t16_loop.trips) : Fin 1 → Nat :=
  let c0_i32_120 : BitVec 32 := 0#32
  let c1_i32_122 : BitVec 32 := 1#32
  let arg15 : BitVec 32 := Scf.iv c0_i32_120 c1_i32_122 k0_t16
  let c128_i32 : BitVec 32 := 128#32
  let v427 : BitVec 32 := Scalar.muli arg15 c128_i32
  let c112_i32 : BitVec 32 := 112#32
  let v477 : BitVec 32 := Scalar.addi v427 c112_i32
  let v478 : Index := Scalar.indexCast v477
  ![v478.toNat]

def k0_chk128 (v483 : IVec S16 32) : Prop :=
  (∀ a x, ((![v483] : Fin 1 → IVec S16 32) a x).toNat < S32768.size a)
theorem k0_idx128_inb : ∀ (v483 : IVec S16 32) (k0_hw128 : k0_chk128 v483), ∀ a x, ((![v483] : Fin 1 → IVec S16 32) a x).toNat < S32768.size a := fun v483 k0_hw128 => k0_hw128
@[reducible] def k0_t17_loop : Scf.Loop 32 :=
  let c0_i32_128 : BitVec 32 := 0#32
  let c64_i32_129 : BitVec 32 := 64#32
  let v227 : BitVec 32 := Scalar.addi c0_i32_128 c64_i32_129
  let c1_i32_130 : BitVec 32 := 1#32
  ⟨c0_i32_128, v227, c1_i32_130⟩
def k0_off132 (k0_t17 : Fin k0_t17_loop.trips) : Fin 1 → Nat :=
  let c0_i32_128 : BitVec 32 := 0#32
  let c1_i32_130 : BitVec 32 := 1#32
  let arg15 : BitVec 32 := Scf.iv c0_i32_128 c1_i32_130 k0_t17
  let c128_i32 : BitVec 32 := 128#32
  let v427 : BitVec 32 := Scalar.muli arg15 c128_i32
  let c0_i32_253 : BitVec 32 := 0#32
  let v428 : BitVec 32 := Scalar.addi v427 c0_i32_253
  let v429 : Index := Scalar.indexCast v428
  ![v429.toNat]

def k0_chk129 (v434 : IVec S16 32) : Prop :=
  (∀ a x, ((![v434] : Fin 1 → IVec S16 32) a x).toNat < S32768.size a)
theorem k0_idx129_inb : ∀ (v434 : IVec S16 32) (k0_hw129 : k0_chk129 v434), ∀ a x, ((![v434] : Fin 1 → IVec S16 32) a x).toNat < S32768.size a := fun v434 k0_hw129 => k0_hw129
def k0_off133 (k0_t17 : Fin k0_t17_loop.trips) : Fin 1 → Nat :=
  let c0_i32_128 : BitVec 32 := 0#32
  let c1_i32_130 : BitVec 32 := 1#32
  let arg15 : BitVec 32 := Scf.iv c0_i32_128 c1_i32_130 k0_t17
  let c128_i32 : BitVec 32 := 128#32
  let v427 : BitVec 32 := Scalar.muli arg15 c128_i32
  let c16_i32_256 : BitVec 32 := 16#32
  let v435 : BitVec 32 := Scalar.addi v427 c16_i32_256
  let v436 : Index := Scalar.indexCast v435
  ![v436.toNat]

def k0_chk130 (v441 : IVec S16 32) : Prop :=
  (∀ a x, ((![v441] : Fin 1 → IVec S16 32) a x).toNat < S32768.size a)
theorem k0_idx130_inb : ∀ (v441 : IVec S16 32) (k0_hw130 : k0_chk130 v441), ∀ a x, ((![v441] : Fin 1 → IVec S16 32) a x).toNat < S32768.size a := fun v441 k0_hw130 => k0_hw130
def k0_off134 (k0_t17 : Fin k0_t17_loop.trips) : Fin 1 → Nat :=
  let c0_i32_128 : BitVec 32 := 0#32
  let c1_i32_130 : BitVec 32 := 1#32
  let arg15 : BitVec 32 := Scf.iv c0_i32_128 c1_i32_130 k0_t17
  let c128_i32 : BitVec 32 := 128#32
  let v427 : BitVec 32 := Scalar.muli arg15 c128_i32
  let c32_i32 : BitVec 32 := 32#32
  let v442 : BitVec 32 := Scalar.addi v427 c32_i32
  let v443 : Index := Scalar.indexCast v442
  ![v443.toNat]

def k0_chk131 (v448 : IVec S16 32) : Prop :=
  (∀ a x, ((![v448] : Fin 1 → IVec S16 32) a x).toNat < S32768.size a)
theorem k0_idx131_inb : ∀ (v448 : IVec S16 32) (k0_hw131 : k0_chk131 v448), ∀ a x, ((![v448] : Fin 1 → IVec S16 32) a x).toNat < S32768.size a := fun v448 k0_hw131 => k0_hw131
def k0_off135 (k0_t17 : Fin k0_t17_loop.trips) : Fin 1 → Nat :=
  let c0_i32_128 : BitVec 32 := 0#32
  let c1_i32_130 : BitVec 32 := 1#32
  let arg15 : BitVec 32 := Scf.iv c0_i32_128 c1_i32_130 k0_t17
  let c128_i32 : BitVec 32 := 128#32
  let v427 : BitVec 32 := Scalar.muli arg15 c128_i32
  let c48_i32 : BitVec 32 := 48#32
  let v449 : BitVec 32 := Scalar.addi v427 c48_i32
  let v450 : Index := Scalar.indexCast v449
  ![v450.toNat]

def k0_chk132 (v455 : IVec S16 32) : Prop :=
  (∀ a x, ((![v455] : Fin 1 → IVec S16 32) a x).toNat < S32768.size a)
theorem k0_idx132_inb : ∀ (v455 : IVec S16 32) (k0_hw132 : k0_chk132 v455), ∀ a x, ((![v455] : Fin 1 → IVec S16 32) a x).toNat < S32768.size a := fun v455 k0_hw132 => k0_hw132
def k0_off136 (k0_t17 : Fin k0_t17_loop.trips) : Fin 1 → Nat :=
  let c0_i32_128 : BitVec 32 := 0#32
  let c1_i32_130 : BitVec 32 := 1#32
  let arg15 : BitVec 32 := Scf.iv c0_i32_128 c1_i32_130 k0_t17
  let c128_i32 : BitVec 32 := 128#32
  let v427 : BitVec 32 := Scalar.muli arg15 c128_i32
  let c64_i32_263 : BitVec 32 := 64#32
  let v456 : BitVec 32 := Scalar.addi v427 c64_i32_263
  let v457 : Index := Scalar.indexCast v456
  ![v457.toNat]

def k0_chk133 (v462 : IVec S16 32) : Prop :=
  (∀ a x, ((![v462] : Fin 1 → IVec S16 32) a x).toNat < S32768.size a)
theorem k0_idx133_inb : ∀ (v462 : IVec S16 32) (k0_hw133 : k0_chk133 v462), ∀ a x, ((![v462] : Fin 1 → IVec S16 32) a x).toNat < S32768.size a := fun v462 k0_hw133 => k0_hw133
def k0_off137 (k0_t17 : Fin k0_t17_loop.trips) : Fin 1 → Nat :=
  let c0_i32_128 : BitVec 32 := 0#32
  let c1_i32_130 : BitVec 32 := 1#32
  let arg15 : BitVec 32 := Scf.iv c0_i32_128 c1_i32_130 k0_t17
  let c128_i32 : BitVec 32 := 128#32
  let v427 : BitVec 32 := Scalar.muli arg15 c128_i32
  let c80_i32 : BitVec 32 := 80#32
  let v463 : BitVec 32 := Scalar.addi v427 c80_i32
  let v464 : Index := Scalar.indexCast v463
  ![v464.toNat]

def k0_chk134 (v469 : IVec S16 32) : Prop :=
  (∀ a x, ((![v469] : Fin 1 → IVec S16 32) a x).toNat < S32768.size a)
theorem k0_idx134_inb : ∀ (v469 : IVec S16 32) (k0_hw134 : k0_chk134 v469), ∀ a x, ((![v469] : Fin 1 → IVec S16 32) a x).toNat < S32768.size a := fun v469 k0_hw134 => k0_hw134
def k0_off138 (k0_t17 : Fin k0_t17_loop.trips) : Fin 1 → Nat :=
  let c0_i32_128 : BitVec 32 := 0#32
  let c1_i32_130 : BitVec 32 := 1#32
  let arg15 : BitVec 32 := Scf.iv c0_i32_128 c1_i32_130 k0_t17
  let c128_i32 : BitVec 32 := 128#32
  let v427 : BitVec 32 := Scalar.muli arg15 c128_i32
  let c96_i32 : BitVec 32 := 96#32
  let v470 : BitVec 32 := Scalar.addi v427 c96_i32
  let v471 : Index := Scalar.indexCast v470
  ![v471.toNat]

def k0_chk135 (v476 : IVec S16 32) : Prop :=
  (∀ a x, ((![v476] : Fin 1 → IVec S16 32) a x).toNat < S32768.size a)
theorem k0_idx135_inb : ∀ (v476 : IVec S16 32) (k0_hw135 : k0_chk135 v476), ∀ a x, ((![v476] : Fin 1 → IVec S16 32) a x).toNat < S32768.size a := fun v476 k0_hw135 => k0_hw135
def k0_off139 (k0_t17 : Fin k0_t17_loop.trips) : Fin 1 → Nat :=
  let c0_i32_128 : BitVec 32 := 0#32
  let c1_i32_130 : BitVec 32 := 1#32
  let arg15 : BitVec 32 := Scf.iv c0_i32_128 c1_i32_130 k0_t17
  let c128_i32 : BitVec 32 := 128#32
  let v427 : BitVec 32 := Scalar.muli arg15 c128_i32
  let c112_i32 : BitVec 32 := 112#32
  let v477 : BitVec 32 := Scalar.addi v427 c112_i32
  let v478 : Index := Scalar.indexCast v477
  ![v478.toNat]

def k0_chk136 (v483 : IVec S16 32) : Prop :=
  (∀ a x, ((![v483] : Fin 1 → IVec S16 32) a x).toNat < S32768.size a)
theorem k0_idx136_inb : ∀ (v483 : IVec S16 32) (k0_hw136 : k0_chk136 v483), ∀ a x, ((![v483] : Fin 1 → IVec S16 32) a x).toNat < S32768.size a := fun v483 k0_hw136 => k0_hw136
@[reducible] def k0_t18_loop : Scf.Loop 32 :=
  let c0_i32_136 : BitVec 32 := 0#32
  let c64_i32_137 : BitVec 32 := 64#32
  let v240 : BitVec 32 := Scalar.addi c0_i32_136 c64_i32_137
  let c1_i32_138 : BitVec 32 := 1#32
  ⟨c0_i32_136, v240, c1_i32_138⟩
def k0_off140 (k0_t18 : Fin k0_t18_loop.trips) : Fin 1 → Nat :=
  let c0_i32_136 : BitVec 32 := 0#32
  let c1_i32_138 : BitVec 32 := 1#32
  let arg15 : BitVec 32 := Scf.iv c0_i32_136 c1_i32_138 k0_t18
  let c128_i32 : BitVec 32 := 128#32
  let v427 : BitVec 32 := Scalar.muli arg15 c128_i32
  let c0_i32_253 : BitVec 32 := 0#32
  let v428 : BitVec 32 := Scalar.addi v427 c0_i32_253
  let v429 : Index := Scalar.indexCast v428
  ![v429.toNat]

def k0_chk137 (v434 : IVec S16 32) : Prop :=
  (∀ a x, ((![v434] : Fin 1 → IVec S16 32) a x).toNat < S32768.size a)
theorem k0_idx137_inb : ∀ (v434 : IVec S16 32) (k0_hw137 : k0_chk137 v434), ∀ a x, ((![v434] : Fin 1 → IVec S16 32) a x).toNat < S32768.size a := fun v434 k0_hw137 => k0_hw137
def k0_off141 (k0_t18 : Fin k0_t18_loop.trips) : Fin 1 → Nat :=
  let c0_i32_136 : BitVec 32 := 0#32
  let c1_i32_138 : BitVec 32 := 1#32
  let arg15 : BitVec 32 := Scf.iv c0_i32_136 c1_i32_138 k0_t18
  let c128_i32 : BitVec 32 := 128#32
  let v427 : BitVec 32 := Scalar.muli arg15 c128_i32
  let c16_i32_256 : BitVec 32 := 16#32
  let v435 : BitVec 32 := Scalar.addi v427 c16_i32_256
  let v436 : Index := Scalar.indexCast v435
  ![v436.toNat]

def k0_chk138 (v441 : IVec S16 32) : Prop :=
  (∀ a x, ((![v441] : Fin 1 → IVec S16 32) a x).toNat < S32768.size a)
theorem k0_idx138_inb : ∀ (v441 : IVec S16 32) (k0_hw138 : k0_chk138 v441), ∀ a x, ((![v441] : Fin 1 → IVec S16 32) a x).toNat < S32768.size a := fun v441 k0_hw138 => k0_hw138
def k0_off142 (k0_t18 : Fin k0_t18_loop.trips) : Fin 1 → Nat :=
  let c0_i32_136 : BitVec 32 := 0#32
  let c1_i32_138 : BitVec 32 := 1#32
  let arg15 : BitVec 32 := Scf.iv c0_i32_136 c1_i32_138 k0_t18
  let c128_i32 : BitVec 32 := 128#32
  let v427 : BitVec 32 := Scalar.muli arg15 c128_i32
  let c32_i32 : BitVec 32 := 32#32
  let v442 : BitVec 32 := Scalar.addi v427 c32_i32
  let v443 : Index := Scalar.indexCast v442
  ![v443.toNat]

def k0_chk139 (v448 : IVec S16 32) : Prop :=
  (∀ a x, ((![v448] : Fin 1 → IVec S16 32) a x).toNat < S32768.size a)
theorem k0_idx139_inb : ∀ (v448 : IVec S16 32) (k0_hw139 : k0_chk139 v448), ∀ a x, ((![v448] : Fin 1 → IVec S16 32) a x).toNat < S32768.size a := fun v448 k0_hw139 => k0_hw139
def k0_off143 (k0_t18 : Fin k0_t18_loop.trips) : Fin 1 → Nat :=
  let c0_i32_136 : BitVec 32 := 0#32
  let c1_i32_138 : BitVec 32 := 1#32
  let arg15 : BitVec 32 := Scf.iv c0_i32_136 c1_i32_138 k0_t18
  let c128_i32 : BitVec 32 := 128#32
  let v427 : BitVec 32 := Scalar.muli arg15 c128_i32
  let c48_i32 : BitVec 32 := 48#32
  let v449 : BitVec 32 := Scalar.addi v427 c48_i32
  let v450 : Index := Scalar.indexCast v449
  ![v450.toNat]

def k0_chk140 (v455 : IVec S16 32) : Prop :=
  (∀ a x, ((![v455] : Fin 1 → IVec S16 32) a x).toNat < S32768.size a)
theorem k0_idx140_inb : ∀ (v455 : IVec S16 32) (k0_hw140 : k0_chk140 v455), ∀ a x, ((![v455] : Fin 1 → IVec S16 32) a x).toNat < S32768.size a := fun v455 k0_hw140 => k0_hw140
def k0_off144 (k0_t18 : Fin k0_t18_loop.trips) : Fin 1 → Nat :=
  let c0_i32_136 : BitVec 32 := 0#32
  let c1_i32_138 : BitVec 32 := 1#32
  let arg15 : BitVec 32 := Scf.iv c0_i32_136 c1_i32_138 k0_t18
  let c128_i32 : BitVec 32 := 128#32
  let v427 : BitVec 32 := Scalar.muli arg15 c128_i32
  let c64_i32_263 : BitVec 32 := 64#32
  let v456 : BitVec 32 := Scalar.addi v427 c64_i32_263
  let v457 : Index := Scalar.indexCast v456
  ![v457.toNat]

def k0_chk141 (v462 : IVec S16 32) : Prop :=
  (∀ a x, ((![v462] : Fin 1 → IVec S16 32) a x).toNat < S32768.size a)
theorem k0_idx141_inb : ∀ (v462 : IVec S16 32) (k0_hw141 : k0_chk141 v462), ∀ a x, ((![v462] : Fin 1 → IVec S16 32) a x).toNat < S32768.size a := fun v462 k0_hw141 => k0_hw141
def k0_off145 (k0_t18 : Fin k0_t18_loop.trips) : Fin 1 → Nat :=
  let c0_i32_136 : BitVec 32 := 0#32
  let c1_i32_138 : BitVec 32 := 1#32
  let arg15 : BitVec 32 := Scf.iv c0_i32_136 c1_i32_138 k0_t18
  let c128_i32 : BitVec 32 := 128#32
  let v427 : BitVec 32 := Scalar.muli arg15 c128_i32
  let c80_i32 : BitVec 32 := 80#32
  let v463 : BitVec 32 := Scalar.addi v427 c80_i32
  let v464 : Index := Scalar.indexCast v463
  ![v464.toNat]

def k0_chk142 (v469 : IVec S16 32) : Prop :=
  (∀ a x, ((![v469] : Fin 1 → IVec S16 32) a x).toNat < S32768.size a)
theorem k0_idx142_inb : ∀ (v469 : IVec S16 32) (k0_hw142 : k0_chk142 v469), ∀ a x, ((![v469] : Fin 1 → IVec S16 32) a x).toNat < S32768.size a := fun v469 k0_hw142 => k0_hw142
def k0_off146 (k0_t18 : Fin k0_t18_loop.trips) : Fin 1 → Nat :=
  let c0_i32_136 : BitVec 32 := 0#32
  let c1_i32_138 : BitVec 32 := 1#32
  let arg15 : BitVec 32 := Scf.iv c0_i32_136 c1_i32_138 k0_t18
  let c128_i32 : BitVec 32 := 128#32
  let v427 : BitVec 32 := Scalar.muli arg15 c128_i32
  let c96_i32 : BitVec 32 := 96#32
  let v470 : BitVec 32 := Scalar.addi v427 c96_i32
  let v471 : Index := Scalar.indexCast v470
  ![v471.toNat]

def k0_chk143 (v476 : IVec S16 32) : Prop :=
  (∀ a x, ((![v476] : Fin 1 → IVec S16 32) a x).toNat < S32768.size a)
theorem k0_idx143_inb : ∀ (v476 : IVec S16 32) (k0_hw143 : k0_chk143 v476), ∀ a x, ((![v476] : Fin 1 → IVec S16 32) a x).toNat < S32768.size a := fun v476 k0_hw143 => k0_hw143
def k0_off147 (k0_t18 : Fin k0_t18_loop.trips) : Fin 1 → Nat :=
  let c0_i32_136 : BitVec 32 := 0#32
  let c1_i32_138 : BitVec 32 := 1#32
  let arg15 : BitVec 32 := Scf.iv c0_i32_136 c1_i32_138 k0_t18
  let c128_i32 : BitVec 32 := 128#32
  let v427 : BitVec 32 := Scalar.muli arg15 c128_i32
  let c112_i32 : BitVec 32 := 112#32
  let v477 : BitVec 32 := Scalar.addi v427 c112_i32
  let v478 : Index := Scalar.indexCast v477
  ![v478.toNat]

def k0_chk144 (v483 : IVec S16 32) : Prop :=
  (∀ a x, ((![v483] : Fin 1 → IVec S16 32) a x).toNat < S32768.size a)
theorem k0_idx144_inb : ∀ (v483 : IVec S16 32) (k0_hw144 : k0_chk144 v483), ∀ a x, ((![v483] : Fin 1 → IVec S16 32) a x).toNat < S32768.size a := fun v483 k0_hw144 => k0_hw144
@[reducible] def k0_t19_loop : Scf.Loop 32 :=
  let c0_i32_144 : BitVec 32 := 0#32
  let c64_i32_145 : BitVec 32 := 64#32
  let v253 : BitVec 32 := Scalar.addi c0_i32_144 c64_i32_145
  let c1_i32_146 : BitVec 32 := 1#32
  ⟨c0_i32_144, v253, c1_i32_146⟩
def k0_off148 (k0_t19 : Fin k0_t19_loop.trips) : Fin 1 → Nat :=
  let c0_i32_144 : BitVec 32 := 0#32
  let c1_i32_146 : BitVec 32 := 1#32
  let arg15 : BitVec 32 := Scf.iv c0_i32_144 c1_i32_146 k0_t19
  let c128_i32 : BitVec 32 := 128#32
  let v427 : BitVec 32 := Scalar.muli arg15 c128_i32
  let c0_i32_253 : BitVec 32 := 0#32
  let v428 : BitVec 32 := Scalar.addi v427 c0_i32_253
  let v429 : Index := Scalar.indexCast v428
  ![v429.toNat]

def k0_chk145 (v434 : IVec S16 32) : Prop :=
  (∀ a x, ((![v434] : Fin 1 → IVec S16 32) a x).toNat < S32768.size a)
theorem k0_idx145_inb : ∀ (v434 : IVec S16 32) (k0_hw145 : k0_chk145 v434), ∀ a x, ((![v434] : Fin 1 → IVec S16 32) a x).toNat < S32768.size a := fun v434 k0_hw145 => k0_hw145
def k0_off149 (k0_t19 : Fin k0_t19_loop.trips) : Fin 1 → Nat :=
  let c0_i32_144 : BitVec 32 := 0#32
  let c1_i32_146 : BitVec 32 := 1#32
  let arg15 : BitVec 32 := Scf.iv c0_i32_144 c1_i32_146 k0_t19
  let c128_i32 : BitVec 32 := 128#32
  let v427 : BitVec 32 := Scalar.muli arg15 c128_i32
  let c16_i32_256 : BitVec 32 := 16#32
  let v435 : BitVec 32 := Scalar.addi v427 c16_i32_256
  let v436 : Index := Scalar.indexCast v435
  ![v436.toNat]

def k0_chk146 (v441 : IVec S16 32) : Prop :=
  (∀ a x, ((![v441] : Fin 1 → IVec S16 32) a x).toNat < S32768.size a)
theorem k0_idx146_inb : ∀ (v441 : IVec S16 32) (k0_hw146 : k0_chk146 v441), ∀ a x, ((![v441] : Fin 1 → IVec S16 32) a x).toNat < S32768.size a := fun v441 k0_hw146 => k0_hw146
def k0_off150 (k0_t19 : Fin k0_t19_loop.trips) : Fin 1 → Nat :=
  let c0_i32_144 : BitVec 32 := 0#32
  let c1_i32_146 : BitVec 32 := 1#32
  let arg15 : BitVec 32 := Scf.iv c0_i32_144 c1_i32_146 k0_t19
  let c128_i32 : BitVec 32 := 128#32
  let v427 : BitVec 32 := Scalar.muli arg15 c128_i32
  let c32_i32 : BitVec 32 := 32#32
  let v442 : BitVec 32 := Scalar.addi v427 c32_i32
  let v443 : Index := Scalar.indexCast v442
  ![v443.toNat]

def k0_chk147 (v448 : IVec S16 32) : Prop :=
  (∀ a x, ((![v448] : Fin 1 → IVec S16 32) a x).toNat < S32768.size a)
theorem k0_idx147_inb : ∀ (v448 : IVec S16 32) (k0_hw147 : k0_chk147 v448), ∀ a x, ((![v448] : Fin 1 → IVec S16 32) a x).toNat < S32768.size a := fun v448 k0_hw147 => k0_hw147
def k0_off151 (k0_t19 : Fin k0_t19_loop.trips) : Fin 1 → Nat :=
  let c0_i32_144 : BitVec 32 := 0#32
  let c1_i32_146 : BitVec 32 := 1#32
  let arg15 : BitVec 32 := Scf.iv c0_i32_144 c1_i32_146 k0_t19
  let c128_i32 : BitVec 32 := 128#32
  let v427 : BitVec 32 := Scalar.muli arg15 c128_i32
  let c48_i32 : BitVec 32 := 48#32
  let v449 : BitVec 32 := Scalar.addi v427 c48_i32
  let v450 : Index := Scalar.indexCast v449
  ![v450.toNat]

def k0_chk148 (v455 : IVec S16 32) : Prop :=
  (∀ a x, ((![v455] : Fin 1 → IVec S16 32) a x).toNat < S32768.size a)
theorem k0_idx148_inb : ∀ (v455 : IVec S16 32) (k0_hw148 : k0_chk148 v455), ∀ a x, ((![v455] : Fin 1 → IVec S16 32) a x).toNat < S32768.size a := fun v455 k0_hw148 => k0_hw148
def k0_off152 (k0_t19 : Fin k0_t19_loop.trips) : Fin 1 → Nat :=
  let c0_i32_144 : BitVec 32 := 0#32
  let c1_i32_146 : BitVec 32 := 1#32
  let arg15 : BitVec 32 := Scf.iv c0_i32_144 c1_i32_146 k0_t19
  let c128_i32 : BitVec 32 := 128#32
  let v427 : BitVec 32 := Scalar.muli arg15 c128_i32
  let c64_i32_263 : BitVec 32 := 64#32
  let v456 : BitVec 32 := Scalar.addi v427 c64_i32_263
  let v457 : Index := Scalar.indexCast v456
  ![v457.toNat]

def k0_chk149 (v462 : IVec S16 32) : Prop :=
  (∀ a x, ((![v462] : Fin 1 → IVec S16 32) a x).toNat < S32768.size a)
theorem k0_idx149_inb : ∀ (v462 : IVec S16 32) (k0_hw149 : k0_chk149 v462), ∀ a x, ((![v462] : Fin 1 → IVec S16 32) a x).toNat < S32768.size a := fun v462 k0_hw149 => k0_hw149
def k0_off153 (k0_t19 : Fin k0_t19_loop.trips) : Fin 1 → Nat :=
  let c0_i32_144 : BitVec 32 := 0#32
  let c1_i32_146 : BitVec 32 := 1#32
  let arg15 : BitVec 32 := Scf.iv c0_i32_144 c1_i32_146 k0_t19
  let c128_i32 : BitVec 32 := 128#32
  let v427 : BitVec 32 := Scalar.muli arg15 c128_i32
  let c80_i32 : BitVec 32 := 80#32
  let v463 : BitVec 32 := Scalar.addi v427 c80_i32
  let v464 : Index := Scalar.indexCast v463
  ![v464.toNat]

def k0_chk150 (v469 : IVec S16 32) : Prop :=
  (∀ a x, ((![v469] : Fin 1 → IVec S16 32) a x).toNat < S32768.size a)
theorem k0_idx150_inb : ∀ (v469 : IVec S16 32) (k0_hw150 : k0_chk150 v469), ∀ a x, ((![v469] : Fin 1 → IVec S16 32) a x).toNat < S32768.size a := fun v469 k0_hw150 => k0_hw150
def k0_off154 (k0_t19 : Fin k0_t19_loop.trips) : Fin 1 → Nat :=
  let c0_i32_144 : BitVec 32 := 0#32
  let c1_i32_146 : BitVec 32 := 1#32
  let arg15 : BitVec 32 := Scf.iv c0_i32_144 c1_i32_146 k0_t19
  let c128_i32 : BitVec 32 := 128#32
  let v427 : BitVec 32 := Scalar.muli arg15 c128_i32
  let c96_i32 : BitVec 32 := 96#32
  let v470 : BitVec 32 := Scalar.addi v427 c96_i32
  let v471 : Index := Scalar.indexCast v470
  ![v471.toNat]

def k0_chk151 (v476 : IVec S16 32) : Prop :=
  (∀ a x, ((![v476] : Fin 1 → IVec S16 32) a x).toNat < S32768.size a)
theorem k0_idx151_inb : ∀ (v476 : IVec S16 32) (k0_hw151 : k0_chk151 v476), ∀ a x, ((![v476] : Fin 1 → IVec S16 32) a x).toNat < S32768.size a := fun v476 k0_hw151 => k0_hw151
def k0_off155 (k0_t19 : Fin k0_t19_loop.trips) : Fin 1 → Nat :=
  let c0_i32_144 : BitVec 32 := 0#32
  let c1_i32_146 : BitVec 32 := 1#32
  let arg15 : BitVec 32 := Scf.iv c0_i32_144 c1_i32_146 k0_t19
  let c128_i32 : BitVec 32 := 128#32
  let v427 : BitVec 32 := Scalar.muli arg15 c128_i32
  let c112_i32 : BitVec 32 := 112#32
  let v477 : BitVec 32 := Scalar.addi v427 c112_i32
  let v478 : Index := Scalar.indexCast v477
  ![v478.toNat]

def k0_chk152 (v483 : IVec S16 32) : Prop :=
  (∀ a x, ((![v483] : Fin 1 → IVec S16 32) a x).toNat < S32768.size a)
theorem k0_idx152_inb : ∀ (v483 : IVec S16 32) (k0_hw152 : k0_chk152 v483), ∀ a x, ((![v483] : Fin 1 → IVec S16 32) a x).toNat < S32768.size a := fun v483 k0_hw152 => k0_hw152
@[reducible] def k0_t20_loop : Scf.Loop 32 :=
  let c0_i32_152 : BitVec 32 := 0#32
  let c64_i32_153 : BitVec 32 := 64#32
  let v266 : BitVec 32 := Scalar.addi c0_i32_152 c64_i32_153
  let c1_i32_154 : BitVec 32 := 1#32
  ⟨c0_i32_152, v266, c1_i32_154⟩
def k0_off156 (k0_t20 : Fin k0_t20_loop.trips) : Fin 1 → Nat :=
  let c0_i32_152 : BitVec 32 := 0#32
  let c1_i32_154 : BitVec 32 := 1#32
  let arg15 : BitVec 32 := Scf.iv c0_i32_152 c1_i32_154 k0_t20
  let c128_i32 : BitVec 32 := 128#32
  let v427 : BitVec 32 := Scalar.muli arg15 c128_i32
  let c0_i32_253 : BitVec 32 := 0#32
  let v428 : BitVec 32 := Scalar.addi v427 c0_i32_253
  let v429 : Index := Scalar.indexCast v428
  ![v429.toNat]

def k0_chk153 (v434 : IVec S16 32) : Prop :=
  (∀ a x, ((![v434] : Fin 1 → IVec S16 32) a x).toNat < S32768.size a)
theorem k0_idx153_inb : ∀ (v434 : IVec S16 32) (k0_hw153 : k0_chk153 v434), ∀ a x, ((![v434] : Fin 1 → IVec S16 32) a x).toNat < S32768.size a := fun v434 k0_hw153 => k0_hw153
def k0_off157 (k0_t20 : Fin k0_t20_loop.trips) : Fin 1 → Nat :=
  let c0_i32_152 : BitVec 32 := 0#32
  let c1_i32_154 : BitVec 32 := 1#32
  let arg15 : BitVec 32 := Scf.iv c0_i32_152 c1_i32_154 k0_t20
  let c128_i32 : BitVec 32 := 128#32
  let v427 : BitVec 32 := Scalar.muli arg15 c128_i32
  let c16_i32_256 : BitVec 32 := 16#32
  let v435 : BitVec 32 := Scalar.addi v427 c16_i32_256
  let v436 : Index := Scalar.indexCast v435
  ![v436.toNat]

def k0_chk154 (v441 : IVec S16 32) : Prop :=
  (∀ a x, ((![v441] : Fin 1 → IVec S16 32) a x).toNat < S32768.size a)
theorem k0_idx154_inb : ∀ (v441 : IVec S16 32) (k0_hw154 : k0_chk154 v441), ∀ a x, ((![v441] : Fin 1 → IVec S16 32) a x).toNat < S32768.size a := fun v441 k0_hw154 => k0_hw154
def k0_off158 (k0_t20 : Fin k0_t20_loop.trips) : Fin 1 → Nat :=
  let c0_i32_152 : BitVec 32 := 0#32
  let c1_i32_154 : BitVec 32 := 1#32
  let arg15 : BitVec 32 := Scf.iv c0_i32_152 c1_i32_154 k0_t20
  let c128_i32 : BitVec 32 := 128#32
  let v427 : BitVec 32 := Scalar.muli arg15 c128_i32
  let c32_i32 : BitVec 32 := 32#32
  let v442 : BitVec 32 := Scalar.addi v427 c32_i32
  let v443 : Index := Scalar.indexCast v442
  ![v443.toNat]

def k0_chk155 (v448 : IVec S16 32) : Prop :=
  (∀ a x, ((![v448] : Fin 1 → IVec S16 32) a x).toNat < S32768.size a)
theorem k0_idx155_inb : ∀ (v448 : IVec S16 32) (k0_hw155 : k0_chk155 v448), ∀ a x, ((![v448] : Fin 1 → IVec S16 32) a x).toNat < S32768.size a := fun v448 k0_hw155 => k0_hw155
def k0_off159 (k0_t20 : Fin k0_t20_loop.trips) : Fin 1 → Nat :=
  let c0_i32_152 : BitVec 32 := 0#32
  let c1_i32_154 : BitVec 32 := 1#32
  let arg15 : BitVec 32 := Scf.iv c0_i32_152 c1_i32_154 k0_t20
  let c128_i32 : BitVec 32 := 128#32
  let v427 : BitVec 32 := Scalar.muli arg15 c128_i32
  let c48_i32 : BitVec 32 := 48#32
  let v449 : BitVec 32 := Scalar.addi v427 c48_i32
  let v450 : Index := Scalar.indexCast v449
  ![v450.toNat]

def k0_chk156 (v455 : IVec S16 32) : Prop :=
  (∀ a x, ((![v455] : Fin 1 → IVec S16 32) a x).toNat < S32768.size a)
theorem k0_idx156_inb : ∀ (v455 : IVec S16 32) (k0_hw156 : k0_chk156 v455), ∀ a x, ((![v455] : Fin 1 → IVec S16 32) a x).toNat < S32768.size a := fun v455 k0_hw156 => k0_hw156
def k0_off160 (k0_t20 : Fin k0_t20_loop.trips) : Fin 1 → Nat :=
  let c0_i32_152 : BitVec 32 := 0#32
  let c1_i32_154 : BitVec 32 := 1#32
  let arg15 : BitVec 32 := Scf.iv c0_i32_152 c1_i32_154 k0_t20
  let c128_i32 : BitVec 32 := 128#32
  let v427 : BitVec 32 := Scalar.muli arg15 c128_i32
  let c64_i32_263 : BitVec 32 := 64#32
  let v456 : BitVec 32 := Scalar.addi v427 c64_i32_263
  let v457 : Index := Scalar.indexCast v456
  ![v457.toNat]

def k0_chk157 (v462 : IVec S16 32) : Prop :=
  (∀ a x, ((![v462] : Fin 1 → IVec S16 32) a x).toNat < S32768.size a)
theorem k0_idx157_inb : ∀ (v462 : IVec S16 32) (k0_hw157 : k0_chk157 v462), ∀ a x, ((![v462] : Fin 1 → IVec S16 32) a x).toNat < S32768.size a := fun v462 k0_hw157 => k0_hw157
def k0_off161 (k0_t20 : Fin k0_t20_loop.trips) : Fin 1 → Nat :=
  let c0_i32_152 : BitVec 32 := 0#32
  let c1_i32_154 : BitVec 32 := 1#32
  let arg15 : BitVec 32 := Scf.iv c0_i32_152 c1_i32_154 k0_t20
  let c128_i32 : BitVec 32 := 128#32
  let v427 : BitVec 32 := Scalar.muli arg15 c128_i32
  let c80_i32 : BitVec 32 := 80#32
  let v463 : BitVec 32 := Scalar.addi v427 c80_i32
  let v464 : Index := Scalar.indexCast v463
  ![v464.toNat]

def k0_chk158 (v469 : IVec S16 32) : Prop :=
  (∀ a x, ((![v469] : Fin 1 → IVec S16 32) a x).toNat < S32768.size a)
theorem k0_idx158_inb : ∀ (v469 : IVec S16 32) (k0_hw158 : k0_chk158 v469), ∀ a x, ((![v469] : Fin 1 → IVec S16 32) a x).toNat < S32768.size a := fun v469 k0_hw158 => k0_hw158
def k0_off162 (k0_t20 : Fin k0_t20_loop.trips) : Fin 1 → Nat :=
  let c0_i32_152 : BitVec 32 := 0#32
  let c1_i32_154 : BitVec 32 := 1#32
  let arg15 : BitVec 32 := Scf.iv c0_i32_152 c1_i32_154 k0_t20
  let c128_i32 : BitVec 32 := 128#32
  let v427 : BitVec 32 := Scalar.muli arg15 c128_i32
  let c96_i32 : BitVec 32 := 96#32
  let v470 : BitVec 32 := Scalar.addi v427 c96_i32
  let v471 : Index := Scalar.indexCast v470
  ![v471.toNat]

def k0_chk159 (v476 : IVec S16 32) : Prop :=
  (∀ a x, ((![v476] : Fin 1 → IVec S16 32) a x).toNat < S32768.size a)
theorem k0_idx159_inb : ∀ (v476 : IVec S16 32) (k0_hw159 : k0_chk159 v476), ∀ a x, ((![v476] : Fin 1 → IVec S16 32) a x).toNat < S32768.size a := fun v476 k0_hw159 => k0_hw159
def k0_off163 (k0_t20 : Fin k0_t20_loop.trips) : Fin 1 → Nat :=
  let c0_i32_152 : BitVec 32 := 0#32
  let c1_i32_154 : BitVec 32 := 1#32
  let arg15 : BitVec 32 := Scf.iv c0_i32_152 c1_i32_154 k0_t20
  let c128_i32 : BitVec 32 := 128#32
  let v427 : BitVec 32 := Scalar.muli arg15 c128_i32
  let c112_i32 : BitVec 32 := 112#32
  let v477 : BitVec 32 := Scalar.addi v427 c112_i32
  let v478 : Index := Scalar.indexCast v477
  ![v478.toNat]

def k0_chk160 (v483 : IVec S16 32) : Prop :=
  (∀ a x, ((![v483] : Fin 1 → IVec S16 32) a x).toNat < S32768.size a)
theorem k0_idx160_inb : ∀ (v483 : IVec S16 32) (k0_hw160 : k0_chk160 v483), ∀ a x, ((![v483] : Fin 1 → IVec S16 32) a x).toNat < S32768.size a := fun v483 k0_hw160 => k0_hw160
@[reducible] def k0_t21_loop : Scf.Loop 32 :=
  let c0_i32_160 : BitVec 32 := 0#32
  let c64_i32_161 : BitVec 32 := 64#32
  let v279 : BitVec 32 := Scalar.addi c0_i32_160 c64_i32_161
  let c1_i32_162 : BitVec 32 := 1#32
  ⟨c0_i32_160, v279, c1_i32_162⟩
def k0_off164 (k0_t21 : Fin k0_t21_loop.trips) : Fin 1 → Nat :=
  let c0_i32_160 : BitVec 32 := 0#32
  let c1_i32_162 : BitVec 32 := 1#32
  let arg15 : BitVec 32 := Scf.iv c0_i32_160 c1_i32_162 k0_t21
  let c128_i32 : BitVec 32 := 128#32
  let v427 : BitVec 32 := Scalar.muli arg15 c128_i32
  let c0_i32_253 : BitVec 32 := 0#32
  let v428 : BitVec 32 := Scalar.addi v427 c0_i32_253
  let v429 : Index := Scalar.indexCast v428
  ![v429.toNat]

def k0_chk161 (v434 : IVec S16 32) : Prop :=
  (∀ a x, ((![v434] : Fin 1 → IVec S16 32) a x).toNat < S32768.size a)
theorem k0_idx161_inb : ∀ (v434 : IVec S16 32) (k0_hw161 : k0_chk161 v434), ∀ a x, ((![v434] : Fin 1 → IVec S16 32) a x).toNat < S32768.size a := fun v434 k0_hw161 => k0_hw161
def k0_off165 (k0_t21 : Fin k0_t21_loop.trips) : Fin 1 → Nat :=
  let c0_i32_160 : BitVec 32 := 0#32
  let c1_i32_162 : BitVec 32 := 1#32
  let arg15 : BitVec 32 := Scf.iv c0_i32_160 c1_i32_162 k0_t21
  let c128_i32 : BitVec 32 := 128#32
  let v427 : BitVec 32 := Scalar.muli arg15 c128_i32
  let c16_i32_256 : BitVec 32 := 16#32
  let v435 : BitVec 32 := Scalar.addi v427 c16_i32_256
  let v436 : Index := Scalar.indexCast v435
  ![v436.toNat]

def k0_chk162 (v441 : IVec S16 32) : Prop :=
  (∀ a x, ((![v441] : Fin 1 → IVec S16 32) a x).toNat < S32768.size a)
theorem k0_idx162_inb : ∀ (v441 : IVec S16 32) (k0_hw162 : k0_chk162 v441), ∀ a x, ((![v441] : Fin 1 → IVec S16 32) a x).toNat < S32768.size a := fun v441 k0_hw162 => k0_hw162
def k0_off166 (k0_t21 : Fin k0_t21_loop.trips) : Fin 1 → Nat :=
  let c0_i32_160 : BitVec 32 := 0#32
  let c1_i32_162 : BitVec 32 := 1#32
  let arg15 : BitVec 32 := Scf.iv c0_i32_160 c1_i32_162 k0_t21
  let c128_i32 : BitVec 32 := 128#32
  let v427 : BitVec 32 := Scalar.muli arg15 c128_i32
  let c32_i32 : BitVec 32 := 32#32
  let v442 : BitVec 32 := Scalar.addi v427 c32_i32
  let v443 : Index := Scalar.indexCast v442
  ![v443.toNat]

def k0_chk163 (v448 : IVec S16 32) : Prop :=
  (∀ a x, ((![v448] : Fin 1 → IVec S16 32) a x).toNat < S32768.size a)
theorem k0_idx163_inb : ∀ (v448 : IVec S16 32) (k0_hw163 : k0_chk163 v448), ∀ a x, ((![v448] : Fin 1 → IVec S16 32) a x).toNat < S32768.size a := fun v448 k0_hw163 => k0_hw163
def k0_off167 (k0_t21 : Fin k0_t21_loop.trips) : Fin 1 → Nat :=
  let c0_i32_160 : BitVec 32 := 0#32
  let c1_i32_162 : BitVec 32 := 1#32
  let arg15 : BitVec 32 := Scf.iv c0_i32_160 c1_i32_162 k0_t21
  let c128_i32 : BitVec 32 := 128#32
  let v427 : BitVec 32 := Scalar.muli arg15 c128_i32
  let c48_i32 : BitVec 32 := 48#32
  let v449 : BitVec 32 := Scalar.addi v427 c48_i32
  let v450 : Index := Scalar.indexCast v449
  ![v450.toNat]

def k0_chk164 (v455 : IVec S16 32) : Prop :=
  (∀ a x, ((![v455] : Fin 1 → IVec S16 32) a x).toNat < S32768.size a)
theorem k0_idx164_inb : ∀ (v455 : IVec S16 32) (k0_hw164 : k0_chk164 v455), ∀ a x, ((![v455] : Fin 1 → IVec S16 32) a x).toNat < S32768.size a := fun v455 k0_hw164 => k0_hw164
def k0_off168 (k0_t21 : Fin k0_t21_loop.trips) : Fin 1 → Nat :=
  let c0_i32_160 : BitVec 32 := 0#32
  let c1_i32_162 : BitVec 32 := 1#32
  let arg15 : BitVec 32 := Scf.iv c0_i32_160 c1_i32_162 k0_t21
  let c128_i32 : BitVec 32 := 128#32
  let v427 : BitVec 32 := Scalar.muli arg15 c128_i32
  let c64_i32_263 : BitVec 32 := 64#32
  let v456 : BitVec 32 := Scalar.addi v427 c64_i32_263
  let v457 : Index := Scalar.indexCast v456
  ![v457.toNat]

def k0_chk165 (v462 : IVec S16 32) : Prop :=
  (∀ a x, ((![v462] : Fin 1 → IVec S16 32) a x).toNat < S32768.size a)
theorem k0_idx165_inb : ∀ (v462 : IVec S16 32) (k0_hw165 : k0_chk165 v462), ∀ a x, ((![v462] : Fin 1 → IVec S16 32) a x).toNat < S32768.size a := fun v462 k0_hw165 => k0_hw165
def k0_off169 (k0_t21 : Fin k0_t21_loop.trips) : Fin 1 → Nat :=
  let c0_i32_160 : BitVec 32 := 0#32
  let c1_i32_162 : BitVec 32 := 1#32
  let arg15 : BitVec 32 := Scf.iv c0_i32_160 c1_i32_162 k0_t21
  let c128_i32 : BitVec 32 := 128#32
  let v427 : BitVec 32 := Scalar.muli arg15 c128_i32
  let c80_i32 : BitVec 32 := 80#32
  let v463 : BitVec 32 := Scalar.addi v427 c80_i32
  let v464 : Index := Scalar.indexCast v463
  ![v464.toNat]

def k0_chk166 (v469 : IVec S16 32) : Prop :=
  (∀ a x, ((![v469] : Fin 1 → IVec S16 32) a x).toNat < S32768.size a)
theorem k0_idx166_inb : ∀ (v469 : IVec S16 32) (k0_hw166 : k0_chk166 v469), ∀ a x, ((![v469] : Fin 1 → IVec S16 32) a x).toNat < S32768.size a := fun v469 k0_hw166 => k0_hw166
def k0_off170 (k0_t21 : Fin k0_t21_loop.trips) : Fin 1 → Nat :=
  let c0_i32_160 : BitVec 32 := 0#32
  let c1_i32_162 : BitVec 32 := 1#32
  let arg15 : BitVec 32 := Scf.iv c0_i32_160 c1_i32_162 k0_t21
  let c128_i32 : BitVec 32 := 128#32
  let v427 : BitVec 32 := Scalar.muli arg15 c128_i32
  let c96_i32 : BitVec 32 := 96#32
  let v470 : BitVec 32 := Scalar.addi v427 c96_i32
  let v471 : Index := Scalar.indexCast v470
  ![v471.toNat]

def k0_chk167 (v476 : IVec S16 32) : Prop :=
  (∀ a x, ((![v476] : Fin 1 → IVec S16 32) a x).toNat < S32768.size a)
theorem k0_idx167_inb : ∀ (v476 : IVec S16 32) (k0_hw167 : k0_chk167 v476), ∀ a x, ((![v476] : Fin 1 → IVec S16 32) a x).toNat < S32768.size a := fun v476 k0_hw167 => k0_hw167
def k0_off171 (k0_t21 : Fin k0_t21_loop.trips) : Fin 1 → Nat :=
  let c0_i32_160 : BitVec 32 := 0#32
  let c1_i32_162 : BitVec 32 := 1#32
  let arg15 : BitVec 32 := Scf.iv c0_i32_160 c1_i32_162 k0_t21
  let c128_i32 : BitVec 32 := 128#32
  let v427 : BitVec 32 := Scalar.muli arg15 c128_i32
  let c112_i32 : BitVec 32 := 112#32
  let v477 : BitVec 32 := Scalar.addi v427 c112_i32
  let v478 : Index := Scalar.indexCast v477
  ![v478.toNat]

def k0_chk168 (v483 : IVec S16 32) : Prop :=
  (∀ a x, ((![v483] : Fin 1 → IVec S16 32) a x).toNat < S32768.size a)
theorem k0_idx168_inb : ∀ (v483 : IVec S16 32) (k0_hw168 : k0_chk168 v483), ∀ a x, ((![v483] : Fin 1 → IVec S16 32) a x).toNat < S32768.size a := fun v483 k0_hw168 => k0_hw168
@[reducible] def k0_t22_loop : Scf.Loop 32 :=
  let c0_i32_168 : BitVec 32 := 0#32
  let c64_i32_169 : BitVec 32 := 64#32
  let v292 : BitVec 32 := Scalar.addi c0_i32_168 c64_i32_169
  let c1_i32_170 : BitVec 32 := 1#32
  ⟨c0_i32_168, v292, c1_i32_170⟩
def k0_off172 (k0_t22 : Fin k0_t22_loop.trips) : Fin 1 → Nat :=
  let c0_i32_168 : BitVec 32 := 0#32
  let c1_i32_170 : BitVec 32 := 1#32
  let arg15 : BitVec 32 := Scf.iv c0_i32_168 c1_i32_170 k0_t22
  let c128_i32 : BitVec 32 := 128#32
  let v427 : BitVec 32 := Scalar.muli arg15 c128_i32
  let c0_i32_253 : BitVec 32 := 0#32
  let v428 : BitVec 32 := Scalar.addi v427 c0_i32_253
  let v429 : Index := Scalar.indexCast v428
  ![v429.toNat]

def k0_chk169 (v434 : IVec S16 32) : Prop :=
  (∀ a x, ((![v434] : Fin 1 → IVec S16 32) a x).toNat < S32768.size a)
theorem k0_idx169_inb : ∀ (v434 : IVec S16 32) (k0_hw169 : k0_chk169 v434), ∀ a x, ((![v434] : Fin 1 → IVec S16 32) a x).toNat < S32768.size a := fun v434 k0_hw169 => k0_hw169
def k0_off173 (k0_t22 : Fin k0_t22_loop.trips) : Fin 1 → Nat :=
  let c0_i32_168 : BitVec 32 := 0#32
  let c1_i32_170 : BitVec 32 := 1#32
  let arg15 : BitVec 32 := Scf.iv c0_i32_168 c1_i32_170 k0_t22
  let c128_i32 : BitVec 32 := 128#32
  let v427 : BitVec 32 := Scalar.muli arg15 c128_i32
  let c16_i32_256 : BitVec 32 := 16#32
  let v435 : BitVec 32 := Scalar.addi v427 c16_i32_256
  let v436 : Index := Scalar.indexCast v435
  ![v436.toNat]

def k0_chk170 (v441 : IVec S16 32) : Prop :=
  (∀ a x, ((![v441] : Fin 1 → IVec S16 32) a x).toNat < S32768.size a)
theorem k0_idx170_inb : ∀ (v441 : IVec S16 32) (k0_hw170 : k0_chk170 v441), ∀ a x, ((![v441] : Fin 1 → IVec S16 32) a x).toNat < S32768.size a := fun v441 k0_hw170 => k0_hw170
def k0_off174 (k0_t22 : Fin k0_t22_loop.trips) : Fin 1 → Nat :=
  let c0_i32_168 : BitVec 32 := 0#32
  let c1_i32_170 : BitVec 32 := 1#32
  let arg15 : BitVec 32 := Scf.iv c0_i32_168 c1_i32_170 k0_t22
  let c128_i32 : BitVec 32 := 128#32
  let v427 : BitVec 32 := Scalar.muli arg15 c128_i32
  let c32_i32 : BitVec 32 := 32#32
  let v442 : BitVec 32 := Scalar.addi v427 c32_i32
  let v443 : Index := Scalar.indexCast v442
  ![v443.toNat]

def k0_chk171 (v448 : IVec S16 32) : Prop :=
  (∀ a x, ((![v448] : Fin 1 → IVec S16 32) a x).toNat < S32768.size a)
theorem k0_idx171_inb : ∀ (v448 : IVec S16 32) (k0_hw171 : k0_chk171 v448), ∀ a x, ((![v448] : Fin 1 → IVec S16 32) a x).toNat < S32768.size a := fun v448 k0_hw171 => k0_hw171
def k0_off175 (k0_t22 : Fin k0_t22_loop.trips) : Fin 1 → Nat :=
  let c0_i32_168 : BitVec 32 := 0#32
  let c1_i32_170 : BitVec 32 := 1#32
  let arg15 : BitVec 32 := Scf.iv c0_i32_168 c1_i32_170 k0_t22
  let c128_i32 : BitVec 32 := 128#32
  let v427 : BitVec 32 := Scalar.muli arg15 c128_i32
  let c48_i32 : BitVec 32 := 48#32
  let v449 : BitVec 32 := Scalar.addi v427 c48_i32
  let v450 : Index := Scalar.indexCast v449
  ![v450.toNat]

def k0_chk172 (v455 : IVec S16 32) : Prop :=
  (∀ a x, ((![v455] : Fin 1 → IVec S16 32) a x).toNat < S32768.size a)
theorem k0_idx172_inb : ∀ (v455 : IVec S16 32) (k0_hw172 : k0_chk172 v455), ∀ a x, ((![v455] : Fin 1 → IVec S16 32) a x).toNat < S32768.size a := fun v455 k0_hw172 => k0_hw172
def k0_off176 (k0_t22 : Fin k0_t22_loop.trips) : Fin 1 → Nat :=
  let c0_i32_168 : BitVec 32 := 0#32
  let c1_i32_170 : BitVec 32 := 1#32
  let arg15 : BitVec 32 := Scf.iv c0_i32_168 c1_i32_170 k0_t22
  let c128_i32 : BitVec 32 := 128#32
  let v427 : BitVec 32 := Scalar.muli arg15 c128_i32
  let c64_i32_263 : BitVec 32 := 64#32
  let v456 : BitVec 32 := Scalar.addi v427 c64_i32_263
  let v457 : Index := Scalar.indexCast v456
  ![v457.toNat]

def k0_chk173 (v462 : IVec S16 32) : Prop :=
  (∀ a x, ((![v462] : Fin 1 → IVec S16 32) a x).toNat < S32768.size a)
theorem k0_idx173_inb : ∀ (v462 : IVec S16 32) (k0_hw173 : k0_chk173 v462), ∀ a x, ((![v462] : Fin 1 → IVec S16 32) a x).toNat < S32768.size a := fun v462 k0_hw173 => k0_hw173
def k0_off177 (k0_t22 : Fin k0_t22_loop.trips) : Fin 1 → Nat :=
  let c0_i32_168 : BitVec 32 := 0#32
  let c1_i32_170 : BitVec 32 := 1#32
  let arg15 : BitVec 32 := Scf.iv c0_i32_168 c1_i32_170 k0_t22
  let c128_i32 : BitVec 32 := 128#32
  let v427 : BitVec 32 := Scalar.muli arg15 c128_i32
  let c80_i32 : BitVec 32 := 80#32
  let v463 : BitVec 32 := Scalar.addi v427 c80_i32
  let v464 : Index := Scalar.indexCast v463
  ![v464.toNat]

def k0_chk174 (v469 : IVec S16 32) : Prop :=
  (∀ a x, ((![v469] : Fin 1 → IVec S16 32) a x).toNat < S32768.size a)
theorem k0_idx174_inb : ∀ (v469 : IVec S16 32) (k0_hw174 : k0_chk174 v469), ∀ a x, ((![v469] : Fin 1 → IVec S16 32) a x).toNat < S32768.size a := fun v469 k0_hw174 => k0_hw174
def k0_off178 (k0_t22 : Fin k0_t22_loop.trips) : Fin 1 → Nat :=
  let c0_i32_168 : BitVec 32 := 0#32
  let c1_i32_170 : BitVec 32 := 1#32
  let arg15 : BitVec 32 := Scf.iv c0_i32_168 c1_i32_170 k0_t22
  let c128_i32 : BitVec 32 := 128#32
  let v427 : BitVec 32 := Scalar.muli arg15 c128_i32
  let c96_i32 : BitVec 32 := 96#32
  let v470 : BitVec 32 := Scalar.addi v427 c96_i32
  let v471 : Index := Scalar.indexCast v470
  ![v471.toNat]

def k0_chk175 (v476 : IVec S16 32) : Prop :=
  (∀ a x, ((![v476] : Fin 1 → IVec S16 32) a x).toNat < S32768.size a)
theorem k0_idx175_inb : ∀ (v476 : IVec S16 32) (k0_hw175 : k0_chk175 v476), ∀ a x, ((![v476] : Fin 1 → IVec S16 32) a x).toNat < S32768.size a := fun v476 k0_hw175 => k0_hw175
def k0_off179 (k0_t22 : Fin k0_t22_loop.trips) : Fin 1 → Nat :=
  let c0_i32_168 : BitVec 32 := 0#32
  let c1_i32_170 : BitVec 32 := 1#32
  let arg15 : BitVec 32 := Scf.iv c0_i32_168 c1_i32_170 k0_t22
  let c128_i32 : BitVec 32 := 128#32
  let v427 : BitVec 32 := Scalar.muli arg15 c128_i32
  let c112_i32 : BitVec 32 := 112#32
  let v477 : BitVec 32 := Scalar.addi v427 c112_i32
  let v478 : Index := Scalar.indexCast v477
  ![v478.toNat]

def k0_chk176 (v483 : IVec S16 32) : Prop :=
  (∀ a x, ((![v483] : Fin 1 → IVec S16 32) a x).toNat < S32768.size a)
theorem k0_idx176_inb : ∀ (v483 : IVec S16 32) (k0_hw176 : k0_chk176 v483), ∀ a x, ((![v483] : Fin 1 → IVec S16 32) a x).toNat < S32768.size a := fun v483 k0_hw176 => k0_hw176
@[reducible] def k0_t23_loop : Scf.Loop 32 :=
  let c0_i32_176 : BitVec 32 := 0#32
  let c64_i32_177 : BitVec 32 := 64#32
  let v305 : BitVec 32 := Scalar.addi c0_i32_176 c64_i32_177
  let c1_i32_178 : BitVec 32 := 1#32
  ⟨c0_i32_176, v305, c1_i32_178⟩
def k0_off180 (k0_t23 : Fin k0_t23_loop.trips) : Fin 1 → Nat :=
  let c0_i32_176 : BitVec 32 := 0#32
  let c1_i32_178 : BitVec 32 := 1#32
  let arg15 : BitVec 32 := Scf.iv c0_i32_176 c1_i32_178 k0_t23
  let c128_i32 : BitVec 32 := 128#32
  let v427 : BitVec 32 := Scalar.muli arg15 c128_i32
  let c0_i32_253 : BitVec 32 := 0#32
  let v428 : BitVec 32 := Scalar.addi v427 c0_i32_253
  let v429 : Index := Scalar.indexCast v428
  ![v429.toNat]

def k0_chk177 (v434 : IVec S16 32) : Prop :=
  (∀ a x, ((![v434] : Fin 1 → IVec S16 32) a x).toNat < S32768.size a)
theorem k0_idx177_inb : ∀ (v434 : IVec S16 32) (k0_hw177 : k0_chk177 v434), ∀ a x, ((![v434] : Fin 1 → IVec S16 32) a x).toNat < S32768.size a := fun v434 k0_hw177 => k0_hw177
def k0_off181 (k0_t23 : Fin k0_t23_loop.trips) : Fin 1 → Nat :=
  let c0_i32_176 : BitVec 32 := 0#32
  let c1_i32_178 : BitVec 32 := 1#32
  let arg15 : BitVec 32 := Scf.iv c0_i32_176 c1_i32_178 k0_t23
  let c128_i32 : BitVec 32 := 128#32
  let v427 : BitVec 32 := Scalar.muli arg15 c128_i32
  let c16_i32_256 : BitVec 32 := 16#32
  let v435 : BitVec 32 := Scalar.addi v427 c16_i32_256
  let v436 : Index := Scalar.indexCast v435
  ![v436.toNat]

def k0_chk178 (v441 : IVec S16 32) : Prop :=
  (∀ a x, ((![v441] : Fin 1 → IVec S16 32) a x).toNat < S32768.size a)
theorem k0_idx178_inb : ∀ (v441 : IVec S16 32) (k0_hw178 : k0_chk178 v441), ∀ a x, ((![v441] : Fin 1 → IVec S16 32) a x).toNat < S32768.size a := fun v441 k0_hw178 => k0_hw178
def k0_off182 (k0_t23 : Fin k0_t23_loop.trips) : Fin 1 → Nat :=
  let c0_i32_176 : BitVec 32 := 0#32
  let c1_i32_178 : BitVec 32 := 1#32
  let arg15 : BitVec 32 := Scf.iv c0_i32_176 c1_i32_178 k0_t23
  let c128_i32 : BitVec 32 := 128#32
  let v427 : BitVec 32 := Scalar.muli arg15 c128_i32
  let c32_i32 : BitVec 32 := 32#32
  let v442 : BitVec 32 := Scalar.addi v427 c32_i32
  let v443 : Index := Scalar.indexCast v442
  ![v443.toNat]

def k0_chk179 (v448 : IVec S16 32) : Prop :=
  (∀ a x, ((![v448] : Fin 1 → IVec S16 32) a x).toNat < S32768.size a)
theorem k0_idx179_inb : ∀ (v448 : IVec S16 32) (k0_hw179 : k0_chk179 v448), ∀ a x, ((![v448] : Fin 1 → IVec S16 32) a x).toNat < S32768.size a := fun v448 k0_hw179 => k0_hw179
def k0_off183 (k0_t23 : Fin k0_t23_loop.trips) : Fin 1 → Nat :=
  let c0_i32_176 : BitVec 32 := 0#32
  let c1_i32_178 : BitVec 32 := 1#32
  let arg15 : BitVec 32 := Scf.iv c0_i32_176 c1_i32_178 k0_t23
  let c128_i32 : BitVec 32 := 128#32
  let v427 : BitVec 32 := Scalar.muli arg15 c128_i32
  let c48_i32 : BitVec 32 := 48#32
  let v449 : BitVec 32 := Scalar.addi v427 c48_i32
  let v450 : Index := Scalar.indexCast v449
  ![v450.toNat]

def k0_chk180 (v455 : IVec S16 32) : Prop :=
  (∀ a x, ((![v455] : Fin 1 → IVec S16 32) a x).toNat < S32768.size a)
theorem k0_idx180_inb : ∀ (v455 : IVec S16 32) (k0_hw180 : k0_chk180 v455), ∀ a x, ((![v455] : Fin 1 → IVec S16 32) a x).toNat < S32768.size a := fun v455 k0_hw180 => k0_hw180
def k0_off184 (k0_t23 : Fin k0_t23_loop.trips) : Fin 1 → Nat :=
  let c0_i32_176 : BitVec 32 := 0#32
  let c1_i32_178 : BitVec 32 := 1#32
  let arg15 : BitVec 32 := Scf.iv c0_i32_176 c1_i32_178 k0_t23
  let c128_i32 : BitVec 32 := 128#32
  let v427 : BitVec 32 := Scalar.muli arg15 c128_i32
  let c64_i32_263 : BitVec 32 := 64#32
  let v456 : BitVec 32 := Scalar.addi v427 c64_i32_263
  let v457 : Index := Scalar.indexCast v456
  ![v457.toNat]

def k0_chk181 (v462 : IVec S16 32) : Prop :=
  (∀ a x, ((![v462] : Fin 1 → IVec S16 32) a x).toNat < S32768.size a)
theorem k0_idx181_inb : ∀ (v462 : IVec S16 32) (k0_hw181 : k0_chk181 v462), ∀ a x, ((![v462] : Fin 1 → IVec S16 32) a x).toNat < S32768.size a := fun v462 k0_hw181 => k0_hw181
def k0_off185 (k0_t23 : Fin k0_t23_loop.trips) : Fin 1 → Nat :=
  let c0_i32_176 : BitVec 32 := 0#32
  let c1_i32_178 : BitVec 32 := 1#32
  let arg15 : BitVec 32 := Scf.iv c0_i32_176 c1_i32_178 k0_t23
  let c128_i32 : BitVec 32 := 128#32
  let v427 : BitVec 32 := Scalar.muli arg15 c128_i32
  let c80_i32 : BitVec 32 := 80#32
  let v463 : BitVec 32 := Scalar.addi v427 c80_i32
  let v464 : Index := Scalar.indexCast v463
  ![v464.toNat]

def k0_chk182 (v469 : IVec S16 32) : Prop :=
  (∀ a x, ((![v469] : Fin 1 → IVec S16 32) a x).toNat < S32768.size a)
theorem k0_idx182_inb : ∀ (v469 : IVec S16 32) (k0_hw182 : k0_chk182 v469), ∀ a x, ((![v469] : Fin 1 → IVec S16 32) a x).toNat < S32768.size a := fun v469 k0_hw182 => k0_hw182
def k0_off186 (k0_t23 : Fin k0_t23_loop.trips) : Fin 1 → Nat :=
  let c0_i32_176 : BitVec 32 := 0#32
  let c1_i32_178 : BitVec 32 := 1#32
  let arg15 : BitVec 32 := Scf.iv c0_i32_176 c1_i32_178 k0_t23
  let c128_i32 : BitVec 32 := 128#32
  let v427 : BitVec 32 := Scalar.muli arg15 c128_i32
  let c96_i32 : BitVec 32 := 96#32
  let v470 : BitVec 32 := Scalar.addi v427 c96_i32
  let v471 : Index := Scalar.indexCast v470
  ![v471.toNat]

def k0_chk183 (v476 : IVec S16 32) : Prop :=
  (∀ a x, ((![v476] : Fin 1 → IVec S16 32) a x).toNat < S32768.size a)
theorem k0_idx183_inb : ∀ (v476 : IVec S16 32) (k0_hw183 : k0_chk183 v476), ∀ a x, ((![v476] : Fin 1 → IVec S16 32) a x).toNat < S32768.size a := fun v476 k0_hw183 => k0_hw183
def k0_off187 (k0_t23 : Fin k0_t23_loop.trips) : Fin 1 → Nat :=
  let c0_i32_176 : BitVec 32 := 0#32
  let c1_i32_178 : BitVec 32 := 1#32
  let arg15 : BitVec 32 := Scf.iv c0_i32_176 c1_i32_178 k0_t23
  let c128_i32 : BitVec 32 := 128#32
  let v427 : BitVec 32 := Scalar.muli arg15 c128_i32
  let c112_i32 : BitVec 32 := 112#32
  let v477 : BitVec 32 := Scalar.addi v427 c112_i32
  let v478 : Index := Scalar.indexCast v477
  ![v478.toNat]

def k0_chk184 (v483 : IVec S16 32) : Prop :=
  (∀ a x, ((![v483] : Fin 1 → IVec S16 32) a x).toNat < S32768.size a)
theorem k0_idx184_inb : ∀ (v483 : IVec S16 32) (k0_hw184 : k0_chk184 v483), ∀ a x, ((![v483] : Fin 1 → IVec S16 32) a x).toNat < S32768.size a := fun v483 k0_hw184 => k0_hw184
@[reducible] def k0_t24_loop : Scf.Loop 32 :=
  let c0_i32_184 : BitVec 32 := 0#32
  let c64_i32_185 : BitVec 32 := 64#32
  let v318 : BitVec 32 := Scalar.addi c0_i32_184 c64_i32_185
  let c1_i32_186 : BitVec 32 := 1#32
  ⟨c0_i32_184, v318, c1_i32_186⟩
def k0_off188 (k0_t24 : Fin k0_t24_loop.trips) : Fin 1 → Nat :=
  let c0_i32_184 : BitVec 32 := 0#32
  let c1_i32_186 : BitVec 32 := 1#32
  let arg15 : BitVec 32 := Scf.iv c0_i32_184 c1_i32_186 k0_t24
  let c128_i32 : BitVec 32 := 128#32
  let v427 : BitVec 32 := Scalar.muli arg15 c128_i32
  let c0_i32_253 : BitVec 32 := 0#32
  let v428 : BitVec 32 := Scalar.addi v427 c0_i32_253
  let v429 : Index := Scalar.indexCast v428
  ![v429.toNat]

def k0_chk185 (v434 : IVec S16 32) : Prop :=
  (∀ a x, ((![v434] : Fin 1 → IVec S16 32) a x).toNat < S32768.size a)
theorem k0_idx185_inb : ∀ (v434 : IVec S16 32) (k0_hw185 : k0_chk185 v434), ∀ a x, ((![v434] : Fin 1 → IVec S16 32) a x).toNat < S32768.size a := fun v434 k0_hw185 => k0_hw185
def k0_off189 (k0_t24 : Fin k0_t24_loop.trips) : Fin 1 → Nat :=
  let c0_i32_184 : BitVec 32 := 0#32
  let c1_i32_186 : BitVec 32 := 1#32
  let arg15 : BitVec 32 := Scf.iv c0_i32_184 c1_i32_186 k0_t24
  let c128_i32 : BitVec 32 := 128#32
  let v427 : BitVec 32 := Scalar.muli arg15 c128_i32
  let c16_i32_256 : BitVec 32 := 16#32
  let v435 : BitVec 32 := Scalar.addi v427 c16_i32_256
  let v436 : Index := Scalar.indexCast v435
  ![v436.toNat]

def k0_chk186 (v441 : IVec S16 32) : Prop :=
  (∀ a x, ((![v441] : Fin 1 → IVec S16 32) a x).toNat < S32768.size a)
theorem k0_idx186_inb : ∀ (v441 : IVec S16 32) (k0_hw186 : k0_chk186 v441), ∀ a x, ((![v441] : Fin 1 → IVec S16 32) a x).toNat < S32768.size a := fun v441 k0_hw186 => k0_hw186
def k0_off190 (k0_t24 : Fin k0_t24_loop.trips) : Fin 1 → Nat :=
  let c0_i32_184 : BitVec 32 := 0#32
  let c1_i32_186 : BitVec 32 := 1#32
  let arg15 : BitVec 32 := Scf.iv c0_i32_184 c1_i32_186 k0_t24
  let c128_i32 : BitVec 32 := 128#32
  let v427 : BitVec 32 := Scalar.muli arg15 c128_i32
  let c32_i32 : BitVec 32 := 32#32
  let v442 : BitVec 32 := Scalar.addi v427 c32_i32
  let v443 : Index := Scalar.indexCast v442
  ![v443.toNat]

def k0_chk187 (v448 : IVec S16 32) : Prop :=
  (∀ a x, ((![v448] : Fin 1 → IVec S16 32) a x).toNat < S32768.size a)
theorem k0_idx187_inb : ∀ (v448 : IVec S16 32) (k0_hw187 : k0_chk187 v448), ∀ a x, ((![v448] : Fin 1 → IVec S16 32) a x).toNat < S32768.size a := fun v448 k0_hw187 => k0_hw187
def k0_off191 (k0_t24 : Fin k0_t24_loop.trips) : Fin 1 → Nat :=
  let c0_i32_184 : BitVec 32 := 0#32
  let c1_i32_186 : BitVec 32 := 1#32
  let arg15 : BitVec 32 := Scf.iv c0_i32_184 c1_i32_186 k0_t24
  let c128_i32 : BitVec 32 := 128#32
  let v427 : BitVec 32 := Scalar.muli arg15 c128_i32
  let c48_i32 : BitVec 32 := 48#32
  let v449 : BitVec 32 := Scalar.addi v427 c48_i32
  let v450 : Index := Scalar.indexCast v449
  ![v450.toNat]

def k0_chk188 (v455 : IVec S16 32) : Prop :=
  (∀ a x, ((![v455] : Fin 1 → IVec S16 32) a x).toNat < S32768.size a)
theorem k0_idx188_inb : ∀ (v455 : IVec S16 32) (k0_hw188 : k0_chk188 v455), ∀ a x, ((![v455] : Fin 1 → IVec S16 32) a x).toNat < S32768.size a := fun v455 k0_hw188 => k0_hw188
def k0_off192 (k0_t24 : Fin k0_t24_loop.trips) : Fin 1 → Nat :=
  let c0_i32_184 : BitVec 32 := 0#32
  let c1_i32_186 : BitVec 32 := 1#32
  let arg15 : BitVec 32 := Scf.iv c0_i32_184 c1_i32_186 k0_t24
  let c128_i32 : BitVec 32 := 128#32
  let v427 : BitVec 32 := Scalar.muli arg15 c128_i32
  let c64_i32_263 : BitVec 32 := 64#32
  let v456 : BitVec 32 := Scalar.addi v427 c64_i32_263
  let v457 : Index := Scalar.indexCast v456
  ![v457.toNat]

def k0_chk189 (v462 : IVec S16 32) : Prop :=
  (∀ a x, ((![v462] : Fin 1 → IVec S16 32) a x).toNat < S32768.size a)
theorem k0_idx189_inb : ∀ (v462 : IVec S16 32) (k0_hw189 : k0_chk189 v462), ∀ a x, ((![v462] : Fin 1 → IVec S16 32) a x).toNat < S32768.size a := fun v462 k0_hw189 => k0_hw189
def k0_off193 (k0_t24 : Fin k0_t24_loop.trips) : Fin 1 → Nat :=
  let c0_i32_184 : BitVec 32 := 0#32
  let c1_i32_186 : BitVec 32 := 1#32
  let arg15 : BitVec 32 := Scf.iv c0_i32_184 c1_i32_186 k0_t24
  let c128_i32 : BitVec 32 := 128#32
  let v427 : BitVec 32 := Scalar.muli arg15 c128_i32
  let c80_i32 : BitVec 32 := 80#32
  let v463 : BitVec 32 := Scalar.addi v427 c80_i32
  let v464 : Index := Scalar.indexCast v463
  ![v464.toNat]

def k0_chk190 (v469 : IVec S16 32) : Prop :=
  (∀ a x, ((![v469] : Fin 1 → IVec S16 32) a x).toNat < S32768.size a)
theorem k0_idx190_inb : ∀ (v469 : IVec S16 32) (k0_hw190 : k0_chk190 v469), ∀ a x, ((![v469] : Fin 1 → IVec S16 32) a x).toNat < S32768.size a := fun v469 k0_hw190 => k0_hw190
def k0_off194 (k0_t24 : Fin k0_t24_loop.trips) : Fin 1 → Nat :=
  let c0_i32_184 : BitVec 32 := 0#32
  let c1_i32_186 : BitVec 32 := 1#32
  let arg15 : BitVec 32 := Scf.iv c0_i32_184 c1_i32_186 k0_t24
  let c128_i32 : BitVec 32 := 128#32
  let v427 : BitVec 32 := Scalar.muli arg15 c128_i32
  let c96_i32 : BitVec 32 := 96#32
  let v470 : BitVec 32 := Scalar.addi v427 c96_i32
  let v471 : Index := Scalar.indexCast v470
  ![v471.toNat]

def k0_chk191 (v476 : IVec S16 32) : Prop :=
  (∀ a x, ((![v476] : Fin 1 → IVec S16 32) a x).toNat < S32768.size a)
theorem k0_idx191_inb : ∀ (v476 : IVec S16 32) (k0_hw191 : k0_chk191 v476), ∀ a x, ((![v476] : Fin 1 → IVec S16 32) a x).toNat < S32768.size a := fun v476 k0_hw191 => k0_hw191
def k0_off195 (k0_t24 : Fin k0_t24_loop.trips) : Fin 1 → Nat :=
  let c0_i32_184 : BitVec 32 := 0#32
  let c1_i32_186 : BitVec 32 := 1#32
  let arg15 : BitVec 32 := Scf.iv c0_i32_184 c1_i32_186 k0_t24
  let c128_i32 : BitVec 32 := 128#32
  let v427 : BitVec 32 := Scalar.muli arg15 c128_i32
  let c112_i32 : BitVec 32 := 112#32
  let v477 : BitVec 32 := Scalar.addi v427 c112_i32
  let v478 : Index := Scalar.indexCast v477
  ![v478.toNat]

def k0_chk192 (v483 : IVec S16 32) : Prop :=
  (∀ a x, ((![v483] : Fin 1 → IVec S16 32) a x).toNat < S32768.size a)
theorem k0_idx192_inb : ∀ (v483 : IVec S16 32) (k0_hw192 : k0_chk192 v483), ∀ a x, ((![v483] : Fin 1 → IVec S16 32) a x).toNat < S32768.size a := fun v483 k0_hw192 => k0_hw192
@[reducible] def k0_t25_loop : Scf.Loop 32 :=
  let c0_i32_192 : BitVec 32 := 0#32
  let c64_i32_193 : BitVec 32 := 64#32
  let v331 : BitVec 32 := Scalar.addi c0_i32_192 c64_i32_193
  let c1_i32_194 : BitVec 32 := 1#32
  ⟨c0_i32_192, v331, c1_i32_194⟩
def k0_off196 (k0_t25 : Fin k0_t25_loop.trips) : Fin 1 → Nat :=
  let c0_i32_192 : BitVec 32 := 0#32
  let c1_i32_194 : BitVec 32 := 1#32
  let arg15 : BitVec 32 := Scf.iv c0_i32_192 c1_i32_194 k0_t25
  let c128_i32 : BitVec 32 := 128#32
  let v427 : BitVec 32 := Scalar.muli arg15 c128_i32
  let c0_i32_253 : BitVec 32 := 0#32
  let v428 : BitVec 32 := Scalar.addi v427 c0_i32_253
  let v429 : Index := Scalar.indexCast v428
  ![v429.toNat]

def k0_chk193 (v434 : IVec S16 32) : Prop :=
  (∀ a x, ((![v434] : Fin 1 → IVec S16 32) a x).toNat < S32768.size a)
theorem k0_idx193_inb : ∀ (v434 : IVec S16 32) (k0_hw193 : k0_chk193 v434), ∀ a x, ((![v434] : Fin 1 → IVec S16 32) a x).toNat < S32768.size a := fun v434 k0_hw193 => k0_hw193
def k0_off197 (k0_t25 : Fin k0_t25_loop.trips) : Fin 1 → Nat :=
  let c0_i32_192 : BitVec 32 := 0#32
  let c1_i32_194 : BitVec 32 := 1#32
  let arg15 : BitVec 32 := Scf.iv c0_i32_192 c1_i32_194 k0_t25
  let c128_i32 : BitVec 32 := 128#32
  let v427 : BitVec 32 := Scalar.muli arg15 c128_i32
  let c16_i32_256 : BitVec 32 := 16#32
  let v435 : BitVec 32 := Scalar.addi v427 c16_i32_256
  let v436 : Index := Scalar.indexCast v435
  ![v436.toNat]

def k0_chk194 (v441 : IVec S16 32) : Prop :=
  (∀ a x, ((![v441] : Fin 1 → IVec S16 32) a x).toNat < S32768.size a)
theorem k0_idx194_inb : ∀ (v441 : IVec S16 32) (k0_hw194 : k0_chk194 v441), ∀ a x, ((![v441] : Fin 1 → IVec S16 32) a x).toNat < S32768.size a := fun v441 k0_hw194 => k0_hw194
def k0_off198 (k0_t25 : Fin k0_t25_loop.trips) : Fin 1 → Nat :=
  let c0_i32_192 : BitVec 32 := 0#32
  let c1_i32_194 : BitVec 32 := 1#32
  let arg15 : BitVec 32 := Scf.iv c0_i32_192 c1_i32_194 k0_t25
  let c128_i32 : BitVec 32 := 128#32
  let v427 : BitVec 32 := Scalar.muli arg15 c128_i32
  let c32_i32 : BitVec 32 := 32#32
  let v442 : BitVec 32 := Scalar.addi v427 c32_i32
  let v443 : Index := Scalar.indexCast v442
  ![v443.toNat]

def k0_chk195 (v448 : IVec S16 32) : Prop :=
  (∀ a x, ((![v448] : Fin 1 → IVec S16 32) a x).toNat < S32768.size a)
theorem k0_idx195_inb : ∀ (v448 : IVec S16 32) (k0_hw195 : k0_chk195 v448), ∀ a x, ((![v448] : Fin 1 → IVec S16 32) a x).toNat < S32768.size a := fun v448 k0_hw195 => k0_hw195
def k0_off199 (k0_t25 : Fin k0_t25_loop.trips) : Fin 1 → Nat :=
  let c0_i32_192 : BitVec 32 := 0#32
  let c1_i32_194 : BitVec 32 := 1#32
  let arg15 : BitVec 32 := Scf.iv c0_i32_192 c1_i32_194 k0_t25
  let c128_i32 : BitVec 32 := 128#32
  let v427 : BitVec 32 := Scalar.muli arg15 c128_i32
  let c48_i32 : BitVec 32 := 48#32
  let v449 : BitVec 32 := Scalar.addi v427 c48_i32
  let v450 : Index := Scalar.indexCast v449
  ![v450.toNat]

def k0_chk196 (v455 : IVec S16 32) : Prop :=
  (∀ a x, ((![v455] : Fin 1 → IVec S16 32) a x).toNat < S32768.size a)
theorem k0_idx196_inb : ∀ (v455 : IVec S16 32) (k0_hw196 : k0_chk196 v455), ∀ a x, ((![v455] : Fin 1 → IVec S16 32) a x).toNat < S32768.size a := fun v455 k0_hw196 => k0_hw196
def k0_off200 (k0_t25 : Fin k0_t25_loop.trips) : Fin 1 → Nat :=
  let c0_i32_192 : BitVec 32 := 0#32
  let c1_i32_194 : BitVec 32 := 1#32
  let arg15 : BitVec 32 := Scf.iv c0_i32_192 c1_i32_194 k0_t25
  let c128_i32 : BitVec 32 := 128#32
  let v427 : BitVec 32 := Scalar.muli arg15 c128_i32
  let c64_i32_263 : BitVec 32 := 64#32
  let v456 : BitVec 32 := Scalar.addi v427 c64_i32_263
  let v457 : Index := Scalar.indexCast v456
  ![v457.toNat]

def k0_chk197 (v462 : IVec S16 32) : Prop :=
  (∀ a x, ((![v462] : Fin 1 → IVec S16 32) a x).toNat < S32768.size a)
theorem k0_idx197_inb : ∀ (v462 : IVec S16 32) (k0_hw197 : k0_chk197 v462), ∀ a x, ((![v462] : Fin 1 → IVec S16 32) a x).toNat < S32768.size a := fun v462 k0_hw197 => k0_hw197
def k0_off201 (k0_t25 : Fin k0_t25_loop.trips) : Fin 1 → Nat :=
  let c0_i32_192 : BitVec 32 := 0#32
  let c1_i32_194 : BitVec 32 := 1#32
  let arg15 : BitVec 32 := Scf.iv c0_i32_192 c1_i32_194 k0_t25
  let c128_i32 : BitVec 32 := 128#32
  let v427 : BitVec 32 := Scalar.muli arg15 c128_i32
  let c80_i32 : BitVec 32 := 80#32
  let v463 : BitVec 32 := Scalar.addi v427 c80_i32
  let v464 : Index := Scalar.indexCast v463
  ![v464.toNat]

def k0_chk198 (v469 : IVec S16 32) : Prop :=
  (∀ a x, ((![v469] : Fin 1 → IVec S16 32) a x).toNat < S32768.size a)
theorem k0_idx198_inb : ∀ (v469 : IVec S16 32) (k0_hw198 : k0_chk198 v469), ∀ a x, ((![v469] : Fin 1 → IVec S16 32) a x).toNat < S32768.size a := fun v469 k0_hw198 => k0_hw198
def k0_off202 (k0_t25 : Fin k0_t25_loop.trips) : Fin 1 → Nat :=
  let c0_i32_192 : BitVec 32 := 0#32
  let c1_i32_194 : BitVec 32 := 1#32
  let arg15 : BitVec 32 := Scf.iv c0_i32_192 c1_i32_194 k0_t25
  let c128_i32 : BitVec 32 := 128#32
  let v427 : BitVec 32 := Scalar.muli arg15 c128_i32
  let c96_i32 : BitVec 32 := 96#32
  let v470 : BitVec 32 := Scalar.addi v427 c96_i32
  let v471 : Index := Scalar.indexCast v470
  ![v471.toNat]

def k0_chk199 (v476 : IVec S16 32) : Prop :=
  (∀ a x, ((![v476] : Fin 1 → IVec S16 32) a x).toNat < S32768.size a)
theorem k0_idx199_inb : ∀ (v476 : IVec S16 32) (k0_hw199 : k0_chk199 v476), ∀ a x, ((![v476] : Fin 1 → IVec S16 32) a x).toNat < S32768.size a := fun v476 k0_hw199 => k0_hw199
def k0_off203 (k0_t25 : Fin k0_t25_loop.trips) : Fin 1 → Nat :=
  let c0_i32_192 : BitVec 32 := 0#32
  let c1_i32_194 : BitVec 32 := 1#32
  let arg15 : BitVec 32 := Scf.iv c0_i32_192 c1_i32_194 k0_t25
  let c128_i32 : BitVec 32 := 128#32
  let v427 : BitVec 32 := Scalar.muli arg15 c128_i32
  let c112_i32 : BitVec 32 := 112#32
  let v477 : BitVec 32 := Scalar.addi v427 c112_i32
  let v478 : Index := Scalar.indexCast v477
  ![v478.toNat]

def k0_chk200 (v483 : IVec S16 32) : Prop :=
  (∀ a x, ((![v483] : Fin 1 → IVec S16 32) a x).toNat < S32768.size a)
theorem k0_idx200_inb : ∀ (v483 : IVec S16 32) (k0_hw200 : k0_chk200 v483), ∀ a x, ((![v483] : Fin 1 → IVec S16 32) a x).toNat < S32768.size a := fun v483 k0_hw200 => k0_hw200
@[reducible] def k0_t26_loop : Scf.Loop 32 :=
  let c0_i32_200 : BitVec 32 := 0#32
  let c64_i32_201 : BitVec 32 := 64#32
  let v344 : BitVec 32 := Scalar.addi c0_i32_200 c64_i32_201
  let c1_i32_202 : BitVec 32 := 1#32
  ⟨c0_i32_200, v344, c1_i32_202⟩
def k0_off204 (k0_t26 : Fin k0_t26_loop.trips) : Fin 1 → Nat :=
  let c0_i32_200 : BitVec 32 := 0#32
  let c1_i32_202 : BitVec 32 := 1#32
  let arg15 : BitVec 32 := Scf.iv c0_i32_200 c1_i32_202 k0_t26
  let c128_i32 : BitVec 32 := 128#32
  let v427 : BitVec 32 := Scalar.muli arg15 c128_i32
  let c0_i32_253 : BitVec 32 := 0#32
  let v428 : BitVec 32 := Scalar.addi v427 c0_i32_253
  let v429 : Index := Scalar.indexCast v428
  ![v429.toNat]

def k0_chk201 (v434 : IVec S16 32) : Prop :=
  (∀ a x, ((![v434] : Fin 1 → IVec S16 32) a x).toNat < S32768.size a)
theorem k0_idx201_inb : ∀ (v434 : IVec S16 32) (k0_hw201 : k0_chk201 v434), ∀ a x, ((![v434] : Fin 1 → IVec S16 32) a x).toNat < S32768.size a := fun v434 k0_hw201 => k0_hw201
def k0_off205 (k0_t26 : Fin k0_t26_loop.trips) : Fin 1 → Nat :=
  let c0_i32_200 : BitVec 32 := 0#32
  let c1_i32_202 : BitVec 32 := 1#32
  let arg15 : BitVec 32 := Scf.iv c0_i32_200 c1_i32_202 k0_t26
  let c128_i32 : BitVec 32 := 128#32
  let v427 : BitVec 32 := Scalar.muli arg15 c128_i32
  let c16_i32_256 : BitVec 32 := 16#32
  let v435 : BitVec 32 := Scalar.addi v427 c16_i32_256
  let v436 : Index := Scalar.indexCast v435
  ![v436.toNat]

def k0_chk202 (v441 : IVec S16 32) : Prop :=
  (∀ a x, ((![v441] : Fin 1 → IVec S16 32) a x).toNat < S32768.size a)
theorem k0_idx202_inb : ∀ (v441 : IVec S16 32) (k0_hw202 : k0_chk202 v441), ∀ a x, ((![v441] : Fin 1 → IVec S16 32) a x).toNat < S32768.size a := fun v441 k0_hw202 => k0_hw202
def k0_off206 (k0_t26 : Fin k0_t26_loop.trips) : Fin 1 → Nat :=
  let c0_i32_200 : BitVec 32 := 0#32
  let c1_i32_202 : BitVec 32 := 1#32
  let arg15 : BitVec 32 := Scf.iv c0_i32_200 c1_i32_202 k0_t26
  let c128_i32 : BitVec 32 := 128#32
  let v427 : BitVec 32 := Scalar.muli arg15 c128_i32
  let c32_i32 : BitVec 32 := 32#32
  let v442 : BitVec 32 := Scalar.addi v427 c32_i32
  let v443 : Index := Scalar.indexCast v442
  ![v443.toNat]

def k0_chk203 (v448 : IVec S16 32) : Prop :=
  (∀ a x, ((![v448] : Fin 1 → IVec S16 32) a x).toNat < S32768.size a)
theorem k0_idx203_inb : ∀ (v448 : IVec S16 32) (k0_hw203 : k0_chk203 v448), ∀ a x, ((![v448] : Fin 1 → IVec S16 32) a x).toNat < S32768.size a := fun v448 k0_hw203 => k0_hw203
def k0_off207 (k0_t26 : Fin k0_t26_loop.trips) : Fin 1 → Nat :=
  let c0_i32_200 : BitVec 32 := 0#32
  let c1_i32_202 : BitVec 32 := 1#32
  let arg15 : BitVec 32 := Scf.iv c0_i32_200 c1_i32_202 k0_t26
  let c128_i32 : BitVec 32 := 128#32
  let v427 : BitVec 32 := Scalar.muli arg15 c128_i32
  let c48_i32 : BitVec 32 := 48#32
  let v449 : BitVec 32 := Scalar.addi v427 c48_i32
  let v450 : Index := Scalar.indexCast v449
  ![v450.toNat]

def k0_chk204 (v455 : IVec S16 32) : Prop :=
  (∀ a x, ((![v455] : Fin 1 → IVec S16 32) a x).toNat < S32768.size a)
theorem k0_idx204_inb : ∀ (v455 : IVec S16 32) (k0_hw204 : k0_chk204 v455), ∀ a x, ((![v455] : Fin 1 → IVec S16 32) a x).toNat < S32768.size a := fun v455 k0_hw204 => k0_hw204
def k0_off208 (k0_t26 : Fin k0_t26_loop.trips) : Fin 1 → Nat :=
  let c0_i32_200 : BitVec 32 := 0#32
  let c1_i32_202 : BitVec 32 := 1#32
  let arg15 : BitVec 32 := Scf.iv c0_i32_200 c1_i32_202 k0_t26
  let c128_i32 : BitVec 32 := 128#32
  let v427 : BitVec 32 := Scalar.muli arg15 c128_i32
  let c64_i32_263 : BitVec 32 := 64#32
  let v456 : BitVec 32 := Scalar.addi v427 c64_i32_263
  let v457 : Index := Scalar.indexCast v456
  ![v457.toNat]

def k0_chk205 (v462 : IVec S16 32) : Prop :=
  (∀ a x, ((![v462] : Fin 1 → IVec S16 32) a x).toNat < S32768.size a)
theorem k0_idx205_inb : ∀ (v462 : IVec S16 32) (k0_hw205 : k0_chk205 v462), ∀ a x, ((![v462] : Fin 1 → IVec S16 32) a x).toNat < S32768.size a := fun v462 k0_hw205 => k0_hw205
def k0_off209 (k0_t26 : Fin k0_t26_loop.trips) : Fin 1 → Nat :=
  let c0_i32_200 : BitVec 32 := 0#32
  let c1_i32_202 : BitVec 32 := 1#32
  let arg15 : BitVec 32 := Scf.iv c0_i32_200 c1_i32_202 k0_t26
  let c128_i32 : BitVec 32 := 128#32
  let v427 : BitVec 32 := Scalar.muli arg15 c128_i32
  let c80_i32 : BitVec 32 := 80#32
  let v463 : BitVec 32 := Scalar.addi v427 c80_i32
  let v464 : Index := Scalar.indexCast v463
  ![v464.toNat]

def k0_chk206 (v469 : IVec S16 32) : Prop :=
  (∀ a x, ((![v469] : Fin 1 → IVec S16 32) a x).toNat < S32768.size a)
theorem k0_idx206_inb : ∀ (v469 : IVec S16 32) (k0_hw206 : k0_chk206 v469), ∀ a x, ((![v469] : Fin 1 → IVec S16 32) a x).toNat < S32768.size a := fun v469 k0_hw206 => k0_hw206
def k0_off210 (k0_t26 : Fin k0_t26_loop.trips) : Fin 1 → Nat :=
  let c0_i32_200 : BitVec 32 := 0#32
  let c1_i32_202 : BitVec 32 := 1#32
  let arg15 : BitVec 32 := Scf.iv c0_i32_200 c1_i32_202 k0_t26
  let c128_i32 : BitVec 32 := 128#32
  let v427 : BitVec 32 := Scalar.muli arg15 c128_i32
  let c96_i32 : BitVec 32 := 96#32
  let v470 : BitVec 32 := Scalar.addi v427 c96_i32
  let v471 : Index := Scalar.indexCast v470
  ![v471.toNat]

def k0_chk207 (v476 : IVec S16 32) : Prop :=
  (∀ a x, ((![v476] : Fin 1 → IVec S16 32) a x).toNat < S32768.size a)
theorem k0_idx207_inb : ∀ (v476 : IVec S16 32) (k0_hw207 : k0_chk207 v476), ∀ a x, ((![v476] : Fin 1 → IVec S16 32) a x).toNat < S32768.size a := fun v476 k0_hw207 => k0_hw207
def k0_off211 (k0_t26 : Fin k0_t26_loop.trips) : Fin 1 → Nat :=
  let c0_i32_200 : BitVec 32 := 0#32
  let c1_i32_202 : BitVec 32 := 1#32
  let arg15 : BitVec 32 := Scf.iv c0_i32_200 c1_i32_202 k0_t26
  let c128_i32 : BitVec 32 := 128#32
  let v427 : BitVec 32 := Scalar.muli arg15 c128_i32
  let c112_i32 : BitVec 32 := 112#32
  let v477 : BitVec 32 := Scalar.addi v427 c112_i32
  let v478 : Index := Scalar.indexCast v477
  ![v478.toNat]

def k0_chk208 (v483 : IVec S16 32) : Prop :=
  (∀ a x, ((![v483] : Fin 1 → IVec S16 32) a x).toNat < S32768.size a)
theorem k0_idx208_inb : ∀ (v483 : IVec S16 32) (k0_hw208 : k0_chk208 v483), ∀ a x, ((![v483] : Fin 1 → IVec S16 32) a x).toNat < S32768.size a := fun v483 k0_hw208 => k0_hw208
@[reducible] def k0_t27_loop : Scf.Loop 32 :=
  let c0_i32_208 : BitVec 32 := 0#32
  let c64_i32_209 : BitVec 32 := 64#32
  let v357 : BitVec 32 := Scalar.addi c0_i32_208 c64_i32_209
  let c1_i32_210 : BitVec 32 := 1#32
  ⟨c0_i32_208, v357, c1_i32_210⟩
def k0_off212 (k0_t27 : Fin k0_t27_loop.trips) : Fin 1 → Nat :=
  let c0_i32_208 : BitVec 32 := 0#32
  let c1_i32_210 : BitVec 32 := 1#32
  let arg15 : BitVec 32 := Scf.iv c0_i32_208 c1_i32_210 k0_t27
  let c128_i32 : BitVec 32 := 128#32
  let v427 : BitVec 32 := Scalar.muli arg15 c128_i32
  let c0_i32_253 : BitVec 32 := 0#32
  let v428 : BitVec 32 := Scalar.addi v427 c0_i32_253
  let v429 : Index := Scalar.indexCast v428
  ![v429.toNat]

def k0_chk209 (v434 : IVec S16 32) : Prop :=
  (∀ a x, ((![v434] : Fin 1 → IVec S16 32) a x).toNat < S32768.size a)
theorem k0_idx209_inb : ∀ (v434 : IVec S16 32) (k0_hw209 : k0_chk209 v434), ∀ a x, ((![v434] : Fin 1 → IVec S16 32) a x).toNat < S32768.size a := fun v434 k0_hw209 => k0_hw209
def k0_off213 (k0_t27 : Fin k0_t27_loop.trips) : Fin 1 → Nat :=
  let c0_i32_208 : BitVec 32 := 0#32
  let c1_i32_210 : BitVec 32 := 1#32
  let arg15 : BitVec 32 := Scf.iv c0_i32_208 c1_i32_210 k0_t27
  let c128_i32 : BitVec 32 := 128#32
  let v427 : BitVec 32 := Scalar.muli arg15 c128_i32
  let c16_i32_256 : BitVec 32 := 16#32
  let v435 : BitVec 32 := Scalar.addi v427 c16_i32_256
  let v436 : Index := Scalar.indexCast v435
  ![v436.toNat]

def k0_chk210 (v441 : IVec S16 32) : Prop :=
  (∀ a x, ((![v441] : Fin 1 → IVec S16 32) a x).toNat < S32768.size a)
theorem k0_idx210_inb : ∀ (v441 : IVec S16 32) (k0_hw210 : k0_chk210 v441), ∀ a x, ((![v441] : Fin 1 → IVec S16 32) a x).toNat < S32768.size a := fun v441 k0_hw210 => k0_hw210
def k0_off214 (k0_t27 : Fin k0_t27_loop.trips) : Fin 1 → Nat :=
  let c0_i32_208 : BitVec 32 := 0#32
  let c1_i32_210 : BitVec 32 := 1#32
  let arg15 : BitVec 32 := Scf.iv c0_i32_208 c1_i32_210 k0_t27
  let c128_i32 : BitVec 32 := 128#32
  let v427 : BitVec 32 := Scalar.muli arg15 c128_i32
  let c32_i32 : BitVec 32 := 32#32
  let v442 : BitVec 32 := Scalar.addi v427 c32_i32
  let v443 : Index := Scalar.indexCast v442
  ![v443.toNat]

def k0_chk211 (v448 : IVec S16 32) : Prop :=
  (∀ a x, ((![v448] : Fin 1 → IVec S16 32) a x).toNat < S32768.size a)
theorem k0_idx211_inb : ∀ (v448 : IVec S16 32) (k0_hw211 : k0_chk211 v448), ∀ a x, ((![v448] : Fin 1 → IVec S16 32) a x).toNat < S32768.size a := fun v448 k0_hw211 => k0_hw211
def k0_off215 (k0_t27 : Fin k0_t27_loop.trips) : Fin 1 → Nat :=
  let c0_i32_208 : BitVec 32 := 0#32
  let c1_i32_210 : BitVec 32 := 1#32
  let arg15 : BitVec 32 := Scf.iv c0_i32_208 c1_i32_210 k0_t27
  let c128_i32 : BitVec 32 := 128#32
  let v427 : BitVec 32 := Scalar.muli arg15 c128_i32
  let c48_i32 : BitVec 32 := 48#32
  let v449 : BitVec 32 := Scalar.addi v427 c48_i32
  let v450 : Index := Scalar.indexCast v449
  ![v450.toNat]

def k0_chk212 (v455 : IVec S16 32) : Prop :=
  (∀ a x, ((![v455] : Fin 1 → IVec S16 32) a x).toNat < S32768.size a)
theorem k0_idx212_inb : ∀ (v455 : IVec S16 32) (k0_hw212 : k0_chk212 v455), ∀ a x, ((![v455] : Fin 1 → IVec S16 32) a x).toNat < S32768.size a := fun v455 k0_hw212 => k0_hw212
def k0_off216 (k0_t27 : Fin k0_t27_loop.trips) : Fin 1 → Nat :=
  let c0_i32_208 : BitVec 32 := 0#32
  let c1_i32_210 : BitVec 32 := 1#32
  let arg15 : BitVec 32 := Scf.iv c0_i32_208 c1_i32_210 k0_t27
  let c128_i32 : BitVec 32 := 128#32
  let v427 : BitVec 32 := Scalar.muli arg15 c128_i32
  let c64_i32_263 : BitVec 32 := 64#32
  let v456 : BitVec 32 := Scalar.addi v427 c64_i32_263
  let v457 : Index := Scalar.indexCast v456
  ![v457.toNat]

def k0_chk213 (v462 : IVec S16 32) : Prop :=
  (∀ a x, ((![v462] : Fin 1 → IVec S16 32) a x).toNat < S32768.size a)
theorem k0_idx213_inb : ∀ (v462 : IVec S16 32) (k0_hw213 : k0_chk213 v462), ∀ a x, ((![v462] : Fin 1 → IVec S16 32) a x).toNat < S32768.size a := fun v462 k0_hw213 => k0_hw213
def k0_off217 (k0_t27 : Fin k0_t27_loop.trips) : Fin 1 → Nat :=
  let c0_i32_208 : BitVec 32 := 0#32
  let c1_i32_210 : BitVec 32 := 1#32
  let arg15 : BitVec 32 := Scf.iv c0_i32_208 c1_i32_210 k0_t27
  let c128_i32 : BitVec 32 := 128#32
  let v427 : BitVec 32 := Scalar.muli arg15 c128_i32
  let c80_i32 : BitVec 32 := 80#32
  let v463 : BitVec 32 := Scalar.addi v427 c80_i32
  let v464 : Index := Scalar.indexCast v463
  ![v464.toNat]

def k0_chk214 (v469 : IVec S16 32) : Prop :=
  (∀ a x, ((![v469] : Fin 1 → IVec S16 32) a x).toNat < S32768.size a)
theorem k0_idx214_inb : ∀ (v469 : IVec S16 32) (k0_hw214 : k0_chk214 v469), ∀ a x, ((![v469] : Fin 1 → IVec S16 32) a x).toNat < S32768.size a := fun v469 k0_hw214 => k0_hw214
def k0_off218 (k0_t27 : Fin k0_t27_loop.trips) : Fin 1 → Nat :=
  let c0_i32_208 : BitVec 32 := 0#32
  let c1_i32_210 : BitVec 32 := 1#32
  let arg15 : BitVec 32 := Scf.iv c0_i32_208 c1_i32_210 k0_t27
  let c128_i32 : BitVec 32 := 128#32
  let v427 : BitVec 32 := Scalar.muli arg15 c128_i32
  let c96_i32 : BitVec 32 := 96#32
  let v470 : BitVec 32 := Scalar.addi v427 c96_i32
  let v471 : Index := Scalar.indexCast v470
  ![v471.toNat]

def k0_chk215 (v476 : IVec S16 32) : Prop :=
  (∀ a x, ((![v476] : Fin 1 → IVec S16 32) a x).toNat < S32768.size a)
theorem k0_idx215_inb : ∀ (v476 : IVec S16 32) (k0_hw215 : k0_chk215 v476), ∀ a x, ((![v476] : Fin 1 → IVec S16 32) a x).toNat < S32768.size a := fun v476 k0_hw215 => k0_hw215
def k0_off219 (k0_t27 : Fin k0_t27_loop.trips) : Fin 1 → Nat :=
  let c0_i32_208 : BitVec 32 := 0#32
  let c1_i32_210 : BitVec 32 := 1#32
  let arg15 : BitVec 32 := Scf.iv c0_i32_208 c1_i32_210 k0_t27
  let c128_i32 : BitVec 32 := 128#32
  let v427 : BitVec 32 := Scalar.muli arg15 c128_i32
  let c112_i32 : BitVec 32 := 112#32
  let v477 : BitVec 32 := Scalar.addi v427 c112_i32
  let v478 : Index := Scalar.indexCast v477
  ![v478.toNat]

def k0_chk216 (v483 : IVec S16 32) : Prop :=
  (∀ a x, ((![v483] : Fin 1 → IVec S16 32) a x).toNat < S32768.size a)
theorem k0_idx216_inb : ∀ (v483 : IVec S16 32) (k0_hw216 : k0_chk216 v483), ∀ a x, ((![v483] : Fin 1 → IVec S16 32) a x).toNat < S32768.size a := fun v483 k0_hw216 => k0_hw216
@[reducible] def k0_t28_loop : Scf.Loop 32 :=
  let c0_i32_216 : BitVec 32 := 0#32
  let c64_i32_217 : BitVec 32 := 64#32
  let v370 : BitVec 32 := Scalar.addi c0_i32_216 c64_i32_217
  let c1_i32_218 : BitVec 32 := 1#32
  ⟨c0_i32_216, v370, c1_i32_218⟩
def k0_off220 (k0_t28 : Fin k0_t28_loop.trips) : Fin 1 → Nat :=
  let c0_i32_216 : BitVec 32 := 0#32
  let c1_i32_218 : BitVec 32 := 1#32
  let arg15 : BitVec 32 := Scf.iv c0_i32_216 c1_i32_218 k0_t28
  let c128_i32 : BitVec 32 := 128#32
  let v427 : BitVec 32 := Scalar.muli arg15 c128_i32
  let c0_i32_253 : BitVec 32 := 0#32
  let v428 : BitVec 32 := Scalar.addi v427 c0_i32_253
  let v429 : Index := Scalar.indexCast v428
  ![v429.toNat]

def k0_chk217 (v434 : IVec S16 32) : Prop :=
  (∀ a x, ((![v434] : Fin 1 → IVec S16 32) a x).toNat < S32768.size a)
theorem k0_idx217_inb : ∀ (v434 : IVec S16 32) (k0_hw217 : k0_chk217 v434), ∀ a x, ((![v434] : Fin 1 → IVec S16 32) a x).toNat < S32768.size a := fun v434 k0_hw217 => k0_hw217
def k0_off221 (k0_t28 : Fin k0_t28_loop.trips) : Fin 1 → Nat :=
  let c0_i32_216 : BitVec 32 := 0#32
  let c1_i32_218 : BitVec 32 := 1#32
  let arg15 : BitVec 32 := Scf.iv c0_i32_216 c1_i32_218 k0_t28
  let c128_i32 : BitVec 32 := 128#32
  let v427 : BitVec 32 := Scalar.muli arg15 c128_i32
  let c16_i32_256 : BitVec 32 := 16#32
  let v435 : BitVec 32 := Scalar.addi v427 c16_i32_256
  let v436 : Index := Scalar.indexCast v435
  ![v436.toNat]

def k0_chk218 (v441 : IVec S16 32) : Prop :=
  (∀ a x, ((![v441] : Fin 1 → IVec S16 32) a x).toNat < S32768.size a)
theorem k0_idx218_inb : ∀ (v441 : IVec S16 32) (k0_hw218 : k0_chk218 v441), ∀ a x, ((![v441] : Fin 1 → IVec S16 32) a x).toNat < S32768.size a := fun v441 k0_hw218 => k0_hw218
def k0_off222 (k0_t28 : Fin k0_t28_loop.trips) : Fin 1 → Nat :=
  let c0_i32_216 : BitVec 32 := 0#32
  let c1_i32_218 : BitVec 32 := 1#32
  let arg15 : BitVec 32 := Scf.iv c0_i32_216 c1_i32_218 k0_t28
  let c128_i32 : BitVec 32 := 128#32
  let v427 : BitVec 32 := Scalar.muli arg15 c128_i32
  let c32_i32 : BitVec 32 := 32#32
  let v442 : BitVec 32 := Scalar.addi v427 c32_i32
  let v443 : Index := Scalar.indexCast v442
  ![v443.toNat]

def k0_chk219 (v448 : IVec S16 32) : Prop :=
  (∀ a x, ((![v448] : Fin 1 → IVec S16 32) a x).toNat < S32768.size a)
theorem k0_idx219_inb : ∀ (v448 : IVec S16 32) (k0_hw219 : k0_chk219 v448), ∀ a x, ((![v448] : Fin 1 → IVec S16 32) a x).toNat < S32768.size a := fun v448 k0_hw219 => k0_hw219
def k0_off223 (k0_t28 : Fin k0_t28_loop.trips) : Fin 1 → Nat :=
  let c0_i32_216 : BitVec 32 := 0#32
  let c1_i32_218 : BitVec 32 := 1#32
  let arg15 : BitVec 32 := Scf.iv c0_i32_216 c1_i32_218 k0_t28
  let c128_i32 : BitVec 32 := 128#32
  let v427 : BitVec 32 := Scalar.muli arg15 c128_i32
  let c48_i32 : BitVec 32 := 48#32
  let v449 : BitVec 32 := Scalar.addi v427 c48_i32
  let v450 : Index := Scalar.indexCast v449
  ![v450.toNat]

def k0_chk220 (v455 : IVec S16 32) : Prop :=
  (∀ a x, ((![v455] : Fin 1 → IVec S16 32) a x).toNat < S32768.size a)
theorem k0_idx220_inb : ∀ (v455 : IVec S16 32) (k0_hw220 : k0_chk220 v455), ∀ a x, ((![v455] : Fin 1 → IVec S16 32) a x).toNat < S32768.size a := fun v455 k0_hw220 => k0_hw220
def k0_off224 (k0_t28 : Fin k0_t28_loop.trips) : Fin 1 → Nat :=
  let c0_i32_216 : BitVec 32 := 0#32
  let c1_i32_218 : BitVec 32 := 1#32
  let arg15 : BitVec 32 := Scf.iv c0_i32_216 c1_i32_218 k0_t28
  let c128_i32 : BitVec 32 := 128#32
  let v427 : BitVec 32 := Scalar.muli arg15 c128_i32
  let c64_i32_263 : BitVec 32 := 64#32
  let v456 : BitVec 32 := Scalar.addi v427 c64_i32_263
  let v457 : Index := Scalar.indexCast v456
  ![v457.toNat]

def k0_chk221 (v462 : IVec S16 32) : Prop :=
  (∀ a x, ((![v462] : Fin 1 → IVec S16 32) a x).toNat < S32768.size a)
theorem k0_idx221_inb : ∀ (v462 : IVec S16 32) (k0_hw221 : k0_chk221 v462), ∀ a x, ((![v462] : Fin 1 → IVec S16 32) a x).toNat < S32768.size a := fun v462 k0_hw221 => k0_hw221
def k0_off225 (k0_t28 : Fin k0_t28_loop.trips) : Fin 1 → Nat :=
  let c0_i32_216 : BitVec 32 := 0#32
  let c1_i32_218 : BitVec 32 := 1#32
  let arg15 : BitVec 32 := Scf.iv c0_i32_216 c1_i32_218 k0_t28
  let c128_i32 : BitVec 32 := 128#32
  let v427 : BitVec 32 := Scalar.muli arg15 c128_i32
  let c80_i32 : BitVec 32 := 80#32
  let v463 : BitVec 32 := Scalar.addi v427 c80_i32
  let v464 : Index := Scalar.indexCast v463
  ![v464.toNat]

def k0_chk222 (v469 : IVec S16 32) : Prop :=
  (∀ a x, ((![v469] : Fin 1 → IVec S16 32) a x).toNat < S32768.size a)
theorem k0_idx222_inb : ∀ (v469 : IVec S16 32) (k0_hw222 : k0_chk222 v469), ∀ a x, ((![v469] : Fin 1 → IVec S16 32) a x).toNat < S32768.size a := fun v469 k0_hw222 => k0_hw222
def k0_off226 (k0_t28 : Fin k0_t28_loop.trips) : Fin 1 → Nat :=
  let c0_i32_216 : BitVec 32 := 0#32
  let c1_i32_218 : BitVec 32 := 1#32
  let arg15 : BitVec 32 := Scf.iv c0_i32_216 c1_i32_218 k0_t28
  let c128_i32 : BitVec 32 := 128#32
  let v427 : BitVec 32 := Scalar.muli arg15 c128_i32
  let c96_i32 : BitVec 32 := 96#32
  let v470 : BitVec 32 := Scalar.addi v427 c96_i32
  let v471 : Index := Scalar.indexCast v470
  ![v471.toNat]

def k0_chk223 (v476 : IVec S16 32) : Prop :=
  (∀ a x, ((![v476] : Fin 1 → IVec S16 32) a x).toNat < S32768.size a)
theorem k0_idx223_inb : ∀ (v476 : IVec S16 32) (k0_hw223 : k0_chk223 v476), ∀ a x, ((![v476] : Fin 1 → IVec S16 32) a x).toNat < S32768.size a := fun v476 k0_hw223 => k0_hw223
def k0_off227 (k0_t28 : Fin k0_t28_loop.trips) : Fin 1 → Nat :=
  let c0_i32_216 : BitVec 32 := 0#32
  let c1_i32_218 : BitVec 32 := 1#32
  let arg15 : BitVec 32 := Scf.iv c0_i32_216 c1_i32_218 k0_t28
  let c128_i32 : BitVec 32 := 128#32
  let v427 : BitVec 32 := Scalar.muli arg15 c128_i32
  let c112_i32 : BitVec 32 := 112#32
  let v477 : BitVec 32 := Scalar.addi v427 c112_i32
  let v478 : Index := Scalar.indexCast v477
  ![v478.toNat]

def k0_chk224 (v483 : IVec S16 32) : Prop :=
  (∀ a x, ((![v483] : Fin 1 → IVec S16 32) a x).toNat < S32768.size a)
theorem k0_idx224_inb : ∀ (v483 : IVec S16 32) (k0_hw224 : k0_chk224 v483), ∀ a x, ((![v483] : Fin 1 → IVec S16 32) a x).toNat < S32768.size a := fun v483 k0_hw224 => k0_hw224
@[reducible] def k0_t29_loop : Scf.Loop 32 :=
  let c0_i32_224 : BitVec 32 := 0#32
  let c64_i32_225 : BitVec 32 := 64#32
  let v383 : BitVec 32 := Scalar.addi c0_i32_224 c64_i32_225
  let c1_i32_226 : BitVec 32 := 1#32
  ⟨c0_i32_224, v383, c1_i32_226⟩
def k0_off228 (k0_t29 : Fin k0_t29_loop.trips) : Fin 1 → Nat :=
  let c0_i32_224 : BitVec 32 := 0#32
  let c1_i32_226 : BitVec 32 := 1#32
  let arg15 : BitVec 32 := Scf.iv c0_i32_224 c1_i32_226 k0_t29
  let c128_i32 : BitVec 32 := 128#32
  let v427 : BitVec 32 := Scalar.muli arg15 c128_i32
  let c0_i32_253 : BitVec 32 := 0#32
  let v428 : BitVec 32 := Scalar.addi v427 c0_i32_253
  let v429 : Index := Scalar.indexCast v428
  ![v429.toNat]

def k0_chk225 (v434 : IVec S16 32) : Prop :=
  (∀ a x, ((![v434] : Fin 1 → IVec S16 32) a x).toNat < S32768.size a)
theorem k0_idx225_inb : ∀ (v434 : IVec S16 32) (k0_hw225 : k0_chk225 v434), ∀ a x, ((![v434] : Fin 1 → IVec S16 32) a x).toNat < S32768.size a := fun v434 k0_hw225 => k0_hw225
def k0_off229 (k0_t29 : Fin k0_t29_loop.trips) : Fin 1 → Nat :=
  let c0_i32_224 : BitVec 32 := 0#32
  let c1_i32_226 : BitVec 32 := 1#32
  let arg15 : BitVec 32 := Scf.iv c0_i32_224 c1_i32_226 k0_t29
  let c128_i32 : BitVec 32 := 128#32
  let v427 : BitVec 32 := Scalar.muli arg15 c128_i32
  let c16_i32_256 : BitVec 32 := 16#32
  let v435 : BitVec 32 := Scalar.addi v427 c16_i32_256
  let v436 : Index := Scalar.indexCast v435
  ![v436.toNat]

def k0_chk226 (v441 : IVec S16 32) : Prop :=
  (∀ a x, ((![v441] : Fin 1 → IVec S16 32) a x).toNat < S32768.size a)
theorem k0_idx226_inb : ∀ (v441 : IVec S16 32) (k0_hw226 : k0_chk226 v441), ∀ a x, ((![v441] : Fin 1 → IVec S16 32) a x).toNat < S32768.size a := fun v441 k0_hw226 => k0_hw226
def k0_off230 (k0_t29 : Fin k0_t29_loop.trips) : Fin 1 → Nat :=
  let c0_i32_224 : BitVec 32 := 0#32
  let c1_i32_226 : BitVec 32 := 1#32
  let arg15 : BitVec 32 := Scf.iv c0_i32_224 c1_i32_226 k0_t29
  let c128_i32 : BitVec 32 := 128#32
  let v427 : BitVec 32 := Scalar.muli arg15 c128_i32
  let c32_i32 : BitVec 32 := 32#32
  let v442 : BitVec 32 := Scalar.addi v427 c32_i32
  let v443 : Index := Scalar.indexCast v442
  ![v443.toNat]

def k0_chk227 (v448 : IVec S16 32) : Prop :=
  (∀ a x, ((![v448] : Fin 1 → IVec S16 32) a x).toNat < S32768.size a)
theorem k0_idx227_inb : ∀ (v448 : IVec S16 32) (k0_hw227 : k0_chk227 v448), ∀ a x, ((![v448] : Fin 1 → IVec S16 32) a x).toNat < S32768.size a := fun v448 k0_hw227 => k0_hw227
def k0_off231 (k0_t29 : Fin k0_t29_loop.trips) : Fin 1 → Nat :=
  let c0_i32_224 : BitVec 32 := 0#32
  let c1_i32_226 : BitVec 32 := 1#32
  let arg15 : BitVec 32 := Scf.iv c0_i32_224 c1_i32_226 k0_t29
  let c128_i32 : BitVec 32 := 128#32
  let v427 : BitVec 32 := Scalar.muli arg15 c128_i32
  let c48_i32 : BitVec 32 := 48#32
  let v449 : BitVec 32 := Scalar.addi v427 c48_i32
  let v450 : Index := Scalar.indexCast v449
  ![v450.toNat]

def k0_chk228 (v455 : IVec S16 32) : Prop :=
  (∀ a x, ((![v455] : Fin 1 → IVec S16 32) a x).toNat < S32768.size a)
theorem k0_idx228_inb : ∀ (v455 : IVec S16 32) (k0_hw228 : k0_chk228 v455), ∀ a x, ((![v455] : Fin 1 → IVec S16 32) a x).toNat < S32768.size a := fun v455 k0_hw228 => k0_hw228
def k0_off232 (k0_t29 : Fin k0_t29_loop.trips) : Fin 1 → Nat :=
  let c0_i32_224 : BitVec 32 := 0#32
  let c1_i32_226 : BitVec 32 := 1#32
  let arg15 : BitVec 32 := Scf.iv c0_i32_224 c1_i32_226 k0_t29
  let c128_i32 : BitVec 32 := 128#32
  let v427 : BitVec 32 := Scalar.muli arg15 c128_i32
  let c64_i32_263 : BitVec 32 := 64#32
  let v456 : BitVec 32 := Scalar.addi v427 c64_i32_263
  let v457 : Index := Scalar.indexCast v456
  ![v457.toNat]

def k0_chk229 (v462 : IVec S16 32) : Prop :=
  (∀ a x, ((![v462] : Fin 1 → IVec S16 32) a x).toNat < S32768.size a)
theorem k0_idx229_inb : ∀ (v462 : IVec S16 32) (k0_hw229 : k0_chk229 v462), ∀ a x, ((![v462] : Fin 1 → IVec S16 32) a x).toNat < S32768.size a := fun v462 k0_hw229 => k0_hw229
def k0_off233 (k0_t29 : Fin k0_t29_loop.trips) : Fin 1 → Nat :=
  let c0_i32_224 : BitVec 32 := 0#32
  let c1_i32_226 : BitVec 32 := 1#32
  let arg15 : BitVec 32 := Scf.iv c0_i32_224 c1_i32_226 k0_t29
  let c128_i32 : BitVec 32 := 128#32
  let v427 : BitVec 32 := Scalar.muli arg15 c128_i32
  let c80_i32 : BitVec 32 := 80#32
  let v463 : BitVec 32 := Scalar.addi v427 c80_i32
  let v464 : Index := Scalar.indexCast v463
  ![v464.toNat]

def k0_chk230 (v469 : IVec S16 32) : Prop :=
  (∀ a x, ((![v469] : Fin 1 → IVec S16 32) a x).toNat < S32768.size a)
theorem k0_idx230_inb : ∀ (v469 : IVec S16 32) (k0_hw230 : k0_chk230 v469), ∀ a x, ((![v469] : Fin 1 → IVec S16 32) a x).toNat < S32768.size a := fun v469 k0_hw230 => k0_hw230
def k0_off234 (k0_t29 : Fin k0_t29_loop.trips) : Fin 1 → Nat :=
  let c0_i32_224 : BitVec 32 := 0#32
  let c1_i32_226 : BitVec 32 := 1#32
  let arg15 : BitVec 32 := Scf.iv c0_i32_224 c1_i32_226 k0_t29
  let c128_i32 : BitVec 32 := 128#32
  let v427 : BitVec 32 := Scalar.muli arg15 c128_i32
  let c96_i32 : BitVec 32 := 96#32
  let v470 : BitVec 32 := Scalar.addi v427 c96_i32
  let v471 : Index := Scalar.indexCast v470
  ![v471.toNat]

def k0_chk231 (v476 : IVec S16 32) : Prop :=
  (∀ a x, ((![v476] : Fin 1 → IVec S16 32) a x).toNat < S32768.size a)
theorem k0_idx231_inb : ∀ (v476 : IVec S16 32) (k0_hw231 : k0_chk231 v476), ∀ a x, ((![v476] : Fin 1 → IVec S16 32) a x).toNat < S32768.size a := fun v476 k0_hw231 => k0_hw231
def k0_off235 (k0_t29 : Fin k0_t29_loop.trips) : Fin 1 → Nat :=
  let c0_i32_224 : BitVec 32 := 0#32
  let c1_i32_226 : BitVec 32 := 1#32
  let arg15 : BitVec 32 := Scf.iv c0_i32_224 c1_i32_226 k0_t29
  let c128_i32 : BitVec 32 := 128#32
  let v427 : BitVec 32 := Scalar.muli arg15 c128_i32
  let c112_i32 : BitVec 32 := 112#32
  let v477 : BitVec 32 := Scalar.addi v427 c112_i32
  let v478 : Index := Scalar.indexCast v477
  ![v478.toNat]

def k0_chk232 (v483 : IVec S16 32) : Prop :=
  (∀ a x, ((![v483] : Fin 1 → IVec S16 32) a x).toNat < S32768.size a)
theorem k0_idx232_inb : ∀ (v483 : IVec S16 32) (k0_hw232 : k0_chk232 v483), ∀ a x, ((![v483] : Fin 1 → IVec S16 32) a x).toNat < S32768.size a := fun v483 k0_hw232 => k0_hw232
@[reducible] def k0_t30_loop : Scf.Loop 32 :=
  let c0_i32_232 : BitVec 32 := 0#32
  let c64_i32_233 : BitVec 32 := 64#32
  let v396 : BitVec 32 := Scalar.addi c0_i32_232 c64_i32_233
  let c1_i32_234 : BitVec 32 := 1#32
  ⟨c0_i32_232, v396, c1_i32_234⟩
def k0_off236 (k0_t30 : Fin k0_t30_loop.trips) : Fin 1 → Nat :=
  let c0_i32_232 : BitVec 32 := 0#32
  let c1_i32_234 : BitVec 32 := 1#32
  let arg15 : BitVec 32 := Scf.iv c0_i32_232 c1_i32_234 k0_t30
  let c128_i32 : BitVec 32 := 128#32
  let v427 : BitVec 32 := Scalar.muli arg15 c128_i32
  let c0_i32_253 : BitVec 32 := 0#32
  let v428 : BitVec 32 := Scalar.addi v427 c0_i32_253
  let v429 : Index := Scalar.indexCast v428
  ![v429.toNat]

def k0_chk233 (v434 : IVec S16 32) : Prop :=
  (∀ a x, ((![v434] : Fin 1 → IVec S16 32) a x).toNat < S32768.size a)
theorem k0_idx233_inb : ∀ (v434 : IVec S16 32) (k0_hw233 : k0_chk233 v434), ∀ a x, ((![v434] : Fin 1 → IVec S16 32) a x).toNat < S32768.size a := fun v434 k0_hw233 => k0_hw233
def k0_off237 (k0_t30 : Fin k0_t30_loop.trips) : Fin 1 → Nat :=
  let c0_i32_232 : BitVec 32 := 0#32
  let c1_i32_234 : BitVec 32 := 1#32
  let arg15 : BitVec 32 := Scf.iv c0_i32_232 c1_i32_234 k0_t30
  let c128_i32 : BitVec 32 := 128#32
  let v427 : BitVec 32 := Scalar.muli arg15 c128_i32
  let c16_i32_256 : BitVec 32 := 16#32
  let v435 : BitVec 32 := Scalar.addi v427 c16_i32_256
  let v436 : Index := Scalar.indexCast v435
  ![v436.toNat]

def k0_chk234 (v441 : IVec S16 32) : Prop :=
  (∀ a x, ((![v441] : Fin 1 → IVec S16 32) a x).toNat < S32768.size a)
theorem k0_idx234_inb : ∀ (v441 : IVec S16 32) (k0_hw234 : k0_chk234 v441), ∀ a x, ((![v441] : Fin 1 → IVec S16 32) a x).toNat < S32768.size a := fun v441 k0_hw234 => k0_hw234
def k0_off238 (k0_t30 : Fin k0_t30_loop.trips) : Fin 1 → Nat :=
  let c0_i32_232 : BitVec 32 := 0#32
  let c1_i32_234 : BitVec 32 := 1#32
  let arg15 : BitVec 32 := Scf.iv c0_i32_232 c1_i32_234 k0_t30
  let c128_i32 : BitVec 32 := 128#32
  let v427 : BitVec 32 := Scalar.muli arg15 c128_i32
  let c32_i32 : BitVec 32 := 32#32
  let v442 : BitVec 32 := Scalar.addi v427 c32_i32
  let v443 : Index := Scalar.indexCast v442
  ![v443.toNat]

def k0_chk235 (v448 : IVec S16 32) : Prop :=
  (∀ a x, ((![v448] : Fin 1 → IVec S16 32) a x).toNat < S32768.size a)
theorem k0_idx235_inb : ∀ (v448 : IVec S16 32) (k0_hw235 : k0_chk235 v448), ∀ a x, ((![v448] : Fin 1 → IVec S16 32) a x).toNat < S32768.size a := fun v448 k0_hw235 => k0_hw235
def k0_off239 (k0_t30 : Fin k0_t30_loop.trips) : Fin 1 → Nat :=
  let c0_i32_232 : BitVec 32 := 0#32
  let c1_i32_234 : BitVec 32 := 1#32
  let arg15 : BitVec 32 := Scf.iv c0_i32_232 c1_i32_234 k0_t30
  let c128_i32 : BitVec 32 := 128#32
  let v427 : BitVec 32 := Scalar.muli arg15 c128_i32
  let c48_i32 : BitVec 32 := 48#32
  let v449 : BitVec 32 := Scalar.addi v427 c48_i32
  let v450 : Index := Scalar.indexCast v449
  ![v450.toNat]

def k0_chk236 (v455 : IVec S16 32) : Prop :=
  (∀ a x, ((![v455] : Fin 1 → IVec S16 32) a x).toNat < S32768.size a)
theorem k0_idx236_inb : ∀ (v455 : IVec S16 32) (k0_hw236 : k0_chk236 v455), ∀ a x, ((![v455] : Fin 1 → IVec S16 32) a x).toNat < S32768.size a := fun v455 k0_hw236 => k0_hw236
def k0_off240 (k0_t30 : Fin k0_t30_loop.trips) : Fin 1 → Nat :=
  let c0_i32_232 : BitVec 32 := 0#32
  let c1_i32_234 : BitVec 32 := 1#32
  let arg15 : BitVec 32 := Scf.iv c0_i32_232 c1_i32_234 k0_t30
  let c128_i32 : BitVec 32 := 128#32
  let v427 : BitVec 32 := Scalar.muli arg15 c128_i32
  let c64_i32_263 : BitVec 32 := 64#32
  let v456 : BitVec 32 := Scalar.addi v427 c64_i32_263
  let v457 : Index := Scalar.indexCast v456
  ![v457.toNat]

def k0_chk237 (v462 : IVec S16 32) : Prop :=
  (∀ a x, ((![v462] : Fin 1 → IVec S16 32) a x).toNat < S32768.size a)
theorem k0_idx237_inb : ∀ (v462 : IVec S16 32) (k0_hw237 : k0_chk237 v462), ∀ a x, ((![v462] : Fin 1 → IVec S16 32) a x).toNat < S32768.size a := fun v462 k0_hw237 => k0_hw237
def k0_off241 (k0_t30 : Fin k0_t30_loop.trips) : Fin 1 → Nat :=
  let c0_i32_232 : BitVec 32 := 0#32
  let c1_i32_234 : BitVec 32 := 1#32
  let arg15 : BitVec 32 := Scf.iv c0_i32_232 c1_i32_234 k0_t30
  let c128_i32 : BitVec 32 := 128#32
  let v427 : BitVec 32 := Scalar.muli arg15 c128_i32
  let c80_i32 : BitVec 32 := 80#32
  let v463 : BitVec 32 := Scalar.addi v427 c80_i32
  let v464 : Index := Scalar.indexCast v463
  ![v464.toNat]

def k0_chk238 (v469 : IVec S16 32) : Prop :=
  (∀ a x, ((![v469] : Fin 1 → IVec S16 32) a x).toNat < S32768.size a)
theorem k0_idx238_inb : ∀ (v469 : IVec S16 32) (k0_hw238 : k0_chk238 v469), ∀ a x, ((![v469] : Fin 1 → IVec S16 32) a x).toNat < S32768.size a := fun v469 k0_hw238 => k0_hw238
def k0_off242 (k0_t30 : Fin k0_t30_loop.trips) : Fin 1 → Nat :=
  let c0_i32_232 : BitVec 32 := 0#32
  let c1_i32_234 : BitVec 32 := 1#32
  let arg15 : BitVec 32 := Scf.iv c0_i32_232 c1_i32_234 k0_t30
  let c128_i32 : BitVec 32 := 128#32
  let v427 : BitVec 32 := Scalar.muli arg15 c128_i32
  let c96_i32 : BitVec 32 := 96#32
  let v470 : BitVec 32 := Scalar.addi v427 c96_i32
  let v471 : Index := Scalar.indexCast v470
  ![v471.toNat]

def k0_chk239 (v476 : IVec S16 32) : Prop :=
  (∀ a x, ((![v476] : Fin 1 → IVec S16 32) a x).toNat < S32768.size a)
theorem k0_idx239_inb : ∀ (v476 : IVec S16 32) (k0_hw239 : k0_chk239 v476), ∀ a x, ((![v476] : Fin 1 → IVec S16 32) a x).toNat < S32768.size a := fun v476 k0_hw239 => k0_hw239
def k0_off243 (k0_t30 : Fin k0_t30_loop.trips) : Fin 1 → Nat :=
  let c0_i32_232 : BitVec 32 := 0#32
  let c1_i32_234 : BitVec 32 := 1#32
  let arg15 : BitVec 32 := Scf.iv c0_i32_232 c1_i32_234 k0_t30
  let c128_i32 : BitVec 32 := 128#32
  let v427 : BitVec 32 := Scalar.muli arg15 c128_i32
  let c112_i32 : BitVec 32 := 112#32
  let v477 : BitVec 32 := Scalar.addi v427 c112_i32
  let v478 : Index := Scalar.indexCast v477
  ![v478.toNat]

def k0_chk240 (v483 : IVec S16 32) : Prop :=
  (∀ a x, ((![v483] : Fin 1 → IVec S16 32) a x).toNat < S32768.size a)
theorem k0_idx240_inb : ∀ (v483 : IVec S16 32) (k0_hw240 : k0_chk240 v483), ∀ a x, ((![v483] : Fin 1 → IVec S16 32) a x).toNat < S32768.size a := fun v483 k0_hw240 => k0_hw240
@[reducible] def k0_t31_loop : Scf.Loop 32 :=
  let c0_i32_240 : BitVec 32 := 0#32
  let c64_i32_241 : BitVec 32 := 64#32
  let v409 : BitVec 32 := Scalar.addi c0_i32_240 c64_i32_241
  let c1_i32_242 : BitVec 32 := 1#32
  ⟨c0_i32_240, v409, c1_i32_242⟩
def k0_off244 (k0_t31 : Fin k0_t31_loop.trips) : Fin 1 → Nat :=
  let c0_i32_240 : BitVec 32 := 0#32
  let c1_i32_242 : BitVec 32 := 1#32
  let arg15 : BitVec 32 := Scf.iv c0_i32_240 c1_i32_242 k0_t31
  let c128_i32 : BitVec 32 := 128#32
  let v427 : BitVec 32 := Scalar.muli arg15 c128_i32
  let c0_i32_253 : BitVec 32 := 0#32
  let v428 : BitVec 32 := Scalar.addi v427 c0_i32_253
  let v429 : Index := Scalar.indexCast v428
  ![v429.toNat]

def k0_chk241 (v434 : IVec S16 32) : Prop :=
  (∀ a x, ((![v434] : Fin 1 → IVec S16 32) a x).toNat < S32768.size a)
theorem k0_idx241_inb : ∀ (v434 : IVec S16 32) (k0_hw241 : k0_chk241 v434), ∀ a x, ((![v434] : Fin 1 → IVec S16 32) a x).toNat < S32768.size a := fun v434 k0_hw241 => k0_hw241
def k0_off245 (k0_t31 : Fin k0_t31_loop.trips) : Fin 1 → Nat :=
  let c0_i32_240 : BitVec 32 := 0#32
  let c1_i32_242 : BitVec 32 := 1#32
  let arg15 : BitVec 32 := Scf.iv c0_i32_240 c1_i32_242 k0_t31
  let c128_i32 : BitVec 32 := 128#32
  let v427 : BitVec 32 := Scalar.muli arg15 c128_i32
  let c16_i32_256 : BitVec 32 := 16#32
  let v435 : BitVec 32 := Scalar.addi v427 c16_i32_256
  let v436 : Index := Scalar.indexCast v435
  ![v436.toNat]

def k0_chk242 (v441 : IVec S16 32) : Prop :=
  (∀ a x, ((![v441] : Fin 1 → IVec S16 32) a x).toNat < S32768.size a)
theorem k0_idx242_inb : ∀ (v441 : IVec S16 32) (k0_hw242 : k0_chk242 v441), ∀ a x, ((![v441] : Fin 1 → IVec S16 32) a x).toNat < S32768.size a := fun v441 k0_hw242 => k0_hw242
def k0_off246 (k0_t31 : Fin k0_t31_loop.trips) : Fin 1 → Nat :=
  let c0_i32_240 : BitVec 32 := 0#32
  let c1_i32_242 : BitVec 32 := 1#32
  let arg15 : BitVec 32 := Scf.iv c0_i32_240 c1_i32_242 k0_t31
  let c128_i32 : BitVec 32 := 128#32
  let v427 : BitVec 32 := Scalar.muli arg15 c128_i32
  let c32_i32 : BitVec 32 := 32#32
  let v442 : BitVec 32 := Scalar.addi v427 c32_i32
  let v443 : Index := Scalar.indexCast v442
  ![v443.toNat]

def k0_chk243 (v448 : IVec S16 32) : Prop :=
  (∀ a x, ((![v448] : Fin 1 → IVec S16 32) a x).toNat < S32768.size a)
theorem k0_idx243_inb : ∀ (v448 : IVec S16 32) (k0_hw243 : k0_chk243 v448), ∀ a x, ((![v448] : Fin 1 → IVec S16 32) a x).toNat < S32768.size a := fun v448 k0_hw243 => k0_hw243
def k0_off247 (k0_t31 : Fin k0_t31_loop.trips) : Fin 1 → Nat :=
  let c0_i32_240 : BitVec 32 := 0#32
  let c1_i32_242 : BitVec 32 := 1#32
  let arg15 : BitVec 32 := Scf.iv c0_i32_240 c1_i32_242 k0_t31
  let c128_i32 : BitVec 32 := 128#32
  let v427 : BitVec 32 := Scalar.muli arg15 c128_i32
  let c48_i32 : BitVec 32 := 48#32
  let v449 : BitVec 32 := Scalar.addi v427 c48_i32
  let v450 : Index := Scalar.indexCast v449
  ![v450.toNat]

def k0_chk244 (v455 : IVec S16 32) : Prop :=
  (∀ a x, ((![v455] : Fin 1 → IVec S16 32) a x).toNat < S32768.size a)
theorem k0_idx244_inb : ∀ (v455 : IVec S16 32) (k0_hw244 : k0_chk244 v455), ∀ a x, ((![v455] : Fin 1 → IVec S16 32) a x).toNat < S32768.size a := fun v455 k0_hw244 => k0_hw244
def k0_off248 (k0_t31 : Fin k0_t31_loop.trips) : Fin 1 → Nat :=
  let c0_i32_240 : BitVec 32 := 0#32
  let c1_i32_242 : BitVec 32 := 1#32
  let arg15 : BitVec 32 := Scf.iv c0_i32_240 c1_i32_242 k0_t31
  let c128_i32 : BitVec 32 := 128#32
  let v427 : BitVec 32 := Scalar.muli arg15 c128_i32
  let c64_i32_263 : BitVec 32 := 64#32
  let v456 : BitVec 32 := Scalar.addi v427 c64_i32_263
  let v457 : Index := Scalar.indexCast v456
  ![v457.toNat]

def k0_chk245 (v462 : IVec S16 32) : Prop :=
  (∀ a x, ((![v462] : Fin 1 → IVec S16 32) a x).toNat < S32768.size a)
theorem k0_idx245_inb : ∀ (v462 : IVec S16 32) (k0_hw245 : k0_chk245 v462), ∀ a x, ((![v462] : Fin 1 → IVec S16 32) a x).toNat < S32768.size a := fun v462 k0_hw245 => k0_hw245
def k0_off249 (k0_t31 : Fin k0_t31_loop.trips) : Fin 1 → Nat :=
  let c0_i32_240 : BitVec 32 := 0#32
  let c1_i32_242 : BitVec 32 := 1#32
  let arg15 : BitVec 32 := Scf.iv c0_i32_240 c1_i32_242 k0_t31
  let c128_i32 : BitVec 32 := 128#32
  let v427 : BitVec 32 := Scalar.muli arg15 c128_i32
  let c80_i32 : BitVec 32 := 80#32
  let v463 : BitVec 32 := Scalar.addi v427 c80_i32
  let v464 : Index := Scalar.indexCast v463
  ![v464.toNat]

def k0_chk246 (v469 : IVec S16 32) : Prop :=
  (∀ a x, ((![v469] : Fin 1 → IVec S16 32) a x).toNat < S32768.size a)
theorem k0_idx246_inb : ∀ (v469 : IVec S16 32) (k0_hw246 : k0_chk246 v469), ∀ a x, ((![v469] : Fin 1 → IVec S16 32) a x).toNat < S32768.size a := fun v469 k0_hw246 => k0_hw246
def k0_off250 (k0_t31 : Fin k0_t31_loop.trips) : Fin 1 → Nat :=
  let c0_i32_240 : BitVec 32 := 0#32
  let c1_i32_242 : BitVec 32 := 1#32
  let arg15 : BitVec 32 := Scf.iv c0_i32_240 c1_i32_242 k0_t31
  let c128_i32 : BitVec 32 := 128#32
  let v427 : BitVec 32 := Scalar.muli arg15 c128_i32
  let c96_i32 : BitVec 32 := 96#32
  let v470 : BitVec 32 := Scalar.addi v427 c96_i32
  let v471 : Index := Scalar.indexCast v470
  ![v471.toNat]

def k0_chk247 (v476 : IVec S16 32) : Prop :=
  (∀ a x, ((![v476] : Fin 1 → IVec S16 32) a x).toNat < S32768.size a)
theorem k0_idx247_inb : ∀ (v476 : IVec S16 32) (k0_hw247 : k0_chk247 v476), ∀ a x, ((![v476] : Fin 1 → IVec S16 32) a x).toNat < S32768.size a := fun v476 k0_hw247 => k0_hw247
def k0_off251 (k0_t31 : Fin k0_t31_loop.trips) : Fin 1 → Nat :=
  let c0_i32_240 : BitVec 32 := 0#32
  let c1_i32_242 : BitVec 32 := 1#32
  let arg15 : BitVec 32 := Scf.iv c0_i32_240 c1_i32_242 k0_t31
  let c128_i32 : BitVec 32 := 128#32
  let v427 : BitVec 32 := Scalar.muli arg15 c128_i32
  let c112_i32 : BitVec 32 := 112#32
  let v477 : BitVec 32 := Scalar.addi v427 c112_i32
  let v478 : Index := Scalar.indexCast v477
  ![v478.toNat]

def k0_chk248 (v483 : IVec S16 32) : Prop :=
  (∀ a x, ((![v483] : Fin 1 → IVec S16 32) a x).toNat < S32768.size a)
theorem k0_idx248_inb : ∀ (v483 : IVec S16 32) (k0_hw248 : k0_chk248 v483), ∀ a x, ((![v483] : Fin 1 → IVec S16 32) a x).toNat < S32768.size a := fun v483 k0_hw248 => k0_hw248
@[reducible] def k0_t32_loop : Scf.Loop 32 :=
  let c0_i32_247 : BitVec 32 := 0#32
  let c64_i32_248 : BitVec 32 := 64#32
  let v418 : BitVec 32 := Scalar.addi c0_i32_247 c64_i32_248
  let c1_i32_249 : BitVec 32 := 1#32
  ⟨c0_i32_247, v418, c1_i32_249⟩
def k0_off252 (k0_t32 : Fin k0_t32_loop.trips) : Fin 1 → Nat :=
  let c0_i32_247 : BitVec 32 := 0#32
  let c1_i32_249 : BitVec 32 := 1#32
  let arg15 : BitVec 32 := Scf.iv c0_i32_247 c1_i32_249 k0_t32
  let c128_i32 : BitVec 32 := 128#32
  let v427 : BitVec 32 := Scalar.muli arg15 c128_i32
  let c0_i32_253 : BitVec 32 := 0#32
  let v428 : BitVec 32 := Scalar.addi v427 c0_i32_253
  let v429 : Index := Scalar.indexCast v428
  ![v429.toNat]

def k0_chk249 (v434 : IVec S16 32) : Prop :=
  (∀ a x, ((![v434] : Fin 1 → IVec S16 32) a x).toNat < S32768.size a)
theorem k0_idx249_inb : ∀ (v434 : IVec S16 32) (k0_hw249 : k0_chk249 v434), ∀ a x, ((![v434] : Fin 1 → IVec S16 32) a x).toNat < S32768.size a := fun v434 k0_hw249 => k0_hw249
def k0_off253 (k0_t32 : Fin k0_t32_loop.trips) : Fin 1 → Nat :=
  let c0_i32_247 : BitVec 32 := 0#32
  let c1_i32_249 : BitVec 32 := 1#32
  let arg15 : BitVec 32 := Scf.iv c0_i32_247 c1_i32_249 k0_t32
  let c128_i32 : BitVec 32 := 128#32
  let v427 : BitVec 32 := Scalar.muli arg15 c128_i32
  let c16_i32_256 : BitVec 32 := 16#32
  let v435 : BitVec 32 := Scalar.addi v427 c16_i32_256
  let v436 : Index := Scalar.indexCast v435
  ![v436.toNat]

def k0_chk250 (v441 : IVec S16 32) : Prop :=
  (∀ a x, ((![v441] : Fin 1 → IVec S16 32) a x).toNat < S32768.size a)
theorem k0_idx250_inb : ∀ (v441 : IVec S16 32) (k0_hw250 : k0_chk250 v441), ∀ a x, ((![v441] : Fin 1 → IVec S16 32) a x).toNat < S32768.size a := fun v441 k0_hw250 => k0_hw250
def k0_off254 (k0_t32 : Fin k0_t32_loop.trips) : Fin 1 → Nat :=
  let c0_i32_247 : BitVec 32 := 0#32
  let c1_i32_249 : BitVec 32 := 1#32
  let arg15 : BitVec 32 := Scf.iv c0_i32_247 c1_i32_249 k0_t32
  let c128_i32 : BitVec 32 := 128#32
  let v427 : BitVec 32 := Scalar.muli arg15 c128_i32
  let c32_i32 : BitVec 32 := 32#32
  let v442 : BitVec 32 := Scalar.addi v427 c32_i32
  let v443 : Index := Scalar.indexCast v442
  ![v443.toNat]

def k0_chk251 (v448 : IVec S16 32) : Prop :=
  (∀ a x, ((![v448] : Fin 1 → IVec S16 32) a x).toNat < S32768.size a)
theorem k0_idx251_inb : ∀ (v448 : IVec S16 32) (k0_hw251 : k0_chk251 v448), ∀ a x, ((![v448] : Fin 1 → IVec S16 32) a x).toNat < S32768.size a := fun v448 k0_hw251 => k0_hw251
def k0_off255 (k0_t32 : Fin k0_t32_loop.trips) : Fin 1 → Nat :=
  let c0_i32_247 : BitVec 32 := 0#32
  let c1_i32_249 : BitVec 32 := 1#32
  let arg15 : BitVec 32 := Scf.iv c0_i32_247 c1_i32_249 k0_t32
  let c128_i32 : BitVec 32 := 128#32
  let v427 : BitVec 32 := Scalar.muli arg15 c128_i32
  let c48_i32 : BitVec 32 := 48#32
  let v449 : BitVec 32 := Scalar.addi v427 c48_i32
  let v450 : Index := Scalar.indexCast v449
  ![v450.toNat]

def k0_chk252 (v455 : IVec S16 32) : Prop :=
  (∀ a x, ((![v455] : Fin 1 → IVec S16 32) a x).toNat < S32768.size a)
theorem k0_idx252_inb : ∀ (v455 : IVec S16 32) (k0_hw252 : k0_chk252 v455), ∀ a x, ((![v455] : Fin 1 → IVec S16 32) a x).toNat < S32768.size a := fun v455 k0_hw252 => k0_hw252
def k0_off256 (k0_t32 : Fin k0_t32_loop.trips) : Fin 1 → Nat :=
  let c0_i32_247 : BitVec 32 := 0#32
  let c1_i32_249 : BitVec 32 := 1#32
  let arg15 : BitVec 32 := Scf.iv c0_i32_247 c1_i32_249 k0_t32
  let c128_i32 : BitVec 32 := 128#32
  let v427 : BitVec 32 := Scalar.muli arg15 c128_i32
  let c64_i32_263 : BitVec 32 := 64#32
  let v456 : BitVec 32 := Scalar.addi v427 c64_i32_263
  let v457 : Index := Scalar.indexCast v456
  ![v457.toNat]

def k0_chk253 (v462 : IVec S16 32) : Prop :=
  (∀ a x, ((![v462] : Fin 1 → IVec S16 32) a x).toNat < S32768.size a)
theorem k0_idx253_inb : ∀ (v462 : IVec S16 32) (k0_hw253 : k0_chk253 v462), ∀ a x, ((![v462] : Fin 1 → IVec S16 32) a x).toNat < S32768.size a := fun v462 k0_hw253 => k0_hw253
def k0_off257 (k0_t32 : Fin k0_t32_loop.trips) : Fin 1 → Nat :=
  let c0_i32_247 : BitVec 32 := 0#32
  let c1_i32_249 : BitVec 32 := 1#32
  let arg15 : BitVec 32 := Scf.iv c0_i32_247 c1_i32_249 k0_t32
  let c128_i32 : BitVec 32 := 128#32
  let v427 : BitVec 32 := Scalar.muli arg15 c128_i32
  let c80_i32 : BitVec 32 := 80#32
  let v463 : BitVec 32 := Scalar.addi v427 c80_i32
  let v464 : Index := Scalar.indexCast v463
  ![v464.toNat]

def k0_chk254 (v469 : IVec S16 32) : Prop :=
  (∀ a x, ((![v469] : Fin 1 → IVec S16 32) a x).toNat < S32768.size a)
theorem k0_idx254_inb : ∀ (v469 : IVec S16 32) (k0_hw254 : k0_chk254 v469), ∀ a x, ((![v469] : Fin 1 → IVec S16 32) a x).toNat < S32768.size a := fun v469 k0_hw254 => k0_hw254
def k0_off258 (k0_t32 : Fin k0_t32_loop.trips) : Fin 1 → Nat :=
  let c0_i32_247 : BitVec 32 := 0#32
  let c1_i32_249 : BitVec 32 := 1#32
  let arg15 : BitVec 32 := Scf.iv c0_i32_247 c1_i32_249 k0_t32
  let c128_i32 : BitVec 32 := 128#32
  let v427 : BitVec 32 := Scalar.muli arg15 c128_i32
  let c96_i32 : BitVec 32 := 96#32
  let v470 : BitVec 32 := Scalar.addi v427 c96_i32
  let v471 : Index := Scalar.indexCast v470
  ![v471.toNat]

def k0_chk255 (v476 : IVec S16 32) : Prop :=
  (∀ a x, ((![v476] : Fin 1 → IVec S16 32) a x).toNat < S32768.size a)
theorem k0_idx255_inb : ∀ (v476 : IVec S16 32) (k0_hw255 : k0_chk255 v476), ∀ a x, ((![v476] : Fin 1 → IVec S16 32) a x).toNat < S32768.size a := fun v476 k0_hw255 => k0_hw255
def k0_off259 (k0_t32 : Fin k0_t32_loop.trips) : Fin 1 → Nat :=
  let c0_i32_247 : BitVec 32 := 0#32
  let c1_i32_249 : BitVec 32 := 1#32
  let arg15 : BitVec 32 := Scf.iv c0_i32_247 c1_i32_249 k0_t32
  let c128_i32 : BitVec 32 := 128#32
  let v427 : BitVec 32 := Scalar.muli arg15 c128_i32
  let c112_i32 : BitVec 32 := 112#32
  let v477 : BitVec 32 := Scalar.addi v427 c112_i32
  let v478 : Index := Scalar.indexCast v477
  ![v478.toNat]

def k0_chk256 (v483 : IVec S16 32) : Prop :=
  (∀ a x, ((![v483] : Fin 1 → IVec S16 32) a x).toNat < S32768.size a)
theorem k0_idx256_inb : ∀ (v483 : IVec S16 32) (k0_hw256 : k0_chk256 v483), ∀ a x, ((![v483] : Fin 1 → IVec S16 32) a x).toNat < S32768.size a := fun v483 k0_hw256 => k0_hw256
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x512x4 : Shape := ⟨3, ![4096, 512, 4]⟩
abbrev S4 : Shape := ⟨1, ![4]⟩
abbrev S_ : Shape := ⟨0, ![]⟩
abbrev S4096x512x16 : Shape := ⟨3, ![4096, 512, 16]⟩
abbrev S4x1 : Shape := ⟨2, ![4, 1]⟩

abbrev nBuf : Space → Nat
  | .hbm => 13
  | .vmem => 0
  | .smem => 0
  | _ => 0

abbrev bufTy : (tb : Table) → Fin (tcTables nBuf tb) → BufTy
  | .hbm, ⟨0, _⟩ => ⟨S4096x512x4, .f32⟩
  | .hbm, ⟨1, _⟩ => ⟨S4, .i32⟩
  | .hbm, ⟨2, _⟩ => ⟨S_, .f32⟩
  | .hbm, ⟨3, _⟩ => ⟨S4096x512x16, .f32⟩
  | .hbm, ⟨4, _⟩ => ⟨S_, .i32⟩
  | .hbm, ⟨5, _⟩ => ⟨S4, .i32⟩
  | .hbm, ⟨6, _⟩ => ⟨S4, .i1⟩
  | .hbm, ⟨7, _⟩ => ⟨S_, .i32⟩
  | .hbm, ⟨8, _⟩ => ⟨S4, .i32⟩
  | .hbm, ⟨9, _⟩ => ⟨S4, .i32⟩
  | .hbm, ⟨10, _⟩ => ⟨S4, .i32⟩
  | .hbm, ⟨11, _⟩ => ⟨S4x1, .i32⟩
  | .hbm, ⟨12, _⟩ => ⟨S4096x512x16, .f32⟩
  | _, _ => ⟨S4096x512x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_cst : Ref sig .tc := ⟨.hbm, 2, rfl⟩
abbrev main_v0 : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Proof.Program.lean ====
/-
  The tile's program restated. The printed kernel writes its 32 chunks out one after another; here each kind of
  statement is written once, as a function of the chunk's number, and the printed body is shown to be the list of
  these statements in order.
-/
module

public import proofs.«01_k».proof.Defs
public import proofs.«01_k».proof.Proof.Gen.KernelIdeal
public import proofs.«01_k».proof.Proof.Gen.KernelIdeal.Skeleton

@[expose] public section

noncomputable section

namespace Cert.Proof.Blades

open Cert.KernelIdeal Cert.KernelIdeal.Gen
open Idealize.ShloMosaic
open Idealize.SL.Sem

variable {F : FTy → Type} [FloatOps F]

/-- The parity of a chunk's number: which of the two buffers of each pair the chunk uses. -/
def par (t : ℕ) : Bool := t % 2 == 1

abbrev xM : Memref sig .scVector .hbm S8388608 .f32 := Memref.whole main_v0_scv
abbrev zM : Memref sig .scVector .hbm S32768 .f32 := Memref.whole main_v1_scv
abbrev oM : Memref sig .scVector .hbm S33554432 .f32 := Memref.whole main_v2_scv

/-- The tile's two input buffers. -/
abbrev ivM : Bool → Memref sig .scVector .vmem S8192 .f32
  | false => Memref.whole cc0_scratch0
  | true => Memref.whole cc0_scratch1
/-- The tile's two output buffers. -/
abbrev ovM : Bool → Memref sig .scVector .vmem S32768 .f32
  | false => Memref.whole cc0_scratch2
  | true => Memref.whole cc0_scratch3

/-- The input buffers are whole arrays; -/
theorem ivM_whole : ∀ b, (ivM b).IsWhole
  | false => Memref.isWhole_whole _
  | true => Memref.isWhole_whole _
/-- so are the output buffers. -/
theorem ovM_whole : ∀ b, (ovM b).IsWhole
  | false => Memref.isWhole_whole _
  | true => Memref.isWhole_whole _

/-! ## The statements -/

variable (i : grid0.Coords)

/-- A program of the tile at coordinates `i`. -/
abbrev TP (F : FTy → Type) (i : grid0.Coords) (α : Type) : Type 1 :=
  Prog (TpuEff nD τ sig (Elt F) Λ₀ (.scVector ((i 0).castLE hcore0) ((i 1).castLE hsub0))) α

/-- Run a list of programs one after another. -/
def seqP {i : grid0.Coords} : List (TP F i PUnit) → TP F i PUnit
  | [] => pure ⟨⟩
  | p :: ps => p >>= fun _ => seqP ps

/-- Where chunk `t` of the tile's input starts in the flat input. -/
def xOff (i : grid0.Coords) : ℕ → Fin 1 → ℕ
  | 0 => k0_off1 i
  | t + 1 => k0_off2 i (BitVec.ofNat 32 (2048 + 2048 * t))
/-- Where chunk `t` of the tile's output starts in the flat output. -/
def oOff (i : grid0.Coords) (t : ℕ) : Fin 1 → ℕ := k0_off11 i (BitVec.ofNat 32 (2048 * t))

/-- A chunk of the input lies in the input; -/
theorem xOff_inb (i : grid0.Coords) : ∀ (t : Fin 32) (a), xOff i t.val a + S8192.size a ≤ S8388608.size a
  | ⟨0, _⟩ => k0_off1_inb i
  | ⟨t + 1, h⟩ => k0_off2_inb i ⟨t, by omega⟩
/-- a chunk of the output lies in the output. -/
theorem oOff_inb (i : grid0.Coords) (t : Fin 32) (a) : oOff i t.val a + S32768.size a ≤ S33554432.size a :=
  k0_off11_inb i t a

/-- Chunk `t` of the tile's input and of its output, in the arrays. -/
abbrev xSl (t : Fin 32) : Memref sig .scVector .hbm S8192 .f32 :=
  xM.slice (Rect.unit (s := S8388608) (xOff i t.val) S8192.size (xOff_inb i t)) (fun _ => rfl)
abbrev oSl (t : Fin 32) : Memref sig .scVector .hbm S32768 .f32 :=
  oM.slice (Rect.unit (s := S33554432) (oOff i t.val) S32768.size (oOff_inb i t)) (fun _ => rfl)

/-- The semaphores of the copies in, of the copies out and of the two zero fills. -/
abbrev isem : Bool → DmaSem sig
  | false => cc0_scratch4.sem
  | true => cc0_scratch5.sem
abbrev osem : Bool → DmaSem sig
  | false => cc0_scratch6.sem
  | true => cc0_scratch7.sem
abbrev zsem : Bool → DmaSem sig
  | false => cc0_scratch8.sem
  | true => cc0_scratch9.sem

/-- Start filling output buffer `b` with zeros; wait for it. -/
def zStart (b : Bool) : TP F i PUnit :=
  Prog.lift (.enqueueDma zM (.here (ovM b)) (.dma (zsem b)) (Memref.isWhole_whole _).wordExact (ovM_whole b).wordExact ⟨Or.inl rfl, trivial⟩)
def zWait (b : Bool) : TP F i PUnit :=
  Prog.lift (.waitDma2 (zsem b) zM (ovM b) (Memref.isWhole_whole _).wordExact (ovM_whole b).wordExact)
/-- Start copying chunk `t` of the input into input buffer `b`; wait for it. -/
def inStart (b : Bool) (t : Fin 32) : TP F i PUnit :=
  Prog.lift (.enqueueDma (xSl i t) (.here (ivM b)) (.dma (isem b)) (View.wordExact_bits rfl) (ivM_whole b).wordExact ⟨Or.inl rfl, trivial⟩)
def inWait (b : Bool) (t : Fin 32) : TP F i PUnit :=
  Prog.lift (.waitDma2 (isem b) (xSl i t) (ivM b) (View.wordExact_bits rfl) (ivM_whole b).wordExact)
/-- Start copying output buffer `b` out to chunk `t` of the output; wait for it. -/
def outStart (b : Bool) (t : Fin 32) : TP F i PUnit :=
  Prog.lift (.enqueueDma (ovM b) (.here (oSl i t)) (.dma (osem b)) (ovM_whole b).wordExact (View.wordExact_bits rfl) ⟨Or.inl rfl, trivial⟩)
def outWait (b : Bool) (t : Fin 32) : TP F i PUnit :=
  Prog.lift (.waitDma2 (osem b) (ovM b) (oSl i t) (ovM_whole b).wordExact (View.wordExact_bits rfl))

/-- The number of the first input word that trip `k` of a chunk's loop reads in its step number `r`, as the kernel computes it. -/
def word (k : Fin k0_t1_loop.trips) (r : ℕ) : BitVec 32 :=
  Scalar.addi (Scalar.muli (Scf.iv 0#32 1#32 k) 128#32) (BitVec.ofNat 32 (16 * r))
/-- The sixteen output words the step scatters to. -/
def idxs (k : Fin k0_t1_loop.trips) (r : ℕ) : IVec S16 32 :=
  addi k0_pay167 (broadcast S16 (Scalar.muli (word k r) 4#32))
/-- Where the step's load starts; -/
def ldOff (k : Fin k0_t1_loop.trips) (r : ℕ) : Fin 1 → ℕ := ![(Scalar.indexCast (word k r)).toNat]
/-- it lies in the input buffer. -/
theorem ldOff_inb (k : Fin k0_t1_loop.trips) : ∀ (r : Fin 8) (a), ldOff k r.val a + S16.size a ≤ S8192.size a
  | 0 => k0_off3_inb k
  | 1 => k0_off4_inb k
  | 2 => k0_off5_inb k
  | 3 => k0_off6_inb k
  | 4 => k0_off7_inb k
  | 5 => k0_off8_inb k
  | 6 => k0_off9_inb k
  | 7 => k0_off10_inb k

/-- One step: sixteen words loaded from input buffer `b` and scattered into output buffer `b`. -/
def step (b : Bool) (k : Fin k0_t1_loop.trips) (r : Fin 8) : TP F i PUnit := do
  let v : Vec F S16 .f32 ← Prog.lift (.load (ivM b) (Rect.unit (s := S8192) (ldOff k r.val) S16.size (ldOff_inb k r)).toLoadRect (View.loadsAt_vmem h_S16))
  have hw : k0_chk1 (idxs k r.val) := (← Prog.lift (TpuEff.assume (k0_chk1 (idxs k r.val)) (k0_chk1.dec (idxs k r.val)))).down
  SparseCore.vectorStoreIdx (ovM b) ![idxs k r.val] v (fun _ => 1#1) false (k0_idx1_inb (idxs k r.val) hw) (View.stores_vmem_bits_univ h_S32768 rfl)

/-- A trip of a chunk's loop: its eight steps. -/
def trip (b : Bool) (k : Fin k0_t1_loop.trips) : TP F i PUnit := seqP [step i b k 0, step i b k 1, step i b k 2, step i b k 3, step i b k 4, step i b k 5, step i b k 6, step i b k 7]
/-- A chunk's loop. -/
def loop (b : Bool) : TP F i PUnit := Scf.Loop.for k0_t1_loop k0_t1_ok ⟨⟩ (fun k _ => trip i b k)

/-- Chunk `t`: the next chunk's copy in is started, this one's waited for, the copy out that last used the output
    buffer waited for, the words scattered, and the buffer's copy out started. -/
def chunk (t : Fin 32) : List (TP F i PUnit) :=
  (if h : t.val + 1 < 32 then [inStart i (par (t.val + 1)) ⟨t.val + 1, h⟩] else [])
    ++ inWait i (par t.val) t
    :: (if 2 ≤ t.val then [outWait i (par t.val) ⟨t.val - 2, by omega⟩] else [])
    ++ [loop i (par t.val), outStart i (par t.val) t]

/-- The statements left when `n` chunks are still to come: those chunks', then the waits for the last two copies out. -/
def rest : (n : ℕ) → n ≤ 32 → List (TP F i PUnit)
  | 0, _ => [outWait i false 30, outWait i true 31]
  | n + 1, h => chunk i ⟨31 - n, by omega⟩ ++ rest n (by omega)

/-- All of the tile's statements. -/
def stmts : List (TP F i PUnit) :=
  [zStart i false, zStart i true, inStart i false 0, zWait i false, zWait i true] ++ rest i 32 (le_refl _)

/-- The printed body is the list of statements. -/
theorem body_eq :
    cc0__body (F := F) i xM (Memref.isWhole_whole _) zM (Memref.isWhole_whole _) oM (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7 cc0_scratch8 cc0_scratch9 = seqP (stmts i) := by
  rw [cc0__body_eq_skeleton]; unfold cc0__body_skel
  simp only [k0_part33_eq_skeleton, k0_part34_eq_skeleton, k0_part35_eq_skeleton, k0_part36_eq_skeleton, k0_part37_eq_skeleton,
    k0_part38_eq_skeleton, k0_part39_eq_skeleton, k0_part40_eq_skeleton, k0_part41_eq_skeleton, k0_part42_eq_skeleton,
    k0_part43_eq_skeleton, k0_part44_eq_skeleton, k0_part45_eq_skeleton, k0_part46_eq_skeleton]
  unfold k0_part33_skel k0_part34_skel k0_part35_skel k0_part36_skel k0_part37_skel k0_part38_skel k0_part39_skel k0_part40_skel
    k0_part41_skel k0_part42_skel k0_part43_skel k0_part44_skel k0_part45_skel k0_part46_skel
  simp only [bind_assoc, pure_bind]
  simp only [stmts, rest, chunk, List.cons_append, List.nil_append, Nat.sub_zero, Nat.reduceSub, Nat.reduceAdd, Nat.reduceLT,
    Nat.reduceLeDiff, dite_true, dite_false, ite_true, ite_false, seqP]
  rfl

end Cert.Proof.Blades

end
-- ==== Proof.Values.lean ====
/-
  What a chunk's loop leaves in an output buffer. A flat output is groups of sixteen words, one group per four input
  words: words 1 to 4 of a group are the four input words, the others stay as they were. The loop's step number `n`
  scatters input words `16 n` to `16 n + 15`.
-/
module

public import proofs.«01_k».proof.Proof.Program

@[expose] public section

noncomputable section

namespace Cert.Proof.Blades

open Cert.KernelIdeal Cert.KernelIdeal.Gen
open Idealize.ShloMosaic

variable {F : FTy → Type} [FloatOps F]

/-- Word `p` of a flat output is one of the four that input words go to. -/
def Blade (p : ℕ) : Prop := 1 ≤ p % 16 ∧ p % 16 ≤ 4
instance (p : ℕ) : Decidable (Blade p) := by unfold Blade; infer_instance
/-- The input word that goes to output word `p`. -/
def src (p : ℕ) : ℕ := p / 16 * 4 + (p % 16 - 1)
/-- The output word that input word `q` goes to. -/
def dst (q : ℕ) : ℕ := q / 4 * 16 + q % 4 + 1

/-- An input word goes to one of the four. -/
theorem blade_dst (q : ℕ) : Blade (dst q) := by unfold Blade dst; omega
/-- `src` undoes `dst`, -/
theorem src_dst (q : ℕ) : src (dst q) = q := by unfold src dst; omega
/-- and `dst` undoes `src`. -/
theorem dst_src {p : ℕ} (h : Blade p) : dst (src p) = p := by unfold Blade at h; unfold src dst; omega
/-- No two input words go to one output word. -/
theorem dst_inj {q q' : ℕ} (h : dst q = dst q') : q = q' := by rw [← src_dst q, h, src_dst]
/-- A buffer's output words come from its input words. -/
theorem src_lt {p N : ℕ} (h : Blade p) (hp : p < 16 * N) : src p < 4 * N := by unfold Blade at h; unfold src; omega
/-- A chunk's words are those of the whole array from the chunk's start on. -/
theorem blade_chunk (c p : ℕ) : Blade (32768 * c + p) ↔ Blade p := by unfold Blade; omega
/-- So are the input words they come from. -/
theorem src_chunk (c p : ℕ) : src (32768 * c + p) = 8192 * c + src p := by unfold src; omega

/-- Index number `n` of a flat array. -/
def ix8192 (n : ℕ) : S8192.Idx := fun a => ⟨n % S8192.size a, Nat.mod_lt _ (by revert a; decide)⟩
def ix32768 (n : ℕ) : S32768.Idx := fun a => ⟨n % S32768.size a, Nat.mod_lt _ (by revert a; decide)⟩

/-- An index is the one of its number. -/
theorem ix8192_val (x : S8192.Idx) : ix8192 (x 0).val = x := by
  funext a; obtain rfl : a = 0 := Subsingleton.elim _ _
  exact Fin.ext (Nat.mod_eq_of_lt (x 0).isLt)
/-- An index is the one of its number. -/
theorem ix32768_val (x : S32768.Idx) : ix32768 (x 0).val = x := by
  funext a; obtain rfl : a = 0 := Subsingleton.elim _ _
  exact Fin.ext (Nat.mod_eq_of_lt (x 0).isLt)

/-- An output buffer that held `g`, after the first `n` steps over input words `v`. -/
def fill (g : Vec F S32768 .f32) (v : Vec F S8192 .f32) (n : ℕ) : Vec F S32768 .f32 := fun p =>
  if Blade (p 0).val ∧ src (p 0).val < 16 * n then v (ix8192 (src (p 0).val)) else g p

/-- Before the first step nothing has changed. -/
theorem fill_zero (g : Vec F S32768 .f32) (v : Vec F S8192 .f32) : fill g v 0 = g := by
  funext p; exact if_neg (by omega)

/-- The chunk of output made of input words `v`, the other words those of `z`. -/
def outBlk (z : Vec F S32768 .f32) (v : Vec F S8192 .f32) : Vec F S32768 .f32 := fun p =>
  if Blade (p 0).val then v (ix8192 (src (p 0).val)) else z p

/-- A buffer whose words outside the four are `z`'s. -/
def Good (z g : Vec F S32768 .f32) : Prop := ∀ p : S32768.Idx, ¬ Blade (p 0).val → g p = z p

/-- The zeros are such a buffer; -/
theorem good_self (z : Vec F S32768 .f32) : Good z z := fun _ _ => rfl
/-- so is a chunk of output. -/
theorem good_outBlk (z : Vec F S32768 .f32) (v : Vec F S8192 .f32) : Good z (outBlk z v) := fun _ h => if_neg h

/-- After 512 steps the chunk is made. -/
theorem fill_all {z g : Vec F S32768 .f32} (h : Good z g) (v : Vec F S8192 .f32) : fill g v 512 = outBlk z v := by
  funext p
  have hp : (p 0).val < 32768 := (p 0).isLt
  unfold fill outBlk
  by_cases hb : Blade (p 0).val
  · rw [if_pos hb, if_pos ⟨hb, src_lt (N := 2048) hb (by omega)⟩]
  · rw [if_neg hb, if_neg (fun h => hb h.1)]; exact h p hb

/-! ## The addresses of a step -/

/-- The loop has 64 trips. -/
theorem trips_eq : k0_t1_loop.trips = 64 := by decide +kernel

/-- A step's first input word. -/
theorem word_toNat (k : Fin k0_t1_loop.trips) (r : Fin 8) : (word k r.val).toNat = 16 * (8 * k.val + r.val) := by
  have hk : k.val < 64 := k.isLt.trans_eq trips_eq
  have hr : r.val < 8 := r.isLt
  simp only [word, Scf.iv, Scalar.addi, Scalar.muli, IntOp.addi, IntOp.muli, BitVec.toNat_add, BitVec.toNat_mul, BitVec.toNat_ofNat]
  omega

/-- Its load starts there. -/
theorem ldOff_eq (k : Fin k0_t1_loop.trips) (r : Fin 8) (a : Fin 1) : ldOff k r.val a = 16 * (8 * k.val + r.val) := by
  obtain rfl : a = 0 := Subsingleton.elim _ _
  have hk : k.val < 64 := k.isLt.trans_eq trips_eq
  have hr : r.val < 8 := r.isLt
  exact word_toNat k r

/-- The lanes' pattern: lane `l` goes to word `l % 4 + 1` of group `l / 4`. -/
theorem pat_toNat (x : S16.Idx) : (k0_pay167 x).toNat = dst (x 0).val := by
  have h : ∀ l : Fin 16, (k0_pay167 (Shape.ofLane (d := ![16]) l)).toNat = dst l.val := by decide +kernel
  have hx : x = Shape.ofLane (d := ![16]) (x 0) := by
    funext a; obtain rfl : a = 0 := Subsingleton.elim _ _; rfl
  rw [hx]; exact h _

/-- Lane by lane, where a step's words go. -/
theorem idxs_toNat (k : Fin k0_t1_loop.trips) (r : Fin 8) (x : S16.Idx) :
    (idxs k r.val x).toNat = dst (16 * (8 * k.val + r.val) + (x 0).val) := by
  have hk : k.val < 64 := k.isLt.trans_eq trips_eq
  have hr : r.val < 8 := r.isLt
  have hx : (x 0).val < 16 := (x 0).isLt
  have hp := pat_toNat x
  have hw := word_toNat k r
  show (k0_pay167 x + word k r.val * 4#32).toNat = _
  rw [BitVec.toNat_add, BitVec.toNat_mul, hp, hw]
  simp only [BitVec.toNat_ofNat]
  unfold dst
  omega

/-- They go to words of the buffer. -/
theorem chk (k : Fin k0_t1_loop.trips) (r : Fin 8) : k0_chk1 (idxs k r.val) := by
  intro a x
  obtain rfl : a = 0 := Subsingleton.elim _ _
  have hk : k.val < 64 := k.isLt.trans_eq trips_eq
  have hr : r.val < 8 := r.isLt
  have hx : (x 0).val < 16 := (x 0).isLt
  show (idxs k r.val x).toNat < 32768
  rw [idxs_toNat]; unfold dst; omega

/-! ## The scatter -/

/-- Writing lane after lane, at an element none of the lanes names, leaves what was there; -/
theorem foldl_miss {α β γ : Type} (P : α → β → Prop) [∀ k j, Decidable (P k j)] (v : α → γ) (j : β) :
    ∀ (l : List α) (f : β → γ), (∀ k ∈ l, ¬ P k j) → l.foldl (fun g k => fun j => if P k j then v k else g j) f j = f j
  | [], _, _ => rfl
  | k :: l, f, h => by
    rw [List.foldl_cons, foldl_miss P v j l _ fun k' hk' => h k' (List.mem_cons_of_mem _ hk')]
    exact if_neg (h k List.mem_cons_self)

/-- at an element just one lane names, that lane's word. -/
theorem foldl_hit {α β γ : Type} (P : α → β → Prop) [∀ k j, Decidable (P k j)] (v : α → γ) (j : β) (k : α) (hk : P k j)
    (hu : ∀ k', P k' j → k' = k) :
    ∀ (l : List α) (f : β → γ), k ∈ l → l.foldl (fun g k => fun j => if P k j then v k else g j) f j = v k
  | [], _, h => nomatch h
  | k' :: l, f, h => by
    rw [List.foldl_cons]
    by_cases hl : k ∈ l
    · exact foldl_hit P v j k hk hu l _ hl
    · obtain rfl : k = k' := (List.mem_cons.mp h).resolve_right hl
      rw [foldl_miss P v j l _ fun k' hk' hp => hl (hu k' hp ▸ hk')]
      exact if_pos hk

/-- Step `r` of trip `k` takes a buffer from `8 k + r` steps done to one more. -/
theorem storeIdx_fill (g : Vec F S32768 .f32) (v : Vec F S8192 .f32) (k : Fin k0_t1_loop.trips) (r : Fin 8) (w : Vec F S16 .f32)
    (hw : ∀ x : S16.Idx, w x = v (ix8192 (16 * (8 * k.val + r.val) + (x 0).val)))
    (h : ∀ a x, ((![idxs k r.val] : Fin 1 → IVec S16 32) a x).toNat < S32768.size a) :
    storeIdx (fill g v (8 * k.val + r.val)) ![idxs k r.val] w (fun _ => 1#1) false h = fill g v (8 * k.val + r.val + 1) := by
  set n := 8 * k.val + r.val with hn
  funext j
  have hkey : ∀ l : Fin 16, (∀ a, (j a).val = (idxAt (t := S16) (s := S32768) ![idxs k r.val] h (Shape.ofLane l) a).val) ↔ (j 0).val = dst (16 * n + l.val) := by
    intro l
    have e : (idxAt (t := S16) (s := S32768) ![idxs k r.val] h (Shape.ofLane l) 0).val = dst (16 * n + l.val) := idxs_toNat k r (Shape.ofLane l)
    constructor
    · intro ha; rw [ha 0, e]
    · intro ha a; obtain rfl : a = 0 := Subsingleton.elim _ _; rw [ha, e]
  have hfold : storeIdx (fill g v n) ![idxs k r.val] w (fun _ => 1#1) false h j
      = (List.finRange 16).foldl (fun g' (l : Fin 16) => fun j : S32768.Idx =>
          if (∀ a, (j a).val = (idxAt (t := S16) (s := S32768) ![idxs k r.val] h (Shape.ofLane l) a).val) then w (Shape.ofLane l) else g' j) (fill g v n) j := by
    unfold storeIdx
    simp only [if_true, Bool.false_eq_true, if_false]
    rfl
  rw [hfold]
  by_cases hj : Blade (j 0).val ∧ 16 * n ≤ src (j 0).val ∧ src (j 0).val < 16 * n + 16
  · obtain ⟨hb, h1, h2⟩ := hj
    set l : Fin 16 := ⟨src (j 0).val - 16 * n, by omega⟩ with hl
    have hlv : 16 * n + l.val = src (j 0).val := by simp only [hl]; omega
    rw [foldl_hit (fun (l : Fin 16) (j : S32768.Idx) => ∀ a, (j a).val = (idxAt (t := S16) (s := S32768) ![idxs k r.val] h (Shape.ofLane l) a).val)
      (fun l => w (Shape.ofLane l)) j l ((hkey l).mpr (by rw [hlv, dst_src hb]))
      (fun l' hl' => Fin.ext (by
        have := dst_inj (((hkey l').mp hl').symm.trans (dst_src hb).symm)
        omega)) _ _ (List.mem_finRange _)]
    unfold fill
    rw [if_pos ⟨hb, by omega⟩, hw]
    show v (ix8192 (16 * n + l.val)) = _
    rw [hlv]
  · rw [foldl_miss (fun (l : Fin 16) (j : S32768.Idx) => ∀ a, (j a).val = (idxAt (t := S16) (s := S32768) ![idxs k r.val] h (Shape.ofLane l) a).val)
      (fun l => w (Shape.ofLane l)) j _ _ fun l _ hl => hj (by
        have e := (hkey l).mp hl
        rw [e, src_dst]
        exact ⟨blade_dst _, by omega, by omega⟩)]
    unfold fill
    by_cases hb : Blade (j 0).val
    · by_cases hs : src (j 0).val < 16 * n
      · rw [if_pos ⟨hb, hs⟩, if_pos ⟨hb, by omega⟩]
      · rw [if_neg (fun h => hs h.2), if_neg (fun h => hj ⟨hb, by omega, by omega⟩)]
    · rw [if_neg (fun h => hb h.1), if_neg (fun h => hb h.1)]

end Cert.Proof.Blades

end
-- ==== Proof.Steps.lean ====
/-
  Rules for the tile's statements. What a tile holds of a memref is stated by what is READ through it (`at_`); a copy
  in flight is a `Flight` that delivers the destination at the source's words and the source back.
-/
module

public import proofs.«01_k».proof.Proof.Values
public import Idealize.ShloMosaic.Lib.SparseCore.Quiescent
public import Idealize.ShloMosaic.Lib.SparseCore.Ops
public import Idealize.ShloMosaic.Lib.Pipeline.Kit
public import Idealize.ShloMosaic.Lib.Tactic

@[expose] public section

noncomputable section

namespace Cert.Proof.Blades

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EC : UEmb Counters (MT nD τ sig (HIx 1) (Elt F) ℕ UU ℕ) := countersEmb

variable (d : Dev nD) (i : grid0.Coords)

/-- The tile at coordinates `i` of device `d`. -/
abbrev thr : Thread nD τ := V d ((i 0).castLE hcore0) ((i 1).castLE hsub0)

/-- The weakest precondition of a program of the tile. -/
abbrev wpT {α : Type} (p : TP F i α) (Q : α → sProp (MT nD τ sig (HIx 1) (Elt F) ℕ UU ℕ)) : sProp (MT nD τ sig (HIx 1) (Elt F) ℕ UU ℕ) :=
  wp frame (wpE (defs₀ (F := F)) Variants.none (thr d i) none) Set.univ p Q

/-! ## Sequences of statements -/

/-- No statements change nothing. -/
theorem seq_nil (A : sProp 𝕄) : A ⊢ wpT d i (seqP (F := F) []) fun _ => A := by
  show A ⊢ wpT d i (pure PUnit.unit) fun _ => A
  unfold wpT; rw [wp_pure]; iintro H; imodintro; iexact H

/-- A statement's triple, in the form that continues with the statements after it. -/
theorem seq_cons {p : TP F i PUnit} {ps : List (TP F i PUnit)} {A B : sProp 𝕄} {Q : PUnit → sProp 𝕄} (h : A ⊢ wpT d i p fun _ => B) :
    A ⊢ iprop((B -∗ wpT d i (seqP ps) Q) -∗ wpT d i (seqP (p :: ps)) Q) := by
  show A ⊢ iprop((B -∗ wpT d i (seqP ps) Q) -∗ wpT d i (p >>= fun _ => seqP ps) Q)
  unfold wpT; rw [wp_bind]
  iintro HA Hk
  ihave H := h $$ HA
  iapply (wp_wand _ _ _) $$ H
  iintro %_ HB
  iapply Hk; iexact HB

/-- Two lists of statements run one after the other. -/
theorem seq_append {l ps : List (TP F i PUnit)} {Q : PUnit → sProp 𝕄} :
    wpT d i (seqP (l ++ ps)) Q = wpT d i (seqP l) fun _ => wpT d i (seqP ps) Q := by
  induction l with
  | nil =>
    show wpT d i (seqP ps) Q = wpT d i (pure ⟨⟩ : TP F i PUnit) fun _ => wpT d i (seqP ps) Q
    unfold wpT; rw [← wp_bind]; rfl
  | cons p l ih =>
    show wpT d i (p >>= fun _ => seqP (l ++ ps)) Q = wpT d i (p >>= fun _ => seqP l) fun _ => wpT d i (seqP ps) Q
    unfold wpT at ih ⊢; rw [wp_bind, wp_bind, ih]

/-- The same for a list of statements. -/
theorem seq_list {l ps : List (TP F i PUnit)} {A B : sProp 𝕄} {Q : PUnit → sProp 𝕄} (h : A ⊢ wpT d i (seqP l) fun _ => B) :
    A ⊢ iprop((B -∗ wpT d i (seqP ps) Q) -∗ wpT d i (seqP (l ++ ps)) Q) := by
  rw [seq_append]
  iintro HA Hk
  ihave H := h $$ HA
  iapply (wp_wand _ _ _) $$ H
  iintro %_ HB
  iapply Hk; iexact HB

/-! ## Memrefs by what is read through them -/

/-- Share `q` of the words of memref `m`, which read `w`. -/
def at_ {sp : Space} {s : Shape} (m : Memref sig .scVector sp s .f32) (q : PosShare TreeShare) (w : Vec F s .f32) : sProp 𝕄 :=
  iprop(∃ f, ⌜m.view.read (Elt F) f = w⌝ ∗ m.view.loc (thr d i) ↦[m.view.set]{q} f)

/-- A copy in flight on semaphore `sm` into `dst`, which delivers `dst` at `w` and share `q` of `src` back. -/
def fly {sp sp' : Space} {s : Shape} (src : Memref sig .scVector sp s .f32) (dst : Memref sig .scVector sp' s .f32)
    (sm : DmaSem sig) (q : PosShare TreeShare) (w : Vec F s .f32) : sProp 𝕄 :=
  Flight EC (thr d i) (.dma sm) (none : HIx 1) dst.view.dmaCredit iprop(at_ d i dst fullShare w ∗ at_ d i src q w)

/-- Starting a copy: the source's share and the destination go into its flight. -/
theorem start_triple {sp sp' : Space} {s : Shape} {src : Memref sig .scVector sp s .f32} {dst : Memref sig .scVector sp' s .f32}
    {sm : DmaSem sig} {h1 : src.view.WordExact} {h2 : dst.view.WordExact} {h3 : DmaTarget.Typed (nD := nD) sp (.dma sm) (.here (p := .scVector ((i 0).castLE hcore0) ((i 1).castLE hsub0)) dst)}
    (hs : 0 < s.numel) (q : PosShare TreeShare) (w : Vec F s .f32) :
    iprop(at_ d i src q w ∗ (∃ w', at_ d i dst fullShare w') ∗ semVal (thr d i, .dma sm) 0)
      ⊢ wpT d i (Prog.lift (.enqueueDma src (.here dst) (.dma sm) h1 h2 h3)) fun _ => fly d i src dst sm q w := by
  simp only [Prog.lift]
  unfold at_
  iintro ⟨⟨%fs, %hfs, Hs⟩, ⟨%w', %fd, -, Hd⟩, Hv⟩
  iapply (wp_dmaLocal EC Variants.none (thr d i) none (q := q) (fs := fs) (Sd := dst.view.set) (fd := fd) (none : HIx 1) dst.view.dmaCredit rfl
    (View.dmaCredit_pos _ hs) (Finset.Subset.refl _)) $$ [Hs Hd Hv]
  · isplitl [Hs]; · iexact Hs
    isplitl [Hd]; · iexact Hd
    iexact Hv
  iintro Hf
  rw [wp_ret]; imodintro
  unfold fly
  iapply (Flight_mono EC (thr d i) ?hm) $$ Hf
  iintro ⟨Hd, Hs⟩
  unfold at_
  isplitl [Hd]
  · iexists (dst.view.write (Elt F) fd (src.view.read (Elt F) fs) Finset.univ); isplitr
    · ipureintro; exact (View.read_write_univ _ _).trans hfs
    · iexact Hd
  · iexists fs; isplitr
    · ipureintro; exact hfs
    · iexact Hs

/-- What the tile owes, with waits recorded beyond `W` at no index but `none`. -/
def OW (O : CellTallies nD τ sig (HIx 1)) (W : Waits sig (HIx 1)) : sProp 𝕄 :=
  iprop(∃ W', ⌜∀ p ∈ W', p ∈ W ∨ p.2 = none⌝ ∗ owes (thr d i) O W')

variable {O : CellTallies nD τ sig (HIx 1)} {W : Waits sig (HIx 1)}

/-- Waiting for a copy: the destination holds the source's words, the semaphore is at zero. -/
theorem wait_triple {sp sp' : Space} {s : Shape} {src : Memref sig .scVector sp s .f32} {dst : Memref sig .scVector sp' s .f32}
    {sm : DmaSem sig} {h1 : src.view.WordExact} {h2 : dst.view.WordExact} (q : PosShare TreeShare) (w : Vec F s .f32) :
    iprop(MayWaits (thr d i) (none : HIx 1) O ∗ OW d i O W ∗ fly d i src dst sm q w)
      ⊢ wpT d i (Prog.lift (.waitDma2 sm src dst h1 h2)) fun _ =>
        iprop(OW d i O W ∗ at_ d i dst fullShare w ∗ at_ d i src q w ∗ semVal (thr d i, .dma sm) 0) := by
  simp only [Prog.lift]
  unfold fly OW
  iintro ⟨Hm, ⟨%W', %hW', HO⟩, Hf⟩
  ihave Hmw := (MayWaits.elim (.dma sm)) $$ Hm
  iapply (wp_waitLocalO EC Variants.none (thr d i) none (none : HIx 1) rfl) $$ [Hmw HO Hf]
  · isplitl [Hf]; · iexact Hf
    isplitl [HO]; · iexact HO
    iexact Hmw
  iintro ⟨⟨Hd, Hs⟩, Hv, HO⟩
  rw [wp_ret]; imodintro
  isplitl [HO]
  · iexists (insert (SemLoc.dma sm, none) W'); isplitr
    · ipureintro; intro p hp
      rcases Finset.mem_insert.mp hp with hp | hp
      · exact .inr (congrArg Prod.snd hp)
      · exact hW' p hp
    · iexact HO
  isplitl [Hd]; · iexact Hd
  isplitl [Hs]; · iexact Hs
  iexact Hv

/-! ## The loop -/

/-- All of a memref's words, -/
theorem set_access_whole {sp : Space} {s : Shape} (m : Memref sig .scVector sp s .f32) : (m.access (.whole s)).set = m.view.set := by
  show (m.view.slice (.whole s)).set = _
  rw [View.set_slice, Rect.set_whole]; rfl
/-- read as through the memref. -/
theorem read_access_whole {sp : Space} {s : Shape} (m : Memref sig .scVector sp s .f32) (f : m.view.ty.Contents (Elt F)) :
    (m.access (.whole s)).read (Elt F) f = m.view.read (Elt F) f := by
  funext x
  show m.view.read (Elt F) f ((Rect.whole s).emb x) = _
  rw [Rect.emb_whole_apply]

/-- One step writes sixteen more words. -/
theorem step_triple (b : Bool) (k : Fin k0_t1_loop.trips) (r : Fin 8) (v : Vec F S8192 .f32) (g : Vec F S32768 .f32) :
    iprop(at_ d i (ivM b) fullShare v ∗ at_ d i (ovM b) fullShare (fill g v (8 * k.val + r.val)))
      ⊢ wpT d i (step i b k r) fun _ =>
        iprop(at_ d i (ivM b) fullShare v ∗ at_ d i (ovM b) fullShare (fill g v (8 * k.val + r.val + 1))) := by
  unfold step
  simp only [Prog.lift, Prog.bind_op, Prog.bind_ret, Prog.pure_eq_ret]
  unfold at_
  iintro ⟨⟨%f, %hf, Hi⟩, ⟨%fo, %hfo, Ho⟩⟩
  iapply (wp_load Variants.none (thr d i) none Set.univ (m := ivM b) (S := (ivM b).view.set) (View.setOn_subset_set _ _)) $$ Hi
  iintro Hi
  rw [wp_assume_of _ _ _ _ (chk k r)]
  rw [← Prog.bind_pure (SparseCore.vectorStoreIdx _ _ _ _ _ _ _)]
  ihave Ho' := (Entails.of_eq (show (((ovM b).view.loc (thr d i) ↦[(ovM b).view.set]{fullShare} fo : sProp 𝕄))
    = ((ovM b).access (.whole _)).loc (thr d i) ↦[((ovM b).access (.whole _)).set]{fullShare} fo by rw [set_access_whole])) $$ Ho
  iapply (SparseCore.wp_vectorStoreIdx Variants.none (thr d i) none Set.univ (base := ovM b)) $$ Ho'
  iintro Ho
  rw [wp_pure]; imodintro
  isplitl [Hi]
  · iexists f; isplitr
    · ipureintro; exact hf
    · iexact Hi
  iexists _; isplitr
  rotate_left
  · iapply (Entails.of_eq (show (((ovM b).access (.whole _)).loc (thr d i) ↦[((ovM b).access (.whole _)).set]{fullShare} _ : sProp 𝕄)
      = ((ovM b).view.loc (thr d i) ↦[(ovM b).view.set]{fullShare} _) by rw [set_access_whole])) $$ Ho
  · ipureintro
    rw [← read_access_whole, View.read_write_univ, read_access_whole, hfo]
    refine storeIdx_fill g v k r _ (fun x => ?_) _
    rw [View.readAt_apply, hf]
    congr 1
    funext a
    obtain rfl : a = 0 := Subsingleton.elim _ _
    apply Fin.ext
    have hk : k.val < 64 := k.isLt.trans_eq trips_eq
    have hr : r.val < 8 := r.isLt
    have hx : (x 0).val < 16 := (x 0).isLt
    rw [LoadRect.idx_apply]
    show ldOff k r.val 0 + 1 * (x 0).val = (16 * (8 * k.val + r.val) + (x 0).val) % 8192
    rw [ldOff_eq]
    omega

/-- A loop's buffers: the input words, and the output words after `n` steps. -/
def bufs (b : Bool) (v : Vec F S8192 .f32) (g : Vec F S32768 .f32) (n : ℕ) : sProp 𝕄 :=
  iprop(at_ d i (ivM b) fullShare v ∗ at_ d i (ovM b) fullShare (fill g v n))

/-- A trip of the loop is eight steps. -/
theorem trip_triple (b : Bool) (k : Fin k0_t1_loop.trips) (v : Vec F S8192 .f32) (g : Vec F S32768 .f32) :
    bufs d i b v g (8 * k.val) ⊢ wpT d i (trip i b k) fun _ => bufs d i b v g (8 * (k.val + 1)) := by
  have hs : ∀ r : Fin 8, bufs d i b v g (8 * k.val + r.val) ⊢ wpT d i (step i b k r) fun _ => bufs d i b v g (8 * k.val + r.val + 1) :=
    fun r => step_triple d i b k r v g
  -- the steps one after another, from step `8 k`
  have hl : ∀ (l : List (Fin 8)) (n : ℕ), (∀ (j : ℕ) (h : j < l.length), (l[j]).val = n + j) →
      bufs d i b v g (8 * k.val + n) ⊢ wpT d i (seqP (l.map fun r => step i b k r)) fun _ => bufs d i b v g (8 * k.val + (n + l.length)) := by
    intro l
    induction l with
    | nil => intro n _; exact seq_nil d i _
    | cons r l ih =>
      intro n hn
      have hr : r.val = n := hn 0 (by simp)
      have := ih (n + 1) fun j h => (hn (j + 1) (by simpa using h)).trans (by omega)
      iintro H
      iapply (seq_cons d i (hr ▸ hs r)) $$ H
      iintro H
      rw [show n + (r :: l).length = n + 1 + l.length by simp; omega]
      iapply this; iexact H
  exact hl [0, 1, 2, 3, 4, 5, 6, 7] 0 (by decide)

/-- A chunk's loop makes the output chunk, if the other words were zeros. -/
theorem loop_triple {z : Vec F S32768 .f32} (b : Bool) (v : Vec F S8192 .f32) :
    iprop(at_ d i (ivM b) fullShare v ∗ ∃ g, ⌜Good z g⌝ ∗ at_ d i (ovM b) fullShare g)
      ⊢ wpT d i (loop i b) fun _ => iprop(at_ d i (ivM b) fullShare v ∗ at_ d i (ovM b) fullShare (outBlk z v)) := by
  unfold loop
  iintro ⟨Hi, %g, %hg, Ho⟩
  rw [← Prog.bind_pure (Scf.Loop.for _ _ _ _)]
  iapply (Scf.wp_for_bind _ _ _ _ _ _ _ _ _ (fun n _ => bufs d i b v g (8 * n)) (fun k _ => trip_triple d i b k v g)) $$ [Hi Ho]
  · unfold bufs
    isplitl [Hi]; · iexact Hi
    rw [fill_zero]; iexact Ho
  iintro %_ H
  rw [wp_pure]; imodintro
  unfold bufs
  rw [show Scf.trips k0_t1_loop.lb k0_t1_loop.ub k0_t1_loop.st = 64 from trips_eq, fill_all hg]
  iexact H

end Cert.Proof.Blades

end
-- ==== Proof.Tile.lean ====
/-
  A tile's whole run. Between chunks the tile holds the chunks of input and output not in a copy, the buffers not in a
  copy and the copies in flight (`St`); a chunk's statements take this state from chunk `t` to chunk `t + 1`.
-/
module

public import proofs.«01_k».proof.Proof.Steps

@[expose] public section

noncomputable section

namespace Cert.Proof.Blades

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig (HIx 1) (Elt F) ℕ UU ℕ

/-! ## Chunks from a number on, chunks below a number -/

/-- The chunks from `n` on are chunk `n` and those after it. -/
theorem bigSep_from (n : Fin 32) (Φ : Fin 32 → sProp 𝕄) :
    bigSep (Finset.univ.filter fun s : Fin 32 => n.val ≤ s.val) Φ
      = iprop(Φ n ∗ bigSep (Finset.univ.filter fun s : Fin 32 => n.val + 1 ≤ s.val) Φ) := by
  rw [← SparseCore.bigSep_insert' (by simp)]
  congr 1
  ext s
  simp only [Finset.mem_filter, Finset.mem_univ, true_and, Finset.mem_insert, Fin.ext_iff]
  omega

/-- The chunks up to `n` are chunk `n` and those below it. -/
theorem bigSep_below (n : Fin 32) (Φ : Fin 32 → sProp 𝕄) :
    bigSep (Finset.univ.filter fun s : Fin 32 => s.val < n.val + 1) Φ
      = iprop(Φ n ∗ bigSep (Finset.univ.filter fun s : Fin 32 => s.val < n.val) Φ) := by
  rw [← SparseCore.bigSep_insert' (by simp)]
  congr 1
  ext s
  simp only [Finset.mem_filter, Finset.mem_univ, true_and, Finset.mem_insert, Fin.ext_iff]
  omega

theorem from_zero : (Finset.univ.filter fun s : Fin 32 => 0 ≤ s.val) = Finset.univ := by decide
theorem from_end : (Finset.univ.filter fun s : Fin 32 => 32 ≤ s.val) = ∅ := by decide
theorem from_past : (Finset.univ.filter fun s : Fin 32 => 32 + 1 ≤ s.val) = ∅ := by decide
theorem below_zero : (Finset.univ.filter fun s : Fin 32 => s.val < 0) = ∅ := by decide
theorem below_end : (Finset.univ.filter fun s : Fin 32 => s.val < 32) = Finset.univ := by decide

/-! ## The state between chunks -/

variable (d : Dev nD) (i : grid0.Coords)
-- `xv`: the words of the tile's input chunks; `z`: those of the array of zeros
variable (xv : Fin 32 → Vec F S8192 .f32) (z : Vec F S32768 .f32)
variable (O : CellTallies nD τ sig (HIx 1)) (W : Waits sig (HIx 1))

/-- Chunk `t` of the input; of the output at any words; of the output done. -/
def xC (t : Fin 32) : sProp 𝕄 := at_ d i (xSl i t) fullShare (xv t)
def oAny (t : Fin 32) : sProp 𝕄 := iprop(∃ w : Vec F S32768 .f32, at_ d i (oSl i t) fullShare w)
def oDone (t : Fin 32) : sProp 𝕄 := at_ d i (oSl i t) fullShare (outBlk z (xv t))

/-- An input buffer at any words. -/
def iFree (b : Bool) : sProp 𝕄 := iprop((∃ v : Vec F S8192 .f32, at_ d i (ivM b) fullShare v) ∗ semVal (thr d i, .dma (isem b)) 0)
/-- An output buffer whose words off the blades are zeros. -/
def oGood (b : Bool) : sProp 𝕄 := iprop(∃ g, ⌜Good z g⌝ ∗ at_ d i (ovM b) fullShare g)

/-- An output chunk's other words are zeros. -/
theorem oGood_of (b : Bool) (v : Vec F S8192 .f32) : at_ d i (ovM b) fullShare (outBlk z v) ⊢ oGood d i z b := by
  unfold oGood
  iintro H
  iexists (outBlk z v); isplitr
  · ipureintro; exact good_outBlk z v
  · iexact H

/-- Input buffer `b`: free, or in the copy in of a chunk. -/
def iSlot (b : Bool) : Option (Fin 32) → sProp 𝕄
  | none => iFree d i b
  | some t => fly d i (xSl i t) (ivM b) (isem b) fullShare (xv t)
/-- Output buffer `b`: free, or in the copy out of a chunk. -/
def oSlot (b : Bool) : Option (Fin 32) → sProp 𝕄
  | none => iprop(oGood d i z b ∗ semVal (thr d i, .dma (osem b)) 0)
  | some t => fly d i (ovM b) (oSl i t) (osem b) fullShare (outBlk z (xv t))

/-- Chunk number `t - k`, if there is one. -/
def pend (t k : ℕ) : Option (Fin 32) := if h : k ≤ t ∧ t - k < 32 then some ⟨t - k, h.2⟩ else none

/-- `pend` where there is such a chunk, -/
theorem pend_some {t k : ℕ} (h : k ≤ t) (h' : t - k < 32) : pend t k = some ⟨t - k, h'⟩ := dif_pos ⟨h, h'⟩
/-- before the first, -/
theorem pend_lt {t k : ℕ} (h : t < k) : pend t k = none := dif_neg fun hh => by omega
/-- after the last, -/
theorem pend_ge {t k : ℕ} (h : 32 ≤ t - k) : pend t k = none := dif_neg fun hh => by omega
/-- and one chunk later. -/
theorem pend_succ (t k : ℕ) : pend (t + 1) (k + 1) = pend t k := by
  unfold pend; simp only [Nat.add_le_add_iff_right, Nat.add_sub_add_right]

/-- The next chunk uses the other buffers. -/
theorem par_succ (t : ℕ) : par (t + 1) = !par t := by
  unfold par
  rcases Nat.mod_two_eq_zero_or_one t with h | h <;> simp [Nat.add_mod, h]

/-- Before chunk `t`. -/
def St (t : ℕ) : sProp 𝕄 :=
  iprop(MayWaits (thr d i) (none : HIx 1) O ∗ OW d i O W
    ∗ bigSep (Finset.univ.filter fun s : Fin 32 => t + 1 ≤ s.val) (xC d i xv) ∗ bigSep (Finset.univ.filter fun s : Fin 32 => s.val < t) (xC d i xv)
    ∗ bigSep (Finset.univ.filter fun s : Fin 32 => t ≤ s.val) (oAny d i) ∗ bigSep (Finset.univ.filter fun s : Fin 32 => s.val < t - 2) (oDone d i xv z)
    ∗ iSlot d i xv (par t) (pend t 0) ∗ iSlot d i xv (!par t) none
    ∗ oSlot d i xv z (par t) (pend t 2) ∗ oSlot d i xv z (!par t) (pend t 1))

/-! ## A chunk's statements -/

/-- Start the next chunk's copy in, if there is a next chunk. -/
theorem next_triple (t : Fin 32) :
    iprop(bigSep (Finset.univ.filter fun s : Fin 32 => t.val + 1 ≤ s.val) (xC d i xv) ∗ iSlot d i xv (!par t.val) none)
      ⊢ wpT d i (seqP (if h : t.val + 1 < 32 then [inStart i (par (t.val + 1)) ⟨t.val + 1, h⟩] else [])) fun _ =>
        iprop(bigSep (Finset.univ.filter fun s : Fin 32 => t.val + 1 + 1 ≤ s.val) (xC d i xv) ∗ iSlot d i xv (par (t.val + 1)) (pend (t.val + 1) 0)) := by
  by_cases h : t.val + 1 < 32
  · rw [dif_pos h, pend_some (Nat.zero_le _) (by omega), ← par_succ]
    have hb := bigSep_from (F := F) ⟨t.val + 1, h⟩ (xC d i xv)
    simp only at hb
    rw [hb]
    unfold iSlot iFree xC
    iintro ⟨⟨Hx, Hr⟩, Hi, Hs⟩
    iapply (seq_cons d i (start_triple (src := xSl i ⟨t.val + 1, h⟩) (dst := ivM (par (t.val + 1))) d i (by decide) fullShare (xv ⟨t.val + 1, h⟩))) $$ [Hx Hi Hs]
    · isplitl [Hx]; · iexact Hx
      isplitl [Hi]; · iexact Hi
      iexact Hs
    iintro Hf
    iapply (seq_nil d i _)
    isplitl [Hr]; · iexact Hr
    iexact Hf
  · have ht : t.val + 1 = 32 := by omega
    rw [dif_neg h, ht, pend_ge (by omega), ← par_succ, ht, from_end, from_past]
    exact seq_nil d i _

/-- Wait for this chunk's copy in. -/
theorem in_triple (t : Fin 32) :
    iprop(MayWaits (thr d i) (none : HIx 1) O ∗ OW d i O W ∗ iSlot d i xv (par t.val) (pend t.val 0))
      ⊢ wpT d i (inWait i (par t.val) t) fun _ =>
        iprop(OW d i O W ∗ at_ d i (ivM (par t.val)) fullShare (xv t) ∗ xC d i xv t ∗ semVal (thr d i, .dma (isem (par t.val))) 0) := by
  rw [pend_some (Nat.zero_le _) (by omega)]
  exact wait_triple d i fullShare (xv t)

/-- Wait for the copy out that last used the output buffer, if there was one. -/
theorem out_triple (t : Fin 32) :
    iprop(MayWaits (thr d i) (none : HIx 1) O ∗ OW d i O W ∗ oSlot d i xv z (par t.val) (pend t.val 2)
        ∗ bigSep (Finset.univ.filter fun s : Fin 32 => s.val < t.val - 2) (oDone d i xv z))
      ⊢ wpT d i (seqP (if 2 ≤ t.val then [outWait i (par t.val) ⟨t.val - 2, by omega⟩] else [])) fun _ =>
        iprop(OW d i O W ∗ oSlot d i xv z (par t.val) none ∗ bigSep (Finset.univ.filter fun s : Fin 32 => s.val < t.val + 1 - 2) (oDone d i xv z)) := by
  by_cases h : 2 ≤ t.val
  · rw [if_pos h, pend_some h (by omega), show t.val + 1 - 2 = t.val - 2 + 1 by omega]
    have hb := bigSep_below (F := F) ⟨t.val - 2, by omega⟩ (oDone d i xv z)
    simp only at hb
    rw [hb]
    unfold oSlot
    iintro ⟨Hm, HO, Hf, Hr⟩
    iapply (seq_cons d i (wait_triple (src := ovM (par t.val)) (dst := oSl i ⟨t.val - 2, by omega⟩) d i (O := O) (W := W) fullShare
      (outBlk z (xv ⟨t.val - 2, by omega⟩)))) $$ [Hm HO Hf]
    · isplitl [Hm]; · iexact Hm
      isplitl [HO]; · iexact HO
      iexact Hf
    iintro ⟨HO, Hd, Hs, Hv⟩
    iapply (seq_nil d i _)
    isplitl [HO]; · iexact HO
    isplitl [Hs Hv]
    · isplitl [Hs]
      · iapply (oGood_of d i z _ _); iexact Hs
      · iexact Hv
    isplitl [Hd]
    · unfold oDone; iexact Hd
    · iexact Hr
  · rw [if_neg h, pend_lt (by omega), show t.val + 1 - 2 = t.val - 2 by omega]
    iintro ⟨-, HO, Hf, Hr⟩
    iapply (seq_nil d i _)
    isplitl [HO]; · iexact HO
    isplitl [Hf]; · iexact Hf
    iexact Hr

/-- A chunk's statements. -/
theorem chunk_triple (t : Fin 32) : St d i xv z O W t.val ⊢ wpT d i (seqP (chunk i t)) fun _ => St d i xv z O W (t.val + 1) := by
  unfold St chunk
  rw [List.append_assoc]
  iintro ⟨#Hm, HO, Hxt, Hxd, Hot, Hod, Hi, Hi', Ho, Ho'⟩
  iapply (seq_list d i (next_triple d i xv t)) $$ [Hxt Hi']
  · isplitl [Hxt]; · iexact Hxt
    iexact Hi'
  iintro ⟨Hxt, Hi'⟩
  rw [List.cons_append]
  iapply (seq_cons d i (in_triple d i xv O W t)) $$ [HO Hi]
  · isplitr; · iexact Hm
    isplitl [HO]; · iexact HO
    iexact Hi
  iintro ⟨HO, Hi, Hx, Hsi⟩
  iapply (seq_list d i (out_triple d i xv z O W t)) $$ [HO Ho Hod]
  · isplitr; · iexact Hm
    isplitl [HO]; · iexact HO
    isplitl [Ho]; · iexact Ho
    iexact Hod
  unfold oSlot
  iintro ⟨HO, ⟨Ho, Hso⟩, Hod⟩
  iapply (seq_cons d i (loop_triple d i (z := z) (par t.val) (xv t))) $$ [Hi Ho]
  · isplitl [Hi]; · iexact Hi
    unfold oGood; iexact Ho
  iintro ⟨Hi, Ho⟩
  ihave Hot' := (Entails.of_eq (bigSep_from t (oAny d i))) $$ Hot
  icases Hot' with ⟨Ho1, Hot⟩
  iapply (seq_cons d i (start_triple (src := ovM (par t.val)) (dst := oSl i t) d i (by decide) fullShare (outBlk z (xv t)))) $$ [Ho Ho1 Hso]
  · isplitl [Ho]; · iexact Ho
    isplitl [Ho1]; · unfold oAny; iexact Ho1
    iexact Hso
  iintro Hf
  iapply (seq_nil d i _)
  isplitr; · iexact Hm
  isplitl [HO]; · iexact HO
  isplitl [Hxt]; · iexact Hxt
  isplitl [Hxd Hx]
  · rw [bigSep_below]
    isplitl [Hx]; · iexact Hx
    iexact Hxd
  isplitl [Hot]; · iexact Hot
  isplitl [Hod]; · iexact Hod
  isplitl [Hi']; · iexact Hi'
  rw [par_succ, Bool.not_not, pend_succ, pend_succ, pend_some (Nat.zero_le _) (by omega)]
  isplitl [Hi Hsi]
  · unfold iSlot iFree
    isplitl [Hi]
    · iexists _; iexact Hi
    · iexact Hsi
  isplitl [Ho']; · iexact Ho'
  iexact Hf

/-! ## The whole run -/

/-- After the last wait. -/
def End : sProp 𝕄 :=
  iprop(OW d i O W ∗ bigSep Finset.univ (xC d i xv) ∗ bigSep Finset.univ (oDone d i xv z)
    ∗ iSlot d i xv false none ∗ iSlot d i xv true none ∗ oSlot d i xv z false none ∗ oSlot d i xv z true none)

/-- The chunks still to come, then the two last waits. -/
theorem rest_triple : ∀ (n : ℕ) (h : n ≤ 32), St d i xv z O W (32 - n) ⊢ wpT d i (seqP (rest i n h)) fun _ => End d i xv z O W
  | 0, h => by
    unfold St rest
    have h32 : pend 32 2 = some (30 : Fin 32) := by decide
    have h31 : pend 32 1 = some (31 : Fin 32) := by decide
    have h30 : pend 32 0 = none := by decide
    have hp : par 32 = false := rfl
    rw [Nat.sub_zero, h32, h31, h30, hp, from_past, from_end, below_end]
    unfold oSlot
    iintro ⟨#Hm, HO, -, Hx, -, Hod, Hi, Hi', Ho, Ho'⟩
    iapply (seq_cons d i (wait_triple (src := ovM false) (dst := oSl i 30) d i (O := O) (W := W) fullShare (outBlk z (xv 30)))) $$ [HO Ho]
    · isplitr; · iexact Hm
      isplitl [HO]; · iexact HO
      iexact Ho
    iintro ⟨HO, Hd, Hs, Hv⟩
    iapply (seq_cons d i (wait_triple (src := ovM true) (dst := oSl i 31) d i (O := O) (W := W) fullShare (outBlk z (xv 31)))) $$ [HO Ho']
    · isplitr; · iexact Hm
      isplitl [HO]; · iexact HO
      iexact Ho'
    iintro ⟨HO, Hd', Hs', Hv'⟩
    iapply (seq_nil d i _)
    unfold End oSlot
    isplitl [HO]; · iexact HO
    isplitl [Hx]; · iexact Hx
    isplitl [Hod Hd Hd']
    · rw [← below_end]
      have e1 := bigSep_below (F := F) 31 (oDone d i xv z)
      have e2 := bigSep_below (F := F) 30 (oDone d i xv z)
      rw [show (Finset.univ.filter fun s : Fin 32 => s.val < 32) = Finset.univ.filter fun s : Fin 32 => s.val < (31 : Fin 32).val + 1 from rfl, e1,
        show (Finset.univ.filter fun s : Fin 32 => s.val < (31 : Fin 32).val) = Finset.univ.filter fun s : Fin 32 => s.val < (30 : Fin 32).val + 1 from rfl, e2]
      unfold oDone
      isplitl [Hd']; · iexact Hd'
      isplitl [Hd]; · iexact Hd
      iexact Hod
    isplitl [Hi]; · iexact Hi
    isplitl [Hi']; · iexact Hi'
    isplitl [Hs Hv]
    · isplitl [Hs]
      · iapply (oGood_of d i z _ _); iexact Hs
      · iexact Hv
    · isplitl [Hs']
      · iapply (oGood_of d i z _ _); iexact Hs'
      · iexact Hv'
  | n + 1, h => by
    unfold rest
    have hr := rest_triple n (by omega)
    have e1 : St d i xv z O W (31 - n) = St d i xv z O W (32 - (n + 1)) := congrArg _ (by omega)
    have e2 : St d i xv z O W (31 - n + 1) = St d i xv z O W (32 - n) := congrArg _ (by omega)
    have hc : St d i xv z O W (32 - (n + 1)) ⊢ wpT d i (seqP (chunk i ⟨31 - n, by omega⟩)) fun _ => St d i xv z O W (32 - n) := by
      rw [← e1, ← e2]; exact chunk_triple d i xv z O W ⟨31 - n, by omega⟩
    iintro H
    iapply (seq_list d i hc) $$ H
    iintro H
    iapply hr; iexact H

/-- What a tile starts from: its chunks of the input, its chunks of the output at any words, two shares of the zeros, its
    buffers at any words and its semaphores at zero. -/
def Start (q q' : PosShare TreeShare) : sProp 𝕄 :=
  iprop(OW d i O W ∗ bigSep Finset.univ (xC d i xv) ∗ bigSep Finset.univ (oAny d i)
    ∗ at_ d i zM q z ∗ at_ d i zM q' z
    ∗ iFree d i false ∗ iFree d i true
    ∗ ((∃ g, at_ d i (ovM false) fullShare g) ∗ semVal (thr d i, .dma (osem false)) 0)
    ∗ ((∃ g, at_ d i (ovM true) fullShare g) ∗ semVal (thr d i, .dma (osem true)) 0)
    ∗ semVal (thr d i, .dma (zsem false)) 0 ∗ semVal (thr d i, .dma (zsem true)) 0)

/-- The tile's run: it ends with its input and the zeros as they were, and every chunk of its output the chunk of input
    scattered into zeros. -/
theorem run_triple (q q' : PosShare TreeShare) :
    iprop(MayWaits (thr d i) (none : HIx 1) O ∗ Start d i xv z O W q q')
      ⊢ wpT d i (seqP (stmts i)) fun _ => iprop(End d i xv z O W ∗ at_ d i zM q z ∗ at_ d i zM q' z
          ∗ semVal (thr d i, .dma (zsem false)) 0 ∗ semVal (thr d i, .dma (zsem true)) 0) := by
  unfold stmts Start iFree
  iintro ⟨#Hm, HO, Hx, Hod, Hz, Hz', ⟨Hi, Hsi⟩, Hi', ⟨Ho, Hso⟩, ⟨Ho', Hso'⟩, Hsz, Hsz'⟩
  simp only [List.cons_append, List.nil_append]
  iapply (seq_cons d i (start_triple (src := zM) (dst := ovM false) d i (by decide) q z)) $$ [Hz Ho Hsz]
  · isplitl [Hz]; · iexact Hz
    isplitl [Ho]; · iexact Ho
    iexact Hsz
  iintro Hz
  iapply (seq_cons d i (start_triple (src := zM) (dst := ovM true) d i (by decide) q' z)) $$ [Hz' Ho' Hsz']
  · isplitl [Hz']; · iexact Hz'
    isplitl [Ho']; · iexact Ho'
    iexact Hsz'
  iintro Hz'
  ihave Hx' := (Entails.of_eq (show bigSep Finset.univ (xC d i xv) = iprop(xC d i xv 0 ∗ bigSep (Finset.univ.filter fun s : Fin 32 => 0 + 1 ≤ s.val) (xC d i xv)) from by
    rw [← from_zero]; exact bigSep_from 0 _)) $$ Hx
  icases Hx' with ⟨Hx0, Hx⟩
  unfold xC
  iapply (seq_cons d i (start_triple (src := xSl i 0) (dst := ivM false) d i (by decide) fullShare (xv 0))) $$ [Hx0 Hi Hsi]
  · isplitl [Hx0]; · iexact Hx0
    isplitl [Hi]; · iexact Hi
    iexact Hsi
  iintro Hi
  iapply (seq_cons d i (wait_triple (src := zM) (dst := ovM false) d i (O := O) (W := W) q z)) $$ [HO Hz]
  · isplitr; · iexact Hm
    isplitl [HO]; · iexact HO
    iexact Hz
  iintro ⟨HO, Ho, Hz, Hsz⟩
  iapply (seq_cons d i (wait_triple (src := zM) (dst := ovM true) d i (O := O) (W := W) q' z)) $$ [HO Hz']
  · isplitr; · iexact Hm
    isplitl [HO]; · iexact HO
    iexact Hz'
  iintro ⟨HO, Ho', Hz', Hsz'⟩
  have hr := rest_triple d i xv z O W 32 (le_refl _)
  iapply (wp_wand _ _ _) $$ [Hm HO Hx Hod Hi Hi' Hso Hso' Ho Ho']
  · iapply hr
    rw [Nat.sub_self]
    unfold St
    rw [show pend 0 0 = some (0 : Fin 32) by decide, show pend 0 1 = none by decide, show pend 0 2 = none by decide,
      show par 0 = false from rfl, below_zero, from_zero, bigSep_empty, bigSep_empty]
    unfold iSlot oSlot oGood xC
    isplitr; · iexact Hm
    isplitl [HO]; · iexact HO
    isplitl [Hx]; · iexact Hx
    isplitr; · iempintro
    isplitl [Hod]; · iexact Hod
    isplitr; · iempintro
    isplitl [Hi]; · iexact Hi
    isplitl [Hi']; · unfold iFree; iexact Hi'
    isplitl [Ho Hso]
    · isplitl [Ho]
      · iexists z; isplitr
        · ipureintro; exact good_self z
        · iexact Ho
      · iexact Hso
    · isplitl [Ho']
      · iexists z; isplitr
        · ipureintro; exact good_self z
        · iexact Ho'
      · iexact Hso'
  iintro %_ H
  isplitl [H]; · iexact H
  isplitl [Hz]; · iexact Hz
  isplitl [Hz']; · iexact Hz'
  isplitl [Hsz]; · iexact Hsz
  iexact Hsz'

end Cert.Proof.Blades

end
-- ==== Proof.Pieces.lean ====
/-
  The arrays' pieces. Tile `s` of SparseCore `c` works on chunks `32 (2 s + c)` to `32 (2 s + c) + 31` of the flat input
  and of the flat output; the chunks are disjoint and together the whole of either array. Every tile reads all of the
  zeros, twice at the same time, so each takes two shares of that array.
-/
module

public import proofs.«01_k».proof.Proof.Tile

@[expose] public section

noncomputable section

namespace Cert.Proof.Blades

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 1) (Elt F) ℕ UU ℕ

/-- The flat input, the zeros and the flat output of device `d`. -/
abbrev xLoc (d : Dev nD) : Loc nD τ sig := (SparseCore.T d).loc main_v0
abbrev zLoc (d : Dev nD) : Loc nD τ sig := (SparseCore.T d).loc main_v1
abbrev oLoc (d : Dev nD) : Loc nD τ sig := (SparseCore.T d).loc main_v2

/-- The coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-! ## Where a chunk lies -/

/-- The number, over all tiles, of chunk `t` of the tile at `i`. -/
def num (i : grid0.Coords) (t : Fin 32) : ℕ := (2 * (i 1).val + (i 0).val) * 32 + t.val

/-- Chunk number `n` of the input starts at word `8192 n`; -/
theorem xOff_eq (i : grid0.Coords) (t : Fin 32) : xOff i t.val = ![8192 * num i t] := by
  obtain ⟨t, ht⟩ := t
  unfold num
  cases t with
  | zero =>
    show k0_off1 i = _
    rw [k0_off1_eq]; congr 1; dsimp only; omega
  | succ t =>
    refine (k0_off2_eq i ⟨t, by omega⟩).trans ?_
    congr 1; dsimp only; omega

/-- that of the output at word `32768 n`. -/
theorem oOff_eq (i : grid0.Coords) (t : Fin 32) : oOff i t.val = ![32768 * num i t] := by
  refine (k0_off11_eq i t).trans ?_
  unfold num; congr 1; omega

abbrev xSet (i : grid0.Coords) (t : Fin 32) : Finset S8388608.Idx := (xSl i t).view.set
abbrev oSet (i : grid0.Coords) (t : Fin 32) : Finset S33554432.Idx := (oSl i t).view.set

/-- The words of an input chunk, by its number. -/
theorem mem_xSet {i : grid0.Coords} {t : Fin 32} {p : S8388608.Idx} : p ∈ xSet i t ↔ (p 0).val / 8192 = num i t := by
  rw [show xSet i t = (Rect.unit (s := S8388608) (xOff i t.val) S8192.size (xOff_inb i t)).set from View.set_slice_whole _ _,
    Rect.mem_set_unit]
  constructor
  · intro h
    have h := h 0
    rw [xOff_eq] at h
    have h : 8192 * num i t ≤ (p 0).val ∧ (p 0).val < 8192 * num i t + 8192 := h
    omega
  · intro h a
    obtain rfl : a = 0 := Subsingleton.elim _ _
    rw [xOff_eq]
    show 8192 * num i t ≤ (p 0).val ∧ (p 0).val < 8192 * num i t + 8192
    omega

/-- The words of an output chunk, by its number. -/
theorem mem_oSet {i : grid0.Coords} {t : Fin 32} {p : S33554432.Idx} : p ∈ oSet i t ↔ (p 0).val / 32768 = num i t := by
  rw [show oSet i t = (Rect.unit (s := S33554432) (oOff i t.val) S32768.size (oOff_inb i t)).set from View.set_slice_whole _ _,
    Rect.mem_set_unit]
  constructor
  · intro h
    have h := h 0
    rw [oOff_eq] at h
    have h : 32768 * num i t ≤ (p 0).val ∧ (p 0).val < 32768 * num i t + 32768 := h
    omega
  · intro h a
    obtain rfl : a = 0 := Subsingleton.elim _ _
    rw [oOff_eq]
    show 32768 * num i t ≤ (p 0).val ∧ (p 0).val < 32768 * num i t + 32768
    omega

/-! ## The chunks are disjoint and all there is -/

/-- A SparseCore, a tile of it and a chunk of the tile. -/
abbrev Piece : Type := Fin 2 × Fin 16 × Fin 32

/-- A piece's number. -/
def pnum (k : Piece) : ℕ := num (coordsV k.1 k.2.1) k.2.2

/-- Different pieces have different numbers. -/
theorem pnum_inj {k k' : Piece} (h : pnum k = pnum k') : k = k' := by
  obtain ⟨c, s, t⟩ := k; obtain ⟨c', s', t'⟩ := k'
  have h : (2 * s.val + c.val) * 32 + t.val = (2 * s'.val + c'.val) * 32 + t'.val := h
  exact Prod.ext (Fin.ext (by dsimp only; omega)) (Prod.ext (Fin.ext (by dsimp only; omega)) (Fin.ext (by dsimp only; omega)))

/-- Every number below 1024 is a piece's. -/
theorem pnum_surj {n : ℕ} (h : n < 1024) : ∃ k, pnum k = n := by
  refine ⟨(⟨n / 32 % 2, by omega⟩, ⟨n / 64, by omega⟩, ⟨n % 32, by omega⟩), ?_⟩
  show (2 * (n / 64) + n / 32 % 2) * 32 + n % 32 = n
  omega

omit [FloatOps F] in
/-- An array whole is its pieces, piece after piece of tile after tile of SparseCore after SparseCore. -/
theorem pieces {ℓ : Loc nD τ sig} (K : Piece → Finset (Idx ℓ)) (n : Idx ℓ → ℕ) (hn : ∀ p, n p < 1024)
    (hK : ∀ k p, p ∈ K k ↔ n p = pnum k) (f : Buf (Elt F) ℓ) :
    (ℓ ↦{fullShare} f : sProp 𝕄)
      = bigSep Finset.univ fun c : Fin 2 => bigSep Finset.univ fun s : Fin 16 => bigSep Finset.univ fun t : Fin 32 =>
          ℓ ↦[K (c, s, t)]{fullShare} f := by
  have hc : (Finset.univ : Finset Piece).biUnion K = Finset.univ := by
    refine Finset.eq_univ_iff_forall.mpr fun p => ?_
    obtain ⟨k, hk⟩ := pnum_surj (hn p)
    exact Finset.mem_biUnion.mpr ⟨k, Finset.mem_univ _, (hK k p).mpr hk.symm⟩
  have hd : ∀ k ∈ (Finset.univ : Finset Piece), ∀ k' ∈ (Finset.univ : Finset Piece), k ≠ k' → Disjoint (K k) (K k') :=
    fun k _ k' _ h => Finset.disjoint_left.mpr fun p hp hp' => h (pnum_inj (((hK k p).mp hp).symm.trans ((hK k' p).mp hp')))
  have h : (ℓ ↦{fullShare} f : sProp 𝕄) = bigSep Finset.univ fun k : Piece => ℓ ↦[K k]{fullShare} f := by
    rw [← pointsTo_biUnion Finset.univ K hd, hc]
  rw [h, bigSep_univ_prod]
  exact bigSep_congr fun c _ => bigSep_univ_prod _

omit [FloatOps F] in
/-- The flat input is its chunks; -/
theorem x_pieces (d : Dev nD) (f : Buf (Elt F) (xLoc d)) :
    (xLoc d ↦{fullShare} f : sProp 𝕄)
      = bigSep Finset.univ fun c : Fin 2 => bigSep Finset.univ fun s : Fin 16 => bigSep Finset.univ fun t : Fin 32 =>
          xLoc d ↦[xSet (coordsV c s) t]{fullShare} f :=
  pieces (ℓ := xLoc d) (fun k => xSet (coordsV k.1 k.2.1) k.2.2) (fun p : S8388608.Idx => (p 0).val / 8192)
    (fun p => by have : (p 0).val < 8388608 := (p 0).isLt; dsimp only; omega) (fun _ _ => mem_xSet) f

omit [FloatOps F] in
/-- the flat output is its chunks. -/
theorem o_pieces (d : Dev nD) (f : Buf (Elt F) (oLoc d)) :
    (oLoc d ↦{fullShare} f : sProp 𝕄)
      = bigSep Finset.univ fun c : Fin 2 => bigSep Finset.univ fun s : Fin 16 => bigSep Finset.univ fun t : Fin 32 =>
          oLoc d ↦[oSet (coordsV c s) t]{fullShare} f :=
  pieces (ℓ := oLoc d) (fun k => oSet (coordsV k.1 k.2.1) k.2.2) (fun p : S33554432.Idx => (p 0).val / 32768)
    (fun p => by have : (p 0).val < 33554432 := (p 0).isLt; dsimp only; omega) (fun _ _ => mem_oSet) f

/-- The share of the zeros that copy `b` of tile `s` of SparseCore `c` reads. -/
def zq (c : Fin 2) (s : Fin 16) (b : Fin 2) : PosShare TreeShare := shareTok (shareTok (shareTok fullShare 2 c) 16 s) 2 b

omit [FloatOps F] in
/-- An array at a share is itself at `n` smaller shares. -/
theorem toks (ℓ : Loc nD τ sig) (q : PosShare TreeShare) (n : ℕ) (f : Buf (Elt F) ℓ) :
    (ℓ ↦{q} f : sProp 𝕄) ⊢ bigSep Finset.univ fun j : Fin n => ℓ ↦{shareTok q n j} f := by
  refine (pointsTo_toks_split q n).trans ?_
  iintro ⟨-, H⟩; iexact H

omit [FloatOps F] in
/-- The zeros dealt out to all tiles. -/
theorem z_deal (d : Dev nD) (f : Buf (Elt F) (zLoc d)) :
    (zLoc d ↦{fullShare} f : sProp 𝕄)
      ⊢ bigSep Finset.univ fun c : Fin 2 => bigSep Finset.univ fun s : Fin 16 =>
          iprop((zLoc d ↦{zq c s 0} f) ∗ zLoc d ↦{zq c s 1} f) := by
  refine (toks _ fullShare 2 f).trans (bigSep_mono fun c _ => (toks _ _ 16 f).trans (bigSep_mono fun s _ => (toks _ _ 2 f).trans ?_))
  rw [BI.bigSep_fin_two]
  exact .rfl

/-! ## The output -/

/-- Index number `n` of the flat input. -/
def ixX (n : ℕ) : S8388608.Idx := fun a => ⟨n % S8388608.size a, Nat.mod_lt _ (by revert a; decide)⟩

/-- The flat output made of the flat input `X`, the other words those of the zeros `Z`, chunk after chunk. -/
def outFn (X : Vec F S8388608 .f32) (Z : Vec F S32768 .f32) : Vec F S33554432 .f32 := fun p =>
  if Blade (p 0).val then X (ixX (src (p 0).val)) else Z (ix32768 (p 0).val)

/-- Where word `p` of an input chunk lies in the flat input. -/
theorem xEmb_val (i : grid0.Coords) (t : Fin 32) (p : S8192.Idx) (a : Fin 1) :
    ((xSl i t).view.emb p a).val = 8192 * num i t + (p 0).val := by
  obtain rfl : a = 0 := Subsingleton.elim _ _
  show xOff i t.val 0 + 1 * (p 0).val = _
  rw [xOff_eq, Nat.one_mul]; rfl
/-- Where word `p` of an output chunk lies in the flat output. -/
theorem oEmb_val (i : grid0.Coords) (t : Fin 32) (p : S32768.Idx) (a : Fin 1) :
    ((oSl i t).view.emb p a).val = 32768 * num i t + (p 0).val := by
  obtain rfl : a = 0 := Subsingleton.elim _ _
  show oOff i t.val 0 + 1 * (p 0).val = _
  rw [oOff_eq, Nat.one_mul]; rfl

/-- There are 1024 chunks. -/
theorem num_lt (i : grid0.Coords) (t : Fin 32) : num i t < 1024 := by
  have h1 : (i 1).val < 16 := (i 1).isLt
  have h0 : (i 0).val < 2 := (i 0).isLt
  unfold num; omega

/-- Chunk `t` of the flat output is the chunk made of chunk `t` of the flat input. -/
theorem read_outFn (i : grid0.Coords) (t : Fin 32) (X : Vec F S8388608 .f32) (Z : Vec F S32768 .f32) :
    (oSl i t).view.read (Elt F) (outFn X Z) = outBlk Z ((xSl i t).view.read (Elt F) X) := by
  funext p
  have hp : (p 0).val < 32768 := (p 0).isLt
  have hn := num_lt i t
  rw [View.read_apply, cast_eq]
  unfold outFn outBlk
  rw [show (((oSl i t).view.emb p) 0).val = 32768 * num i t + (p 0).val from oEmb_val i t p 0]
  by_cases hb : Blade (p 0).val
  · have hs : src (p 0).val < 8192 := src_lt (N := 2048) hb (by omega)
    rw [if_pos ((blade_chunk _ _).mpr hb), if_pos hb, View.read_apply, cast_eq, src_chunk]
    refine congrArg X (funext fun a => Fin.ext ?_)
    rw [xEmb_val]
    obtain rfl : a = 0 := Subsingleton.elim _ _
    show (8192 * num i t + src (p 0).val) % 8388608 = 8192 * num i t + src (p 0).val % 8192
    omega
  · rw [if_neg (fun h => hb ((blade_chunk _ _).mp h)), if_neg hb]
    refine congrArg Z (funext fun a => Fin.ext ?_)
    obtain rfl : a = 0 := Subsingleton.elim _ _
    show (32768 * num i t + (p 0).val) % 32768 = (p 0).val
    omega

end Cert.Proof.Blades

end
-- ==== Proof.Launch.lean ====
/-
  The tile's run as the call sees it. The call hands each SparseCore its tiles' pieces of the input, of the zeros and of
  the output; each tile gives back its pieces of the output, at the words `outFn` says.
-/
module

public import proofs.«01_k».proof.Proof.Pieces

@[expose] public section

noncomputable section

namespace Cert.Proof.Blades

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are distinct and not scoped. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

/-- The handshakes' rounds, the left factor of the algebra. -/
abbrev EH : Emb UH (MT nD τ sig (HIx 1) (Elt F) ℕ UU ℕ) := embL

/-- The call runs on two SparseCores, -/
theorem nCore_zero : (K (F := F)).nCore 0 = 2 := rfl
/-- on sixteen tiles of each. -/
theorem nSub_zero : (K (F := F)).nSub 0 = 16 := rfl

/-! ## What the call takes and brings back -/

variable (X : Dev nD → Vec F S8388608 .f32) (Z : Dev nD → Vec F S32768 .f32)

/-- What tile `s` of SparseCore `c` is handed: its chunks of the input, its chunks of the output at any contents, two
    shares of the zeros. -/
def goP (d : Dev nD) (c : Fin 2) (s : Fin 16) : sProp 𝕄 :=
  iprop((bigSep Finset.univ fun t : Fin 32 => xLoc d ↦[xSet (coordsV c s) t]{fullShare} (X d))
    ∗ (bigSep Finset.univ fun t : Fin 32 => iprop(∃ f, oLoc d ↦[oSet (coordsV c s) t]{fullShare} f))
    ∗ (zLoc d ↦{zq c s 0} (Z d)) ∗ zLoc d ↦{zq c s 1} (Z d))
/-- What it brings back: its chunks of the output, done. -/
def tdP (d : Dev nD) (c : Fin 2) (s : Fin 16) : sProp 𝕄 :=
  bigSep Finset.univ fun t : Fin 32 => oLoc d ↦[oSet (coordsV c s) t]{fullShare} (outFn (X d) (Z d))

/-- What the call's handshakes carry. -/
def P : (K (F := F)).Pay (nD := nD) (Val := Elt F) (Name := ℕ) (U := UU) where
  st := fun q d c => match q with | 0 => bigSep Finset.univ fun s : Fin 16 => goP X Z d (Fin.cast nCore_zero c) s
  dn := fun q d c => match q with | 0 => bigSep Finset.univ fun s : Fin 16 => tdP X Z d (Fin.cast nCore_zero c) s
  go := fun q d c i => match q with | 0 => goP X Z d (Fin.cast nCore_zero c) (Fin.cast nSub_zero i)
  td := fun q d c i => match q with | 0 => tdP X Z d (Fin.cast nCore_zero c) (Fin.cast nSub_zero i)
  x := fun _ _ => iprop(emp)

instance goP_storable (d : Dev nD) (c : Fin 2) (s : Fin 16) : BI.Storable (upEmb : UEmb _ 𝕄) (goP X Z d c s) := by
  unfold goP; infer_instance
instance tdP_storable (d : Dev nD) (c : Fin 2) (s : Fin 16) : BI.Storable (upEmb : UEmb _ 𝕄) (tdP X Z d c s) := by
  unfold tdP; infer_instance

instance P_storable : (P (F := F) X Z).IsStorable where
  st q d c := match q with
    | 0 => (inferInstance : BI.Storable (upEmb : UEmb _ 𝕄) (bigSep Finset.univ fun s : Fin 16 => goP X Z d (Fin.cast nCore_zero c) s))
  dn q d c := match q with
    | 0 => (inferInstance : BI.Storable (upEmb : UEmb _ 𝕄) (bigSep Finset.univ fun s : Fin 16 => tdP X Z d (Fin.cast nCore_zero c) s))
  go q d c i := match q with
    | 0 => goP_storable X Z d (Fin.cast nCore_zero c) (Fin.cast nSub_zero i)
  td q d c i := match q with
    | 0 => tdP_storable X Z d (Fin.cast nCore_zero c) (Fin.cast nSub_zero i)

/-- A SparseCore's part of the arrays is its tiles' parts, there and back. -/
theorem vecSplit : (K (F := F)).VecSplit' (P X Z) 0 := by
  intro d c
  show (bigSep Finset.univ fun s : Fin 16 => goP X Z d (Fin.cast nCore_zero c) s) ⊢ |={Set.univ}=> iprop(
      (bigSep Finset.univ fun s : Fin 16 => goP X Z d (Fin.cast nCore_zero c) s)
      ∗ ((bigSep Finset.univ fun s : Fin 16 => tdP X Z d (Fin.cast nCore_zero c) s)
          -∗ bigSep Finset.univ fun s : Fin 16 => tdP X Z d (Fin.cast nCore_zero c) s))
  iintro H; imodintro
  isplitl [H]; · iexact H
  iintro H; iexact H

/-! ## The tile's own buffers and semaphores -/

section Tile

variable [FloatOps F] (d : Dev nD) (i : grid0.Coords)

/-- The tile's six semaphores and four buffers. -/
abbrev sems : Finset (DmaSem sig) := {isem false, isem true, osem false, osem true, zsem false, zsem true}
abbrev refs : Finset (Ref sig .scVector) := {cc0_scratch0, cc0_scratch1, cc0_scratch2, cc0_scratch3}

/-- The tile's semaphores at zero are its six at zero and the others. -/
theorem ownSems : ∃ R : sProp 𝕄, (ownSems0 (thr d i) : sProp 𝕄)
    = iprop((semVal (thr d i, .dma (isem false)) 0 ∗ semVal (thr d i, .dma (isem true)) 0 ∗ semVal (thr d i, .dma (osem false)) 0
        ∗ semVal (thr d i, .dma (osem true)) 0 ∗ semVal (thr d i, .dma (zsem false)) 0 ∗ semVal (thr d i, .dma (zsem true)) 0) ∗ R) := by
  have hsub : sems.image (fun s => ((thr d i, .dma s) : GSem nD τ sig)) ⊆ ownCells (thr d i) := by
    intro g hg
    obtain ⟨s, hs, rfl⟩ := Finset.mem_image.mp hg
    have h : ∀ s ∈ sems, (SemLoc.dma s : SemLoc sig).isScoped .scVector = true := by decide
    exact mem_ownCells.mpr ⟨rfl, h s hs⟩
  have hinj : Set.InjOn (fun s => ((thr d i, .dma s) : GSem nD τ sig)) (sems : Set (DmaSem sig)) :=
    fun a _ b _ e => SemLoc.dma.inj (Prod.mk.inj e).2
  refine ⟨bigSep (ownCells (thr d i) \ sems.image fun s => ((thr d i, .dma s) : GSem nD τ sig)) fun g => semVal g 0, ?_⟩
  unfold SparseCore.Cfg.ownSems0
  rw [SparseCore.bigSep_sdiff_split' hsub, SparseCore.bigSep_image_of_injOn hinj]
  congr 1
  rw [SparseCore.bigSep_insert' (by decide), SparseCore.bigSep_insert' (by decide), SparseCore.bigSep_insert' (by decide),
    SparseCore.bigSep_insert' (by decide), SparseCore.bigSep_insert' (by decide), bigSep_singleton]

/-- A buffer of the tile at some contents. -/
def bufAny (r : Ref sig .scVector) : sProp 𝕄 := iprop(∃ f, (thr d i).loc r ↦{fullShare} f)

/-- The tile's buffers are its four and the others. -/
theorem ownBufs_eq : ∃ R : sProp 𝕄, (ownBufs (thr d i) : sProp 𝕄)
    = iprop((bufAny d i cc0_scratch0 ∗ bufAny d i cc0_scratch1 ∗ bufAny d i cc0_scratch2 ∗ bufAny d i cc0_scratch3) ∗ R) := by
  have hsub : refs.image (fun r => (thr d i).2.devRef r) ⊆ ownRefs (τ := τ) (thr d i).2 := by
    intro b hb
    obtain ⟨r, hr, rfl⟩ := Finset.mem_image.mp hb
    simp only [refs, Finset.mem_insert, Finset.mem_singleton] at hr
    rcases hr with rfl | rfl | rfl | rfl <;> exact SparseCore.Cfg.mem_ownRefs_of_owner rfl
  have hinj : Set.InjOn (fun r => (thr d i).2.devRef r) (refs : Set (Ref sig .scVector)) :=
    fun a _ b _ e => Proc.devRef_injective _ e
  refine ⟨bigSep (ownRefs (τ := τ) (thr d i).2 \ refs.image fun r => (thr d i).2.devRef r)
    fun b => iprop(∃ f, ((d, b) : Loc nD τ sig) ↦{fullShare} f), ?_⟩
  unfold SparseCore.Cfg.ownBufs
  rw [SparseCore.bigSep_sdiff_split' hsub, SparseCore.bigSep_image_of_injOn hinj]
  congr 1
  have h0 : (cc0_scratch0 : Ref sig .scVector) ∉ ({cc0_scratch1, cc0_scratch2, cc0_scratch3} : Finset (Ref sig .scVector)) := by decide
  have h1 : (cc0_scratch1 : Ref sig .scVector) ∉ ({cc0_scratch2, cc0_scratch3} : Finset (Ref sig .scVector)) := by decide
  have h2 : (cc0_scratch2 : Ref sig .scVector) ∉ ({cc0_scratch3} : Finset (Ref sig .scVector)) := by decide
  rw [SparseCore.bigSep_insert' h0, SparseCore.bigSep_insert' h1, SparseCore.bigSep_insert' h2, bigSep_singleton]
  rfl

/-- A whole buffer at some contents is a memref of it that reads something. -/
theorem ivAny : ∀ b, (iprop(∃ v, at_ d i (ivM b) fullShare v) : sProp 𝕄) = bufAny d i (match b with | false => cc0_scratch0 | true => cc0_scratch1) := by
  intro b
  refine BI.equiv_iff.mp ⟨show (_ : sProp 𝕄) ⊢ _ from ?_, show (_ : sProp 𝕄) ⊢ _ from ?_⟩ <;> cases b <;> unfold bufAny at_ <;> simp only [Memref.view_whole, View.set_whole]
  all_goals first
    | (iintro ⟨%v, %f, -, H⟩; iexists f; iexact H)
    | (iintro ⟨%f, H⟩; iexists _; iexists f; isplitr; · ipureintro; rfl
       iexact H)

/-- The same of an output buffer. -/
theorem ovAny : ∀ b, (iprop(∃ v, at_ d i (ovM b) fullShare v) : sProp 𝕄) = bufAny d i (match b with | false => cc0_scratch2 | true => cc0_scratch3) := by
  intro b
  refine BI.equiv_iff.mp ⟨show (_ : sProp 𝕄) ⊢ _ from ?_, show (_ : sProp 𝕄) ⊢ _ from ?_⟩ <;> cases b <;> unfold bufAny at_ <;> simp only [Memref.view_whole, View.set_whole]
  all_goals first
    | (iintro ⟨%v, %f, -, H⟩; iexists f; iexact H)
    | (iintro ⟨%f, H⟩; iexists _; iexists f; isplitr; · ipureintro; rfl
       iexact H)

/-! ## The pieces as memrefs -/

/-- A chunk of the input array, as the tile's memref. -/
theorem x_at (t : Fin 32) (f : Vec F S8388608 .f32) :
    (xLoc d ↦[xSet i t]{fullShare} f : sProp 𝕄) ⊢ at_ d i (xSl i t) fullShare ((xSl i t).view.read (Elt F) f) := by
  unfold at_
  iintro H; iexists f; isplitr
  · ipureintro; rfl
  · iexact H

/-- A chunk of the output array at any words, as the tile's memref. -/
theorem o_any (t : Fin 32) : (iprop(∃ f, oLoc d ↦[oSet i t]{fullShare} f) : sProp 𝕄) ⊢ oAny d i t := by
  unfold oAny at_
  iintro ⟨%f, H⟩
  iexists ((oSl i t).view.read (Elt F) f); iexists f; isplitr
  · ipureintro; rfl
  · iexact H

/-- A share of the zeros, as the tile's memref. -/
theorem z_at (q : PosShare TreeShare) (f : Vec F S32768 .f32) :
    (zLoc d ↦{q} f : sProp 𝕄) ⊢ at_ d i zM q f := by
  unfold at_
  simp only [Memref.view_whole, View.set_whole]
  iintro H; iexists f; isplitr
  · ipureintro; rfl
  · iexact H

/-- A chunk of the output that is done holds the chunk of the whole output `outFn`. -/
theorem o_done (t : Fin 32) (f : Vec F S8388608 .f32) (z : Vec F S32768 .f32) :
    oDone d i (fun t => (xSl i t).view.read (Elt F) f) z t ⊢ (oLoc d ↦[oSet i t]{fullShare} (outFn f z) : sProp 𝕄) := by
  unfold oDone at_
  iintro ⟨%g, %hg, H⟩
  have h : ∀ p ∈ oSet i t, g p = outFn f z p := by
    intro p hp
    obtain ⟨y, -, rfl⟩ := Finset.mem_map.mp hp
    have h := congrFun (hg.trans (read_outFn i t f z).symm) y
    rwa [View.read_apply, View.read_apply, cast_eq, cast_eq] at h
  ihave H := (Entails.of_eq (pointsTo_congr (ℓ := oLoc d) (q := fullShare) h)) $$ H
  iexact H

end Tile

end Cert.Proof.Blades

end
-- ==== Proof.Call.lean ====
/-
  The call: a tile's body from its pieces to its pieces, as the launch theorem asks for it, and @main around the call.
-/
module

public import proofs.«01_k».proof.Proof.Launch
public import Idealize.ShloMosaic.Lib.StableHlo.Run

@[expose] public section

noncomputable section

namespace Cert.Proof.Blades

open Cert.KernelIdeal Cert.KernelIdeal.Gen

open Idealize.ShloMosaic
open Idealize.ShloMosaic.SparseCore (S V T)
open Idealize.ShloMosaic.SparseCore.Cfg (HIx Pay ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.StableHlo (held held_split held_sdiff_result wp_hlo_within)

variable {F : FTy → Type} [FloatOps F]

local notation "𝕄" => MT nD τ sig (HIx 1) (Elt F) ℕ UU ℕ

variable (X : Dev nD → Vec F S8388608 .f32) (Z : Dev nD → Vec F S32768 .f32)

/-! ## A tile -/

section Tile

variable (d : Dev nD) (c : Fin 2) (s : Fin 16)

/-- What the chunks of the tile's input read. -/
def xv (i : grid0.Coords) (t : Fin 32) : Vec F S8192 .f32 := (xSl i t).view.read (Elt F) (X d)

/-- A tile's part of the input, chunk by chunk as the tile's memrefs. -/
theorem x_all : (bigSep Finset.univ fun t : Fin 32 => xLoc d ↦[xSet (coordsV c s) t]{fullShare} (X d) : sProp 𝕄)
    ⊢ bigSep Finset.univ (xC d (coordsV c s) (xv X d (coordsV c s))) := bigSep_mono fun t _ => x_at d _ t (X d)
/-- A tile's part of the output at any words, chunk by chunk as the tile's memrefs. -/
theorem o_all : (bigSep Finset.univ fun t : Fin 32 => iprop(∃ f, oLoc d ↦[oSet (coordsV c s) t]{fullShare} f) : sProp 𝕄)
    ⊢ bigSep Finset.univ (oAny d (coordsV c s)) := bigSep_mono fun t _ => o_any d _ t
/-- The tile's output chunks done are what the tile brings back. -/
theorem done_all : (bigSep Finset.univ (oDone d (coordsV c s) (xv X d (coordsV c s)) (Z d)) : sProp 𝕄) ⊢ tdP X Z d c s :=
  bigSep_mono fun t _ => o_done d _ t (X d) (Z d)

/-- A tile's body: from what the call hands it to what it brings back, its buffers at any contents and its semaphores at
    zero before and after. -/
theorem tile_body (O : CellTallies nD τ sig (HIx 1)) (W : Waits sig (HIx 1)) (hO : ∀ g, O g none = 0) :
    iprop(levAts (K (F := F)).L (K (F := F)).lev ∗ emp ∗ goP X Z d c s
        ∗ scopedBufs (thr d (coordsV c s)) ∗ scopedSems0 (thr d (coordsV c s)) ∗ owes (thr d (coordsV c s)) O W)
      ⊢ wp frame (wpE (defs₀ (F := F)) 𝒱₀ (thr d (coordsV c s)) none) Set.univ
          (cc0__body (F := F) (coordsV c s) xM (Memref.isWhole_whole _) zM (Memref.isWhole_whole _) oM (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 cc0_scratch8 cc0_scratch9)
          fun _ => iprop(tdP X Z d c s ∗ scopedBufs (thr d (coordsV c s)) ∗ scopedSems0 (thr d (coordsV c s))
            ∗ ∃ W', ⌜∀ p ∈ W', p ∈ W ∨ p.2 = none⌝ ∗ owes (thr d (coordsV c s)) O W') := by
  obtain ⟨RS, hRS⟩ := ownSems (F := F) d (coordsV c s)
  obtain ⟨RB, hRB⟩ := ownBufs_eq (F := F) d (coordsV c s)
  rw [body_eq, (K (F := F)).scopedBufs_V facts d _ _, SparseCore.Cfg.scopedSems0_V (Val := Elt F) d _ _]
  unfold thr at hRS hRB
  rw [hRS, hRB]
  unfold goP
  iintro ⟨#Hlv, -, ⟨Hx, Ho, Hz, Hz'⟩, ⟨⟨Hi0, Hi1, Ho0, Ho1⟩, HRB⟩, ⟨⟨Hs0, Hs1, Ht0, Ht1, Hu0, Hu1⟩, HRS⟩, HO⟩
  ihave Hm := ((K (F := F)).mayWaits_none (thr := thr d (coordsV c s)) hO) $$ Hlv
  ihave Hx := (x_all X d c s) $$ Hx
  ihave Ho := (o_all d c s) $$ Ho
  ihave Hz := (z_at d (coordsV c s) (zq c s 0) (Z d)) $$ Hz
  ihave Hz' := (z_at d (coordsV c s) (zq c s 1) (Z d)) $$ Hz'
  ihave Hi0 := (Entails.of_eq (ivAny d (coordsV c s) false).symm) $$ Hi0
  ihave Hi1 := (Entails.of_eq (ivAny d (coordsV c s) true).symm) $$ Hi1
  ihave Ho0 := (Entails.of_eq (ovAny d (coordsV c s) false).symm) $$ Ho0
  ihave Ho1 := (Entails.of_eq (ovAny d (coordsV c s) true).symm) $$ Ho1
  ihave H := (run_triple d (coordsV c s) (xv X d (coordsV c s)) (Z d) O W (zq c s 0) (zq c s 1))
    $$ [Hm Hx Ho Hz Hz' Hi0 Hi1 Ho0 Ho1 Hs0 Hs1 Ht0 Ht1 Hu0 Hu1 HO]
  · isplitl [Hm]; · iexact Hm
    unfold Start OW iFree
    isplitl [HO]
    · iexists W; isplitr
      · ipureintro; exact fun p hp => .inl hp
      · iexact HO
    isplitl [Hx]; · iexact Hx
    isplitl [Ho]; · iexact Ho
    isplitl [Hz]; · iexact Hz
    isplitl [Hz']; · iexact Hz'
    isplitl [Hi0 Hs0]
    · isplitl [Hi0]; · iexact Hi0
      iexact Hs0
    isplitl [Hi1 Hs1]
    · isplitl [Hi1]; · iexact Hi1
      iexact Hs1
    isplitl [Ho0 Ht0]
    · isplitl [Ho0]; · iexact Ho0
      iexact Ht0
    isplitl [Ho1 Ht1]
    · isplitl [Ho1]; · iexact Ho1
      iexact Ht1
    isplitl [Hu0]; · iexact Hu0
    iexact Hu1
  iapply (wp_wand _ _ _) $$ H
  unfold End iSlot oSlot iFree oGood
  iintro %_ ⟨⟨HO, -, Ho, ⟨Hi0, Hs0⟩, ⟨Hi1, Hs1⟩, ⟨⟨%g0, -, Ho0⟩, Ht0⟩, ⟨%g1, -, Ho1⟩, Ht1⟩, -, -, Hu0, Hu1⟩
  isplitl [Ho]
  · iapply (done_all X Z d c s); iexact Ho
  isplitl [Hi0 Hi1 Ho0 Ho1 HRB]
  · isplitr [HRB]
    · isplitl [Hi0]; · iapply (Entails.of_eq (ivAny d (coordsV c s) false)); iexact Hi0
      isplitl [Hi1]; · iapply (Entails.of_eq (ivAny d (coordsV c s) true)); iexact Hi1
      isplitl [Ho0]; · iapply (Entails.of_eq (ovAny d (coordsV c s) false)); iexists g0; iexact Ho0
      iapply (Entails.of_eq (ovAny d (coordsV c s) true)); iexists g1; iexact Ho1
    · iexact HRB
  isplitr [HO]
  · isplitr [HRS]
    · isplitl [Hs0]; · iexact Hs0
      isplitl [Hs1]; · iexact Hs1
      isplitl [Ht0]; · iexact Ht0
      isplitl [Ht1]; · iexact Ht1
      isplitl [Hu0]; · iexact Hu0
      iexact Hu1
    · iexact HRS
  unfold OW; iexact HO

end Tile

/-- What a tile runs at the call: the kernel's body at the tile's coordinates. -/
theorem defs₀_vector (c : Fin τ.nSC) (s : Fin τ.nSub) :
    defs₀ (F := F) (.scVector c s) 0 ()
      = SparseCore.onTile hcore0 hsub0 (fun c s => cc0__body (F := F) (coordsV c s) xM (Memref.isWhole_whole _) zM (Memref.isWhole_whole _) oM (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scratch6 cc0_scratch7 cc0_scratch8 cc0_scratch9) ⟨⟩ c s := rfl

/-- Every tile of the call runs as the launch asks. -/
theorem tileObl : (K (F := F)).TileObl (D (F := F)) 𝒱 (P X Z) v₀ 0 := by
  intro d c i O W hO _ _
  -- the kernel owes nothing for a protocol of its own
  simp only [show (P X Z).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  refine (tile_body X Z d ⟨_, hc.1⟩ ⟨_, hc.2⟩ O W hO).trans (wp_mono frame _ _ fun _ => show (_ : sProp 𝕄) ⊢ _ from ?_)
  -- the waits recorded are all the body's own
  iintro ⟨Htd, Hbufs, Hsems, %W', %h, HO⟩
  isplitl [Htd]
  · iapply (show tdP X Z d ⟨_, hc.1⟩ ⟨_, hc.2⟩ ⊢ (P X Z).td 0 d c i from .rfl); iexact Htd
  isplitl [Hbufs]; · iexact Hbufs
  isplitl [Hsems]; · iexact Hsems
  iexists W'; isplitr
  · ipureintro; intro w hw
    rcases h w hw with h | h
    · exact .inl h
    · exact .inr (.inl h)
  iexact HO

end Cert.Proof.Blades

end
-- ==== Proof.Main.lean ====
/-
  @main around the call, and the whole program's run: the input is as it was, the result is the reshape of the flat
  output, and every semaphore is back at zero.
-/
module

public import proofs.«01_k».proof.Proof.Call

@[expose] public section

noncomputable section

namespace Cert.Proof.Blades

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

/-! ## The TensorCore's arrays and operations -/

abbrev aLoc (d : Dev nD) : Loc nD τ sig := (SparseCore.T d).loc main_arg0
abbrev cLoc (d : Dev nD) : Loc nD τ sig := (SparseCore.T d).loc main_cst
abbrev rLoc (d : Dev nD) : Loc nD τ sig := (SparseCore.T d).loc main_v3

abbrev a' : DevRef τ sig := Proc.devRef .tc (main_arg0 : Ref sig .tc)
abbrev x' : DevRef τ sig := Proc.devRef .tc (main_v0 : Ref sig .tc)
abbrev c' : DevRef τ sig := Proc.devRef .tc (main_cst : Ref sig .tc)
abbrev z' : DevRef τ sig := Proc.devRef .tc (main_v1 : Ref sig .tc)
abbrev o' : DevRef τ sig := Proc.devRef .tc (main_v2 : Ref sig .tc)
abbrev r' : DevRef τ sig := Proc.devRef .tc (main_v3 : Ref sig .tc)

abbrev opFlat : HloOp τ sig (Elt F) := StableHlo.reshape main_arg0 main_v0 (rfl : (.f32 : EltTy) = .f32) shapeCasts_S4096x512x4_S8388608
abbrev opZero [FloatOps F] : HloOp τ sig (Elt F) := StableHlo.nullary main_cst (constant S_ .f32 0x00000000#32)
abbrev opZeros : HloOp τ sig (Elt F) :=
  StableHlo.unary main_cst main_v1 (broadcastInDim S32768 ![] bcast_S_S32768 : (⟨S_, .f32⟩ : BufTy).Contents (Elt F) → (⟨S32768, .f32⟩ : BufTy).Contents (Elt F))
abbrev opFold : HloOp τ sig (Elt F) := StableHlo.reshape main_v2 main_v3 (rfl : (.f32 : EltTy) = .f32) shapeCasts_S33554432_S4096x512x16

/-- The TensorCore's six arrays; those of the operation after the call. -/
abbrev S6 : Finset (DevRef τ sig) := {a', x', c', z', o', r'}
abbrev S2 : Finset (DevRef τ sig) := {o', r'}

/-- The six arrays held, one by one. -/
theorem held_S6 (d : Dev nD) (W : Valuation τ sig (Elt F)) :
    (held (T d) S6 W : sProp 𝕄) = iprop((aLoc d ↦{fullShare} W a') ∗ (xLoc d ↦{fullShare} W x') ∗ (cLoc d ↦{fullShare} W c')
      ∗ (zLoc d ↦{fullShare} W z') ∗ (oLoc d ↦{fullShare} W o') ∗ rLoc d ↦{fullShare} W r') := by
  unfold held S6
  rw [SparseCore.bigSep_insert' (by decide), SparseCore.bigSep_insert' (by decide), SparseCore.bigSep_insert' (by decide),
    SparseCore.bigSep_insert' (by decide), SparseCore.bigSep_insert' (by decide), bigSep_singleton]

/-- The two arrays held, one by one. -/
theorem held_S2 (d : Dev nD) (W : Valuation τ sig (Elt F)) :
    (held (T d) S2 W : sProp 𝕄) = iprop((oLoc d ↦{fullShare} W o') ∗ rLoc d ↦{fullShare} W r') := by
  unfold held S2
  rw [SparseCore.bigSep_insert' (by decide), bigSep_singleton]

/-- The TensorCore's arrays at the launch are the six. -/
theorem unscopedBufs_eq (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_v0) ∗ (cLoc d ↦{fullShare} W main_cst)
      ∗ (zLoc d ↦{fullShare} W main_v1) ∗ (oLoc d ↦{fullShare} W main_v2) ∗ rLoc d ↦{fullShare} W main_v3) := by
  unfold unscopedBufs
  rw [show (Finset.univ.filter fun b : Ref sig .tc => ¬ b.isScoped) = {main_arg0, main_v0, main_cst, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- What the arrays hold at the launch; -/
def V0 (d : Dev nD) : Valuation τ sig (Elt F) := fun b => m (d, b)

/-- They are held at the launch's contents. -/
theorem unscoped_held (d : Dev nD) : (unscopedBufs d (fun b => m ((SparseCore.T d).loc b)) : sProp 𝕄) = held (T d) S6 (V0 m d) := by
  rw [unscopedBufs_eq, held_S6]; rfl

/-- Each operation's arrays are among those held for it. -/
theorem hFlat : (opFlat (F := F)).bufs ⊆ S6 := show ({a', x'} : Finset (DevRef τ sig)) ⊆ S6 by decide
theorem hZeros : (opZeros (F := F)).bufs ⊆ S6 := show ({c', z'} : Finset (DevRef τ sig)) ⊆ S6 by decide
theorem hFold : (opFold (F := F)).bufs ⊆ S2 := show ({o', r'} : Finset (DevRef τ sig)) ⊆ S2 by decide

variable [FloatOps F]

theorem hZero : (opZero (F := F)).bufs ⊆ S6 := show ({c'} : Finset (DevRef τ sig)) ⊆ S6 by decide

/-- when the call is made; -/
def V3 (d : Dev nD) : Valuation τ sig (Elt F) := opZeros.result (opZero.result (opFlat.result (V0 m d)))

/-- The flat input and the zeros. -/
def flat (d : Dev nD) : Vec F S8388608 .f32 := V3 m d x'
def zeros (d : Dev nD) : Vec F S32768 .f32 := V3 m d z'

/-- after the call; and at the end. -/
def V4 (d : Dev nD) : Valuation τ sig (Elt F) := Function.update (V3 m d) o' (outFn (flat m d) (zeros m d))
def V5 (d : Dev nD) : Valuation τ sig (Elt F) := opFold.result (V4 m d)

/-- The program's result. -/
def result (d : Dev nD) : Vec F S4096x512x16 .f32 := V5 m d r'

/-- The call finds the input as it was. -/
theorem V3_a (d : Dev nD) : V3 m d a' = m (aLoc d) := by
  unfold V3
  rw [HloOp.result_of_not_mem _ _ (show a' ∉ ({z'} : Finset (DevRef τ sig)) by decide),
    HloOp.result_of_not_mem _ _ (show a' ∉ ({c'} : Finset (DevRef τ sig)) by decide),
    HloOp.result_of_not_mem _ _ (show a' ∉ ({x'} : Finset (DevRef τ sig)) by decide)]
  rfl
/-- After the call the flat output holds `outFn`, -/
theorem V4_o (d : Dev nD) : V4 m d o' = outFn (flat m d) (zeros m d) := Function.update_self _ _ _
/-- and the other arrays what they held. -/
theorem V4_ne (d : Dev nD) {b : DevRef τ sig} (h : b ≠ o') : V4 m d b = V3 m d b := Function.update_of_ne h _ _

/-! ## What the call takes and brings back -/

/-- The flat output, cut into the tiles' chunks at any words. -/
theorem o_start (d : Dev nD) (f : Buf (Elt F) (oLoc d)) :
    (oLoc d ↦{fullShare} f : sProp 𝕄)
      ⊢ bigSep Finset.univ fun c : Fin 2 => bigSep Finset.univ fun s : Fin 16 => bigSep Finset.univ fun t : Fin 32 =>
          iprop(∃ f, oLoc d ↦[oSet (coordsV c s) t]{fullShare} f) := by
  rw [o_pieces d f]
  refine bigSep_mono fun c _ => bigSep_mono fun s _ => bigSep_mono fun t _ => show (_ : sProp 𝕄) ⊢ _ from ?_
  iintro H; iexists f; iexact H

/-- The call's arrays, dealt out to the SparseCores. -/
theorem st0 (d : Dev nD) (f : Buf (Elt F) (oLoc d)) :
    iprop((xLoc d ↦{fullShare} flat m d) ∗ (oLoc d ↦{fullShare} f) ∗ zLoc d ↦{fullShare} zeros m d)
      ⊢ (bigSep Finset.univ fun c : Fin ((K (F := F)).nCore 0) => (P (flat m) (zeros m)).st 0 d c : sProp 𝕄) := by
  show _ ⊢ bigSep (Finset.univ : Finset (Fin 2)) fun c => bigSep Finset.univ fun s : Fin 16 => goP (flat m) (zeros m) d c s
  unfold goP
  simp only [bigSep_sep']
  iintro ⟨Hx, Ho, Hz⟩
  isplitl [Hx]
  · iapply (Entails.of_eq (x_pieces d (flat m d))); iexact Hx
  isplitl [Ho]
  · iapply (o_start d f); iexact Ho
  ihave Hz := (z_deal d (zeros m d)) $$ Hz
  ihave Hz := (Entails.of_eq (show (bigSep Finset.univ fun c : Fin 2 => bigSep Finset.univ fun s : Fin 16 =>
      iprop((zLoc d ↦{zq c s 0} zeros m d) ∗ zLoc d ↦{zq c s 1} zeros m d) : sProp 𝕄) = _ from by
    simp only [bigSep_sep']; rfl)) $$ Hz
  iexact Hz

/-- What the SparseCores bring back is the whole flat output. -/
theorem dn0 (d : Dev nD) :
    (bigSep Finset.univ fun c : Fin ((K (F := F)).nCore 0) => (P (flat m) (zeros m)).dn 0 d c : sProp 𝕄)
      = oLoc d ↦{fullShare} outFn (flat m d) (zeros m d) :=
  (o_pieces d (outFn (flat m d) (zeros m d))).symm

/-! ## The launch element: the handshakes' rounds; nothing of the kernel's own -/

/-- The launch's ghost state: the handshakes' rounds. -/
def u₀ : UU := (initOf (K (F := F)).hsCells (K (F := F)).hsToks, 1)

/-- It funds the handshakes. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P (flat m) (zeros m)).x q thr) := by
  unfold u₀
  iintro Hu
  ihave H := (ownU_pair _ _) $$ Hu
  icases H with ⟨HH, -⟩
  imodintro
  isplitl [HH]; · iexact HH
  isplitr; · iapply (Entails.of_eq (bigSep_emp_const (M := 𝕄) _).symm); iempintro
  unfold P; dsimp only
  rw [show (bigSep Finset.univ fun _ : Thread nD τ => bigSep Finset.univ fun _ : Fin 1 => (iprop(emp) : sProp 𝕄)) = iprop(emp) from by
    exact (bigSep_congr fun _ _ => bigSep_emp_const _).trans (bigSep_emp_const _)]
  iempintro

/-! ## @main -/

/-- What @main leaves the claim: the input at its launch contents and the result. -/
abbrev FIN (d : Dev nD) : sProp 𝕄 := iprop((aLoc d ↦{fullShare} m (aLoc d)) ∗ rLoc d ↦{fullShare} result m d)

/-- @main on device `d`'s TensorCore. -/
theorem hmain (κ : GSem nD τ sig → ℕ) (d : Dev nD) :
    iprop((K (F := F)).ctx EH (P (flat m) (zeros m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opFlat) (S := S6) hFlat (V := V0 m d)) $$ [Hb Hheld]
  · isplitl [Hb] <;> iassumption
  iintro ⟨Hb, Hheld⟩
  rw [wp_ret]; imodintro
  iapply (wp_hlo_within 𝒱 (SparseCore.T d) none Set.univ (op := opZero) (S := S6) hZero (V := opFlat.result (V0 m d))) $$ [Hb Hheld]
  · isplitl [Hb] <;> iassumption
  iintro ⟨Hb, Hheld⟩
  rw [wp_ret]; imodintro
  iapply (wp_hlo_within 𝒱 (SparseCore.T d) none Set.univ (op := opZeros) (S := S6) hZeros (V := opZero.result (opFlat.result (V0 m d)))) $$ [Hb Hheld]
  · isplitl [Hb] <;> iassumption
  iintro ⟨Hb, Hheld⟩
  rw [wp_ret]; imodintro
  ihave Hh := (Entails.of_eq (show held (T d) S6 (opZeros.result (opZero.result (opFlat.result (V0 m d)))) = _ from held_S6 (F := F) d (V3 m d))) $$ Hheld
  icases Hh with ⟨Ha, Hx, -, Hz, Ho, Hr⟩
  -- the call
  iapply ((K (F := F)).wp_run (D (F := F)) 𝒱 (EH := EH) (P := P (flat m) (zeros m)) κ d 0) $$ [Hst Ha Hx Hz Ho Hr Hb Hts]
  isplitr; · iexact Hctx
  isplitl [Hst]; · iexact Hst
  isplitl [Hx Ho Hz]
  · iapply (st0 m d (V3 m d o'))
    isplitl [Hx]; · iexact Hx
    isplitl [Ho]; · iexact Ho
    iexact Hz
  iintro ⟨Hst, Hdn⟩
  ihave Ho := (Entails.of_eq (dn0 m d)) $$ Hdn
  -- the result folded out of the flat output
  iapply (wp_hlo_within 𝒱 (SparseCore.T d) none Set.univ (op := opFold) (S := S2) hFold (V := V4 m d)) $$ [Hb Ho Hr]
  · isplitl [Hb]; · iexact Hb
    rw [held_S2, V4_o, V4_ne m d (show r' ≠ o' by decide)]
    isplitl [Ho]; · iexact Ho
    iexact Hr
  iintro ⟨Hb, Hheld⟩
  ihave Hh := (Entails.of_eq (show held (T d) S2 (opFold.result (V4 m d)) = _ from held_S2 (F := F) d (V5 m d))) $$ Hheld
  icases Hh with ⟨-, Hr⟩
  rw [wp_ret]; imodintro; imodintro
  isplitl [Hst]; · iexact Hst
  isplitr [Hb Hts]
  · isplitl [Ha]
    · iapply (Entails.of_eq (congrArg (fun f => (aLoc d ↦{fullShare} f : sProp 𝕄)) (V3_a m d))); iexact Ha
    · iexact Hr
  isplitl [Hb] <;> iassumption

/-- Device `d` ends with its input as it was and the result in the result's array. -/
def fq (d : Dev nD) (s' : Phys nD τ sig (Elt F)) : Prop := s'.mem.mem (aLoc d) = m (aLoc d) ∧ s'.mem.mem (rLoc d) = result m d

/-- What @main holds at its end shows it. -/
theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare) (f := result m d)) $$ [HSI Hr]
  · isplitl [HSI] <;> iassumption
  icases H with %h2
  ipureintro; exact ⟨funext fun i => h1 i (Finset.mem_univ i), funext fun i => h2 i (Finset.mem_univ i)⟩

/-! ## The program's run -/

/-- On every device the input is as it was and the result's array holds `result`; every semaphore is at zero. -/
def QC : PUnit × MemSt nD τ sig (Elt F) → Prop := fun r =>
  (∀ c : Dev nD, r.2.mem (aLoc c) = m (aLoc c) ∧ r.2.mem (rLoc c) = result m c) ∧ r.2.sem = fun _ => 0

/-- Every weakly fair execution ends, nothing faulting, with the input as it was, `result` in the result's array and every
    semaphore at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (flat m) (zeros m)) (A := ∅) facts v₀
    (fun q hq => match q with | 0 => nomatch hq)
    (fun q _ => match q with | 0 => tileObl (flat m) (zeros m))
    (fun q _ => match q with | 0 => SparseCore.Cfg.VecSplit.of_plain (vecSplit (flat m) (zeros m)))
    m ρ main (fun _ => iprop(emp)) (FIN m) (u₀ (F := F)) (sep_elim_left.trans (hu₀ m)) (hmain m ρ) (fq m) (hfin m) (QC m) (fun _ h hz => ⟨h, hz⟩)

end Cert.Proof.Blades

end
-- ==== Proof.Result.lean ====
/-
  What the program's result is, word by word: words 1 to 4 of each row of sixteen are the four input words of that row,
  the others are zero.
-/
module

public import proofs.«01_k».proof.Proof.Main
public import Idealize.ShloMosaic.Lib.Pipeline.Value

@[expose] public section

noncomputable section

namespace Cert.Proof.Blades

open Cert.KernelIdeal Cert.KernelIdeal.Gen

open Idealize.ShloMosaic
open Idealize.ShloMosaic.SparseCore (S V T)

variable {F : FTy → Type} [FloatOps F]

/-- Row `(p, q)` of the input, at word `l`. -/
def ixA (p : S4096x512x16.Idx) (l : Fin 4) : S4096x512x4.Idx := fun
  | 0 => (p 0 : Fin 4096) | 1 => (p 1 : Fin 512) | 2 => l | ⟨_ + 3, h⟩ => absurd h (by simp)

/-- The rows of sixteen made of the rows of four `a`. -/
def bladed (a : Vec F S4096x512x4 .f32) : Vec F S4096x512x16 .f32 := fun p =>
  if h : 1 ≤ (p 2).val ∧ (p 2).val ≤ 4 then a (ixA p ⟨(p 2).val - 1, by omega⟩) else FloatOps.ofBits .f32 0x00000000#32

variable (m : (ℓ : Loc nD τ sig) → Buf (Elt F) ℓ) (d : Dev nD)

/-- The kernel's flat input is the input reshaped. -/
theorem flat_eq : flat m d = shapeCast S8388608 (m (aLoc d) : Vec F S4096x512x4 .f32) shapeCasts_S4096x512x4_S8388608 := by
  unfold flat V3
  rw [HloOp.result_of_not_mem _ _ (show x' ∉ ({z'} : Finset (DevRef τ sig)) by decide),
    HloOp.result_of_not_mem _ _ (show x' ∉ ({c'} : Finset (DevRef τ sig)) by decide)]
  exact StableHlo.reshape_result _ _ _ _ _ _ _

/-- The array of zeros holds zeros. -/
theorem zeros_eq (p : S32768.Idx) : zeros m d p = FloatOps.ofBits .f32 0x00000000#32 := by
  unfold zeros V3
  rw [show (opZeros (F := F)).result (opZero.result (opFlat.result (V0 m d))) z' = _ from StableHlo.unary_result _ _ _ _ _ _,
    show (opZero (F := F)).result (opFlat.result (V0 m d)) (Proc.devRef .tc main_cst) = _ from StableHlo.nullary_result _ _ _ _]
  rfl

/-- The result is the flat output reshaped. -/
theorem result_flat : result m d = shapeCast S4096x512x16 (outFn (flat m d) (zeros m d)) shapeCasts_S33554432_S4096x512x16 := by
  unfold result V5
  rw [show (opFold (F := F)).result (V4 m d) r' = _ from StableHlo.reshape_result _ _ _ _ _ _ _]
  show shapeCast _ (V4 m d o') _ = _
  rw [V4_o]
  rfl

/-- Index number `n` of the flat output. -/
def ixO (n : ℕ) : S33554432.Idx := fun a => ⟨n % S33554432.size a, Nat.mod_lt _ (by revert a; decide)⟩

/-- The result is the rows of sixteen made of the input. -/
theorem result_eq : result m d = bladed (m (aLoc d)) := by
  funext p
  have h0 : (p 0).val < 4096 := (p 0).isLt
  have h1 : (p 1).val < 512 := (p 1).isLt
  have h2 : (p 2).val < 16 := (p 2).isLt
  have ho : ((ixO (((p 0).val * 512 + (p 1).val) * 16 + (p 2).val)) 0).val = ((p 0).val * 512 + (p 1).val) * 16 + (p 2).val :=
    Nat.mod_eq_of_lt (by show _ < 33554432; omega)
  have hrow : (S33554432.rowMajor (ixO (((p 0).val * 512 + (p 1).val) * 16 + (p 2).val))).val = (S4096x512x16.rowMajor p).val := by
    rw [Shape.rowMajor_val_one, Shape.rowMajor_val_three]; exact ho
  rw [result_flat, shapeCast_apply _ _ p _ hrow]
  unfold outFn bladed
  rw [ho]
  by_cases hb : 1 ≤ (p 2).val ∧ (p 2).val ≤ 4
  · rw [dif_pos hb, if_pos (by unfold Blade; omega), flat_eq]
    refine shapeCast_apply _ _ _ _ ?_
    rw [Shape.rowMajor_val_one]
    refine (Shape.rowMajor_val_three (d := ![4096, 512, 4]) (ixA p ⟨(p 2).val - 1, by omega⟩)).trans ?_
    show ((p 0).val * 512 + (p 1).val) * 4 + ((p 2).val - 1) = src (((p 0).val * 512 + (p 1).val) * 16 + (p 2).val) % 8388608
    unfold src
    omega
  · rw [dif_neg hb, if_neg (by unfold Blade; omega), zeros_eq]

end Cert.Proof.Blades

end
-- ==== Proof.Reference.lean ====
/-
  What the reference's scatter is, word by word: update `(p, q, l)` lands at word `l + 1` of row `(p, q)`, so the result is
  the same rows of sixteen that the kernel makes.
-/
module

public import proofs.«01_k».proof.Proof.Result
public import proofs.«01_k».proof.Proof.Gen.ReferenceIdeal.Run
public import Idealize.ShloMosaic.Lib.Routing.OpsSet
public import Idealize.ShloMosaic.Lib.Routing.OpsPair

@[expose] public section

noncomputable section

namespace Cert.Proof.Reference

open Cert.ReferenceIdeal Cert.ReferenceIdeal.Gen

open Idealize.ShloMosaic Idealize.ShloMosaic.Routing
open Cert.Proof.Blades (bladed ixA)

variable {F : FTy → Type} [FloatOps F]

/-- The columns `1, 2, 3, 4`, as the reference computes them. -/
abbrev cols : IVec S4x1 32 :=
  broadcastInDim S4x1 ![0] bcast_S4_S4x1_0 (select (cmpi .slt ((fun i => lit0 (S4.rowMajor i))) (broadcastInDim S4 ![] bcast_S_S4 (constantI S_ 32 0#32)))
    (addi ((fun i => lit0 (S4.rowMajor i))) (broadcastInDim S4 ![] bcast_S_S4 (constantI S_ 32 16#32))) ((fun i => lit0 (S4.rowMajor i))))

/-- Column number `l` is `l + 1`. -/
theorem cols_toInt (x : S4x1.Idx) : (cols x).toInt = ((x 0).val : ℤ) + 1 := by
  have h : ∀ x : S4x1.Idx, (cols x).toInt = ((x 0).val : ℤ) + 1 := by decide +kernel
  exact h x

abbrev dims := scatter_S4096x512x16_S4x1_S4096x512x4_01_2_2_1

/-- Update `k` lands at `p` exactly when `k` is in `p`'s row and its column is the one before `p`'s. -/
theorem lands (k : S4096x512x4.Idx) (p : S4096x512x16.Idx) :
    dims.resultIdx? k cols = some p ↔ (k 0).val = (p 0).val ∧ (k 1).val = (p 1).val ∧ (k 2).val + 1 = (p 2).val := by
  have w0 : dims.window k 0 = (k 0).val := by
    unfold ScatterDims.window; rw [dif_pos (by decide)]; rfl
  have w1 : dims.window k 1 = (k 1).val := by
    unfold ScatterDims.window; rw [dif_pos (by decide)]; rfl
  have w2 : dims.window k 2 = 0 := by
    unfold ScatterDims.window; rw [dif_neg (by decide)]
  have s0 : dims.start k cols 0 = 0 := by
    unfold ScatterDims.start; rw [dif_neg (by decide)]
  have s1 : dims.start k cols 1 = 0 := by
    unfold ScatterDims.start; rw [dif_neg (by decide)]
  have s2 : dims.start k cols 2 = ((k 2).val : ℤ) + 1 := by
    unfold ScatterDims.start; rw [dif_pos (by decide), cols_toInt]; rfl
  rw [resultIdx?_eq_some]
  constructor
  · intro h
    have h0 := h 0; have h1 := h 1; have h2 := h 2
    rw [w0, s0] at h0; rw [w1, s1] at h1; rw [w2, s2] at h2
    omega
  · intro h a
    match a with
    | 0 => rw [w0, s0]; omega
    | 1 => rw [w1, s1]; omega
    | 2 => rw [w2, s2]; omega

/-- The reference's scatter into zeros gives the rows of sixteen. -/
theorem scatter_eq (a : Vec F S4096x512x4 .f32) :
    Host.scatter dims (fun _ b => b) (broadcastInDim S4096x512x16 ![] bcast_S_S4096x512x16 (constant S_ .f32 0x00000000#32)) cols a = bladed a := by
  funext p
  unfold bladed
  by_cases h : 1 ≤ (p 2).val ∧ (p 2).val ≤ 4
  · rw [dif_pos h]
    refine scatter_set_hit dims _ cols a p _ (fun k hk => ?_) (ixA p ⟨(p 2).val - 1, by omega⟩) ((lands _ _).mpr ⟨rfl, rfl, ?_⟩)
    · have hk := (lands _ _).mp hk
      refine congrArg a (funext fun x => Fin.ext ?_)
      match x with
      | 0 => exact hk.1
      | 1 => exact hk.2.1
      | 2 => show (k 2).val = (p 2).val - 1; omega
    · show (p 2).val - 1 + 1 = (p 2).val; omega
  · rw [dif_neg h]
    refine scatter_set_miss dims _ cols a p fun k hk => h ?_
    have hk := (lands _ _).mp hk
    have h2 : (k 2).val < 4 := (k 2).isLt
    omega

end Cert.Proof.Reference

end
-- ==== Proof.lean ====
/-
  The certificate of the flat-blades kernel. The kernel's run (Proof/Main.lean, made from one tile's run in Proof/Tile.lean) is
  proved once for any float values; it gives the kernel's frame at both instances. Its result is read word by word in
  Proof/Result.lean, the reference's in Proof/Reference.lean; both are the rows of sixteen whose words 1 to 4 are the input's
  four and whose other words are zero.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Reference
public import Idealize.ShloMosaic.Adequacy
public import Idealize.ShloMosaic.Init
public import Idealize.ShloMosaic.Lib.Quiescent

@[expose] public section

noncomputable section

namespace Cert.Proof

open Idealize.ShloMosaic Idealize.SL.Sem

/-- The kernel as printed runs, leaves its input as it was and every semaphore at zero. -/
theorem frame_kernel : Cert.quiescent_Kernel := fun m ρ _ =>
  (θ_run Cert.KernelIdeal.defs _ _).mono (fun _ h => ⟨fun c => (h.1 c).1, h.2⟩) (Blades.run_main (F := Bits) m ρ)

/-- The idealized kernel runs, leaves its input as it was and every semaphore at zero. -/
theorem frame_kernelIdeal : Cert.quiescent_KernelIdeal := fun m ρ _ =>
  (θ_run Cert.KernelIdeal.defs _ _).mono (fun _ h => ⟨fun c => (h.1 c).1, h.2⟩) (Blades.run_main (F := Ideal) m ρ)

/-- The reference runs and leaves its input as it was; it has no semaphore. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From equal inputs the idealized kernel and the reference end with equal results, the inputs unchanged: the rows of sixteen
made of the input's rows of four. -/
theorem algebraic : Cert.algebraic_KernelIdeal_ReferenceIdeal := fun m ρ m' ρ' _ hagree =>
  ⟨fun c => Blades.bladed (m (Blades.aLoc c)),
    (θ_run Cert.KernelIdeal.defs _ _).mono (fun _ h c => ⟨(h.1 c).2.trans (Blades.result_eq m c), (h.1 c).1⟩)
      (Blades.run_main (F := Ideal) m ρ),
    (θ_run Cert.ReferenceIdeal.defs _ _).mono
      (fun _ h c => ⟨((h c).1.trans (Reference.scatter_eq _)).trans (congrArg (Blades.bladed (F := Ideal)) (hagree c)), (h c).2⟩)
      (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
